-- ==== Defs.lean ====
def Pre_DwGu (m : (ℓ : Loc Cert.DwGu.nD Cert.DwGu.τ Cert.DwGu.sig) → Buf (Elt Bits) ℓ) : Prop :=
  True

def Pre_DwGuIdeal (m : (ℓ : Loc Cert.DwGuIdeal.nD Cert.DwGuIdeal.τ Cert.DwGuIdeal.sig) → Buf (Elt Ideal) ℓ) : Prop :=
  True

def Pre_DwGuRefIdeal (m : (ℓ : Loc Cert.DwGuRefIdeal.nD Cert.DwGuRefIdeal.τ Cert.DwGuRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_exponents_normal [hPre_exponents_normal : Cert.Pre_exponents_normal.Facts] (m : (ℓ : Loc Cert.ActIdeal.nD Cert.ActIdeal.τ Cert.ActIdeal.sig) → Buf (Elt Ideal) ℓ) : Prop :=
  ∀ c : Dev Cert.ActIdeal.nD,
    (Cert.Pre_exponents_normal.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5)) (m ((c.tc : Thread Cert.ActIdeal.nD Cert.ActIdeal.τ).loc Cert.ActIdeal.main_arg6)) (m ((c.tc : Thread Cert.ActIdeal.nD Cert.ActIdeal.τ).loc Cert.ActIdeal.main_arg7)) (m ((c.tc : Thread Cert.ActIdeal.nD Cert.ActIdeal.τ).loc Cert.ActIdeal.main_arg8)) (m ((c.tc : Thread Cert.ActIdeal.nD Cert.ActIdeal.τ).loc Cert.ActIdeal.main_arg9)) (m ((c.tc : Thread Cert.ActIdeal.nD Cert.ActIdeal.τ).loc Cert.ActIdeal.main_arg10))).1 = (fun _ => 1#1)
    ∧ (Cert.Pre_exponents_normal.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5)) (m ((c.tc : Thread Cert.ActIdeal.nD Cert.ActIdeal.τ).loc Cert.ActIdeal.main_arg6)) (m ((c.tc : Thread Cert.ActIdeal.nD Cert.ActIdeal.τ).loc Cert.ActIdeal.main_arg7)) (m ((c.tc : Thread Cert.ActIdeal.nD Cert.ActIdeal.τ).loc Cert.ActIdeal.main_arg8)) (m ((c.tc : Thread Cert.ActIdeal.nD Cert.ActIdeal.τ).loc Cert.ActIdeal.main_arg9)) (m ((c.tc : Thread Cert.ActIdeal.nD Cert.ActIdeal.τ).loc Cert.ActIdeal.main_arg10))).2.1 = (fun _ => 1#1)
    ∧ (Cert.Pre_exponents_normal.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5)) (m ((c.tc : Thread Cert.ActIdeal.nD Cert.ActIdeal.τ).loc Cert.ActIdeal.main_arg6)) (m ((c.tc : Thread Cert.ActIdeal.nD Cert.ActIdeal.τ).loc Cert.ActIdeal.main_arg7)) (m ((c.tc : Thread Cert.ActIdeal.nD Cert.ActIdeal.τ).loc Cert.ActIdeal.main_arg8)) (m ((c.tc : Thread Cert.ActIdeal.nD Cert.ActIdeal.τ).loc Cert.ActIdeal.main_arg9)) (m ((c.tc : Thread Cert.ActIdeal.nD Cert.ActIdeal.τ).loc Cert.ActIdeal.main_arg10))).2.2.1 = (fun _ => 1#1)
    ∧ (Cert.Pre_exponents_normal.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4)) (m ((c.tc : Thread Cert.ActIdeal.nD Cert.ActIdeal.τ).loc Cert.ActIdeal.main_arg5)) (m ((c.tc : Thread Cert.ActIdeal.nD Cert.ActIdeal.τ).loc Cert.ActIdeal.main_arg6)) (m ((c.tc : Thread Cert.ActIdeal.nD Cert.ActIdeal.τ).loc Cert.ActIdeal.main_arg7)) (m ((c.tc : Thread Cert.ActIdeal.nD Cert.ActIdeal.τ).loc Cert.ActIdeal.main_arg8)) (m ((c.tc : Thread Cert.ActIdeal.nD Cert.ActIdeal.τ).loc Cert.ActIdeal.main_arg9)) (m ((c.tc : Thread Cert.ActIdeal.nD Cert.ActIdeal.τ).loc Cert.ActIdeal.main_arg10))).2.2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_exponents_normal [hPre_exponents_normal : Cert.Pre_exponents_normal.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_exponents_normal.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5)) (m ((c.tc : Thread Cert.ActRefIdeal.nD Cert.ActRefIdeal.τ).loc Cert.ActRefIdeal.main_arg6)) (m ((c.tc : Thread Cert.ActRefIdeal.nD Cert.ActRefIdeal.τ).loc Cert.ActRefIdeal.main_arg7)) (m ((c.tc : Thread Cert.ActRefIdeal.nD Cert.ActRefIdeal.τ).loc Cert.ActRefIdeal.main_arg8)) (m ((c.tc : Thread Cert.ActRefIdeal.nD Cert.ActRefIdeal.τ).loc Cert.ActRefIdeal.main_arg9)) (m ((c.tc : Thread Cert.ActRefIdeal.nD Cert.ActRefIdeal.τ).loc Cert.ActRefIdeal.main_arg10))).1 = (fun _ => 1#1)
    ∧ (Cert.Pre_exponents_normal.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5)) (m ((c.tc : Thread Cert.ActRefIdeal.nD Cert.ActRefIdeal.τ).loc Cert.ActRefIdeal.main_arg6)) (m ((c.tc : Thread Cert.ActRefIdeal.nD Cert.ActRefIdeal.τ).loc Cert.ActRefIdeal.main_arg7)) (m ((c.tc : Thread Cert.ActRefIdeal.nD Cert.ActRefIdeal.τ).loc Cert.ActRefIdeal.main_arg8)) (m ((c.tc : Thread Cert.ActRefIdeal.nD Cert.ActRefIdeal.τ).loc Cert.ActRefIdeal.main_arg9)) (m ((c.tc : Thread Cert.ActRefIdeal.nD Cert.ActRefIdeal.τ).loc Cert.ActRefIdeal.main_arg10))).2.1 = (fun _ => 1#1)
    ∧ (Cert.Pre_exponents_normal.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5)) (m ((c.tc : Thread Cert.ActRefIdeal.nD Cert.ActRefIdeal.τ).loc Cert.ActRefIdeal.main_arg6)) (m ((c.tc : Thread Cert.ActRefIdeal.nD Cert.ActRefIdeal.τ).loc Cert.ActRefIdeal.main_arg7)) (m ((c.tc : Thread Cert.ActRefIdeal.nD Cert.ActRefIdeal.τ).loc Cert.ActRefIdeal.main_arg8)) (m ((c.tc : Thread Cert.ActRefIdeal.nD Cert.ActRefIdeal.τ).loc Cert.ActRefIdeal.main_arg9)) (m ((c.tc : Thread Cert.ActRefIdeal.nD Cert.ActRefIdeal.τ).loc Cert.ActRefIdeal.main_arg10))).2.2.1 = (fun _ => 1#1)
    ∧ (Cert.Pre_exponents_normal.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4)) (m ((c.tc : Thread Cert.ActRefIdeal.nD Cert.ActRefIdeal.τ).loc Cert.ActRefIdeal.main_arg5)) (m ((c.tc : Thread Cert.ActRefIdeal.nD Cert.ActRefIdeal.τ).loc Cert.ActRefIdeal.main_arg6)) (m ((c.tc : Thread Cert.ActRefIdeal.nD Cert.ActRefIdeal.τ).loc Cert.ActRefIdeal.main_arg7)) (m ((c.tc : Thread Cert.ActRefIdeal.nD Cert.ActRefIdeal.τ).loc Cert.ActRefIdeal.main_arg8)) (m ((c.tc : Thread Cert.ActRefIdeal.nD Cert.ActRefIdeal.τ).loc Cert.ActRefIdeal.main_arg9)) (m ((c.tc : Thread Cert.ActRefIdeal.nD Cert.ActRefIdeal.τ).loc Cert.ActRefIdeal.main_arg10))).2.2.2 = (fun _ => 1#1)

def Pre_PrepGu (m : (ℓ : Loc Cert.PrepGu.nD Cert.PrepGu.τ Cert.PrepGu.sig) → Buf (Elt Bits) ℓ) : Prop :=
  True

def Pre_PrepGuIdeal (m : (ℓ : Loc Cert.PrepGuIdeal.nD Cert.PrepGuIdeal.τ Cert.PrepGuIdeal.sig) → Buf (Elt Ideal) ℓ) : Prop :=
  True

def Pre_PrepGuIdeal_gu_exponents_normal [hPre_gu_exponents_normal : Cert.Pre_gu_exponents_normal.Facts] (m : (ℓ : Loc Cert.PrepGuIdeal.nD Cert.PrepGuIdeal.τ Cert.PrepGuIdeal.sig) → Buf (Elt Ideal) ℓ) : Prop :=
  ∀ c : Dev Cert.PrepGuIdeal.nD,
    (Cert.Pre_gu_exponents_normal.fn (F := Ideal) (m ((c.tc : Thread Cert.PrepGuIdeal.nD Cert.PrepGuIdeal.τ).loc Cert.PrepGuIdeal.main_arg0)) (m ((c.tc : Thread Cert.PrepGuIdeal.nD Cert.PrepGuIdeal.τ).loc Cert.PrepGuIdeal.main_arg1)) (m ((c.tc : Thread Cert.PrepGuIdeal.nD Cert.PrepGuIdeal.τ).loc Cert.PrepGuIdeal.main_arg2)) (m ((c.tc : Thread Cert.PrepGuIdeal.nD Cert.PrepGuIdeal.τ).loc Cert.PrepGuIdeal.main_arg3))).1 = (fun _ => 1#1)
    ∧ (Cert.Pre_gu_exponents_normal.fn (F := Ideal) (m ((c.tc : Thread Cert.PrepGuIdeal.nD Cert.PrepGuIdeal.τ).loc Cert.PrepGuIdeal.main_arg0)) (m ((c.tc : Thread Cert.PrepGuIdeal.nD Cert.PrepGuIdeal.τ).loc Cert.PrepGuIdeal.main_arg1)) (m ((c.tc : Thread Cert.PrepGuIdeal.nD Cert.PrepGuIdeal.τ).loc Cert.PrepGuIdeal.main_arg2)) (m ((c.tc : Thread Cert.PrepGuIdeal.nD Cert.PrepGuIdeal.τ).loc Cert.PrepGuIdeal.main_arg3))).2 = (fun _ => 1#1)

def Pre_PrepGuRefIdeal (m : (ℓ : Loc Cert.PrepGuRefIdeal.nD Cert.PrepGuRefIdeal.τ Cert.PrepGuRefIdeal.sig) → Buf (Elt Ideal) ℓ) : Prop :=
  True

def Pre_PrepGuRefIdeal_gu_exponents_normal [hPre_gu_exponents_normal : Cert.Pre_gu_exponents_normal.Facts] (m : (ℓ : Loc Cert.PrepGuRefIdeal.nD Cert.PrepGuRefIdeal.τ Cert.PrepGuRefIdeal.sig) → Buf (Elt Ideal) ℓ) : Prop :=
  ∀ c : Dev Cert.PrepGuRefIdeal.nD,
    (Cert.Pre_gu_exponents_normal.fn (F := Ideal) (m ((c.tc : Thread Cert.PrepGuRefIdeal.nD Cert.PrepGuRefIdeal.τ).loc Cert.PrepGuRefIdeal.main_arg0)) (m ((c.tc : Thread Cert.PrepGuRefIdeal.nD Cert.PrepGuRefIdeal.τ).loc Cert.PrepGuRefIdeal.main_arg1)) (m ((c.tc : Thread Cert.PrepGuRefIdeal.nD Cert.PrepGuRefIdeal.τ).loc Cert.PrepGuRefIdeal.main_arg2)) (m ((c.tc : Thread Cert.PrepGuRefIdeal.nD Cert.PrepGuRefIdeal.τ).loc Cert.PrepGuRefIdeal.main_arg3))).1 = (fun _ => 1#1)
    ∧ (Cert.Pre_gu_exponents_normal.fn (F := Ideal) (m ((c.tc : Thread Cert.PrepGuRefIdeal.nD Cert.PrepGuRefIdeal.τ).loc Cert.PrepGuRefIdeal.main_arg0)) (m ((c.tc : Thread Cert.PrepGuRefIdeal.nD Cert.PrepGuRefIdeal.τ).loc Cert.PrepGuRefIdeal.main_arg1)) (m ((c.tc : Thread Cert.PrepGuRefIdeal.nD Cert.PrepGuRefIdeal.τ).loc Cert.PrepGuRefIdeal.main_arg2)) (m ((c.tc : Thread Cert.PrepGuRefIdeal.nD Cert.PrepGuRefIdeal.τ).loc Cert.PrepGuRefIdeal.main_arg3))).2 = (fun _ => 1#1)

def Pre_PrepD (m : (ℓ : Loc Cert.PrepD.nD Cert.PrepD.τ Cert.PrepD.sig) → Buf (Elt Bits) ℓ) : Prop :=
  True

def Pre_PrepDIdeal (m : (ℓ : Loc Cert.PrepDIdeal.nD Cert.PrepDIdeal.τ Cert.PrepDIdeal.sig) → Buf (Elt Ideal) ℓ) : Prop :=
  True

def Pre_PrepDIdeal_d_exponents_normal [hPre_d_exponents_normal : Cert.Pre_d_exponents_normal.Facts] (m : (ℓ : Loc Cert.PrepDIdeal.nD Cert.PrepDIdeal.τ Cert.PrepDIdeal.sig) → Buf (Elt Ideal) ℓ) : Prop :=
  ∀ c : Dev Cert.PrepDIdeal.nD,
    (Cert.Pre_d_exponents_normal.fn (F := Ideal) (m ((c.tc : Thread Cert.PrepDIdeal.nD Cert.PrepDIdeal.τ).loc Cert.PrepDIdeal.main_arg0)) (m ((c.tc : Thread Cert.PrepDIdeal.nD Cert.PrepDIdeal.τ).loc Cert.PrepDIdeal.main_arg1))) = (fun _ => 1#1)

def Pre_PrepDRefIdeal (m : (ℓ : Loc Cert.PrepDRefIdeal.nD Cert.PrepDRefIdeal.τ Cert.PrepDRefIdeal.sig) → Buf (Elt Ideal) ℓ) : Prop :=
  True

def Pre_PrepDRefIdeal_d_exponents_normal [hPre_d_exponents_normal : Cert.Pre_d_exponents_normal.Facts] (m : (ℓ : Loc Cert.PrepDRefIdeal.nD Cert.PrepDRefIdeal.τ Cert.PrepDRefIdeal.sig) → Buf (Elt Ideal) ℓ) : Prop :=
  ∀ c : Dev Cert.PrepDRefIdeal.nD,
    (Cert.Pre_d_exponents_normal.fn (F := Ideal) (m ((c.tc : Thread Cert.PrepDRefIdeal.nD Cert.PrepDRefIdeal.τ).loc Cert.PrepDRefIdeal.main_arg0)) (m ((c.tc : Thread Cert.PrepDRefIdeal.nD Cert.PrepDRefIdeal.τ).loc Cert.PrepDRefIdeal.main_arg1))) = (fun _ => 1#1)

def quiescent_DwGu [hDwGu : Cert.DwGu.Facts] : Prop :=
  ∀ (m : (ℓ : Loc Cert.DwGu.nD Cert.DwGu.τ Cert.DwGu.sig) → Buf (Elt Bits) ℓ) (g : Dev Cert.DwGu.nD → PrngReg), Pre_DwGu m →
    θ_run (Cert.DwGu.defs (F := Bits)) (onTc (τ := Cert.DwGu.τ) (Cert.DwGu.main (F := Bits))) ⟨m, fun _ => 0, g⟩ (fun r => (∀ c : Dev Cert.DwGu.nD,
      r.2.mem ((c.tc : Thread Cert.DwGu.nD Cert.DwGu.τ).loc Cert.DwGu.main_arg0) = m ((c.tc : Thread Cert.DwGu.nD Cert.DwGu.τ).loc Cert.DwGu.main_arg0)
      ∧ r.2.mem ((c.tc : Thread Cert.DwGu.nD Cert.DwGu.τ).loc Cert.DwGu.main_arg1) = m ((c.tc : Thread Cert.DwGu.nD Cert.DwGu.τ).loc Cert.DwGu.main_arg1))
      ∧ r.2.sem = fun _ => 0)

def quiescent_DwGuIdeal [hDwGuIdeal : Cert.DwGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ r.2.sem = fun _ => 0)

def quiescent_DwGuRefIdeal [hDwGuRefIdeal : Cert.DwGuRefIdeal.Facts] : Prop :=
  ∀ (m : (ℓ : Loc Cert.DwGuRefIdeal.nD Cert.DwGuRefIdeal.τ Cert.DwGuRefIdeal.sig) → Buf (Elt Ideal) ℓ) (g : Dev Cert.DwGuRefIdeal.nD → PrngReg), Pre_DwGuRefIdeal m →
    θ_run (Cert.DwGuRefIdeal.defs (F := Ideal)) (onTc (τ := Cert.DwGuRefIdeal.τ) (Cert.DwGuRefIdeal.main (F := Ideal))) ⟨m, fun _ => 0, g⟩ (fun r => (∀ c : Dev Cert.DwGuRefIdeal.nD,
      r.2.mem ((c.tc : Thread Cert.DwGuRefIdeal.nD Cert.DwGuRefIdeal.τ).loc Cert.DwGuRefIdeal.main_arg0) = m ((c.tc : Thread Cert.DwGuRefIdeal.nD Cert.DwGuRefIdeal.τ).loc Cert.DwGuRefIdeal.main_arg0)
      ∧ r.2.mem ((c.tc : Thread Cert.DwGuRefIdeal.nD Cert.DwGuRefIdeal.τ).loc Cert.DwGuRefIdeal.main_arg1) = m ((c.tc : Thread Cert.DwGuRefIdeal.nD Cert.DwGuRefIdeal.τ).loc Cert.DwGuRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4)
      ∧ r.2.mem ((c.tc : Thread Cert.Act.nD Cert.Act.τ).loc Cert.Act.main_arg5) = m ((c.tc : Thread Cert.Act.nD Cert.Act.τ).loc Cert.Act.main_arg5)
      ∧ r.2.mem ((c.tc : Thread Cert.Act.nD Cert.Act.τ).loc Cert.Act.main_arg6) = m ((c.tc : Thread Cert.Act.nD Cert.Act.τ).loc Cert.Act.main_arg6)
      ∧ r.2.mem ((c.tc : Thread Cert.Act.nD Cert.Act.τ).loc Cert.Act.main_arg7) = m ((c.tc : Thread Cert.Act.nD Cert.Act.τ).loc Cert.Act.main_arg7)
      ∧ r.2.mem ((c.tc : Thread Cert.Act.nD Cert.Act.τ).loc Cert.Act.main_arg8) = m ((c.tc : Thread Cert.Act.nD Cert.Act.τ).loc Cert.Act.main_arg8)
      ∧ r.2.mem ((c.tc : Thread Cert.Act.nD Cert.Act.τ).loc Cert.Act.main_arg9) = m ((c.tc : Thread Cert.Act.nD Cert.Act.τ).loc Cert.Act.main_arg9)
      ∧ r.2.mem ((c.tc : Thread Cert.Act.nD Cert.Act.τ).loc Cert.Act.main_arg10) = m ((c.tc : Thread Cert.Act.nD Cert.Act.τ).loc Cert.Act.main_arg10))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5)
      ∧ r.2.mem ((c.tc : Thread Cert.ActIdeal.nD Cert.ActIdeal.τ).loc Cert.ActIdeal.main_arg6) = m ((c.tc : Thread Cert.ActIdeal.nD Cert.ActIdeal.τ).loc Cert.ActIdeal.main_arg6)
      ∧ r.2.mem ((c.tc : Thread Cert.ActIdeal.nD Cert.ActIdeal.τ).loc Cert.ActIdeal.main_arg7) = m ((c.tc : Thread Cert.ActIdeal.nD Cert.ActIdeal.τ).loc Cert.ActIdeal.main_arg7)
      ∧ r.2.mem ((c.tc : Thread Cert.ActIdeal.nD Cert.ActIdeal.τ).loc Cert.ActIdeal.main_arg8) = m ((c.tc : Thread Cert.ActIdeal.nD Cert.ActIdeal.τ).loc Cert.ActIdeal.main_arg8)
      ∧ r.2.mem ((c.tc : Thread Cert.ActIdeal.nD Cert.ActIdeal.τ).loc Cert.ActIdeal.main_arg9) = m ((c.tc : Thread Cert.ActIdeal.nD Cert.ActIdeal.τ).loc Cert.ActIdeal.main_arg9)
      ∧ r.2.mem ((c.tc : Thread Cert.ActIdeal.nD Cert.ActIdeal.τ).loc Cert.ActIdeal.main_arg10) = m ((c.tc : Thread Cert.ActIdeal.nD Cert.ActIdeal.τ).loc Cert.ActIdeal.main_arg10))
      ∧ r.2.sem = fun _ => 0)

def quiescent_ActIdeal_pre_exponents_normal [hActIdeal : Cert.ActIdeal.Facts] [hPre_exponents_normal : Cert.Pre_exponents_normal.Facts] : Prop :=
  ∀ (m : (ℓ : Loc Cert.ActIdeal.nD Cert.ActIdeal.τ Cert.ActIdeal.sig) → Buf (Elt Ideal) ℓ) (g : Dev Cert.ActIdeal.nD → PrngReg), Pre_ActIdeal_exponents_normal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
      ∧ r.2.mem ((c.tc : Thread Cert.ActIdeal.nD Cert.ActIdeal.τ).loc Cert.ActIdeal.main_arg5) = m ((c.tc : Thread Cert.ActIdeal.nD Cert.ActIdeal.τ).loc Cert.ActIdeal.main_arg5)
      ∧ r.2.mem ((c.tc : Thread Cert.ActIdeal.nD Cert.ActIdeal.τ).loc Cert.ActIdeal.main_arg6) = m ((c.tc : Thread Cert.ActIdeal.nD Cert.ActIdeal.τ).loc Cert.ActIdeal.main_arg6)
      ∧ r.2.mem ((c.tc : Thread Cert.ActIdeal.nD Cert.ActIdeal.τ).loc Cert.ActIdeal.main_arg7) = m ((c.tc : Thread Cert.ActIdeal.nD Cert.ActIdeal.τ).loc Cert.ActIdeal.main_arg7)
      ∧ r.2.mem ((c.tc : Thread Cert.ActIdeal.nD Cert.ActIdeal.τ).loc Cert.ActIdeal.main_arg8) = m ((c.tc : Thread Cert.ActIdeal.nD Cert.ActIdeal.τ).loc Cert.ActIdeal.main_arg8)
      ∧ r.2.mem ((c.tc : Thread Cert.ActIdeal.nD Cert.ActIdeal.τ).loc Cert.ActIdeal.main_arg9) = m ((c.tc : Thread Cert.ActIdeal.nD Cert.ActIdeal.τ).loc Cert.ActIdeal.main_arg9)
      ∧ r.2.mem ((c.tc : Thread Cert.ActIdeal.nD Cert.ActIdeal.τ).loc Cert.ActIdeal.main_arg10) = m ((c.tc : Thread Cert.ActIdeal.nD Cert.ActIdeal.τ).loc Cert.ActIdeal.main_arg10))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4)
      ∧ r.2.mem ((c.tc : Thread Cert.ActRefIdeal.nD Cert.ActRefIdeal.τ).loc Cert.ActRefIdeal.main_arg5) = m ((c.tc : Thread Cert.ActRefIdeal.nD Cert.ActRefIdeal.τ).loc Cert.ActRefIdeal.main_arg5)
      ∧ r.2.mem ((c.tc : Thread Cert.ActRefIdeal.nD Cert.ActRefIdeal.τ).loc Cert.ActRefIdeal.main_arg6) = m ((c.tc : Thread Cert.ActRefIdeal.nD Cert.ActRefIdeal.τ).loc Cert.ActRefIdeal.main_arg6)
      ∧ r.2.mem ((c.tc : Thread Cert.ActRefIdeal.nD Cert.ActRefIdeal.τ).loc Cert.ActRefIdeal.main_arg7) = m ((c.tc : Thread Cert.ActRefIdeal.nD Cert.ActRefIdeal.τ).loc Cert.ActRefIdeal.main_arg7)
      ∧ r.2.mem ((c.tc : Thread Cert.ActRefIdeal.nD Cert.ActRefIdeal.τ).loc Cert.ActRefIdeal.main_arg8) = m ((c.tc : Thread Cert.ActRefIdeal.nD Cert.ActRefIdeal.τ).loc Cert.ActRefIdeal.main_arg8)
      ∧ r.2.mem ((c.tc : Thread Cert.ActRefIdeal.nD Cert.ActRefIdeal.τ).loc Cert.ActRefIdeal.main_arg9) = m ((c.tc : Thread Cert.ActRefIdeal.nD Cert.ActRefIdeal.τ).loc Cert.ActRefIdeal.main_arg9)
      ∧ r.2.mem ((c.tc : Thread Cert.ActRefIdeal.nD Cert.ActRefIdeal.τ).loc Cert.ActRefIdeal.main_arg10) = m ((c.tc : Thread Cert.ActRefIdeal.nD Cert.ActRefIdeal.τ).loc Cert.ActRefIdeal.main_arg10))
      ∧ r.2.sem = fun _ => 0)

def quiescent_ActRefIdeal_pre_exponents_normal [hActRefIdeal : Cert.ActRefIdeal.Facts] [hPre_exponents_normal : Cert.Pre_exponents_normal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_exponents_normal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4)
      ∧ r.2.mem ((c.tc : Thread Cert.ActRefIdeal.nD Cert.ActRefIdeal.τ).loc Cert.ActRefIdeal.main_arg5) = m ((c.tc : Thread Cert.ActRefIdeal.nD Cert.ActRefIdeal.τ).loc Cert.ActRefIdeal.main_arg5)
      ∧ r.2.mem ((c.tc : Thread Cert.ActRefIdeal.nD Cert.ActRefIdeal.τ).loc Cert.ActRefIdeal.main_arg6) = m ((c.tc : Thread Cert.ActRefIdeal.nD Cert.ActRefIdeal.τ).loc Cert.ActRefIdeal.main_arg6)
      ∧ r.2.mem ((c.tc : Thread Cert.ActRefIdeal.nD Cert.ActRefIdeal.τ).loc Cert.ActRefIdeal.main_arg7) = m ((c.tc : Thread Cert.ActRefIdeal.nD Cert.ActRefIdeal.τ).loc Cert.ActRefIdeal.main_arg7)
      ∧ r.2.mem ((c.tc : Thread Cert.ActRefIdeal.nD Cert.ActRefIdeal.τ).loc Cert.ActRefIdeal.main_arg8) = m ((c.tc : Thread Cert.ActRefIdeal.nD Cert.ActRefIdeal.τ).loc Cert.ActRefIdeal.main_arg8)
      ∧ r.2.mem ((c.tc : Thread Cert.ActRefIdeal.nD Cert.ActRefIdeal.τ).loc Cert.ActRefIdeal.main_arg9) = m ((c.tc : Thread Cert.ActRefIdeal.nD Cert.ActRefIdeal.τ).loc Cert.ActRefIdeal.main_arg9)
      ∧ r.2.mem ((c.tc : Thread Cert.ActRefIdeal.nD Cert.ActRefIdeal.τ).loc Cert.ActRefIdeal.main_arg10) = m ((c.tc : Thread Cert.ActRefIdeal.nD Cert.ActRefIdeal.τ).loc Cert.ActRefIdeal.main_arg10))
      ∧ r.2.sem = fun _ => 0)

def quiescent_PrepGu [hPrepGu : Cert.PrepGu.Facts] : Prop :=
  ∀ (m : (ℓ : Loc Cert.PrepGu.nD Cert.PrepGu.τ Cert.PrepGu.sig) → Buf (Elt Bits) ℓ) (g : Dev Cert.PrepGu.nD → PrngReg), Pre_PrepGu m →
    θ_run (Cert.PrepGu.defs (F := Bits)) (onTc (τ := Cert.PrepGu.τ) (Cert.PrepGu.main (F := Bits))) ⟨m, fun _ => 0, g⟩ (fun r => (∀ c : Dev Cert.PrepGu.nD,
      r.2.mem ((c.tc : Thread Cert.PrepGu.nD Cert.PrepGu.τ).loc Cert.PrepGu.main_arg0) = m ((c.tc : Thread Cert.PrepGu.nD Cert.PrepGu.τ).loc Cert.PrepGu.main_arg0)
      ∧ r.2.mem ((c.tc : Thread Cert.PrepGu.nD Cert.PrepGu.τ).loc Cert.PrepGu.main_arg1) = m ((c.tc : Thread Cert.PrepGu.nD Cert.PrepGu.τ).loc Cert.PrepGu.main_arg1)
      ∧ r.2.mem ((c.tc : Thread Cert.PrepGu.nD Cert.PrepGu.τ).loc Cert.PrepGu.main_arg2) = m ((c.tc : Thread Cert.PrepGu.nD Cert.PrepGu.τ).loc Cert.PrepGu.main_arg2)
      ∧ r.2.mem ((c.tc : Thread Cert.PrepGu.nD Cert.PrepGu.τ).loc Cert.PrepGu.main_arg3) = m ((c.tc : Thread Cert.PrepGu.nD Cert.PrepGu.τ).loc Cert.PrepGu.main_arg3))
      ∧ r.2.sem = fun _ => 0)

def quiescent_PrepGuIdeal [hPrepGuIdeal : Cert.PrepGuIdeal.Facts] : Prop :=
  ∀ (m : (ℓ : Loc Cert.PrepGuIdeal.nD Cert.PrepGuIdeal.τ Cert.PrepGuIdeal.sig) → Buf (Elt Ideal) ℓ) (g : Dev Cert.PrepGuIdeal.nD → PrngReg), Pre_PrepGuIdeal m →
    θ_run (Cert.PrepGuIdeal.defs (F := Ideal)) (onTc (τ := Cert.PrepGuIdeal.τ) (Cert.PrepGuIdeal.main (F := Ideal))) ⟨m, fun _ => 0, g⟩ (fun r => (∀ c : Dev Cert.PrepGuIdeal.nD,
      r.2.mem ((c.tc : Thread Cert.PrepGuIdeal.nD Cert.PrepGuIdeal.τ).loc Cert.PrepGuIdeal.main_arg0) = m ((c.tc : Thread Cert.PrepGuIdeal.nD Cert.PrepGuIdeal.τ).loc Cert.PrepGuIdeal.main_arg0)
      ∧ r.2.mem ((c.tc : Thread Cert.PrepGuIdeal.nD Cert.PrepGuIdeal.τ).loc Cert.PrepGuIdeal.main_arg1) = m ((c.tc : Thread Cert.PrepGuIdeal.nD Cert.PrepGuIdeal.τ).loc Cert.PrepGuIdeal.main_arg1)
      ∧ r.2.mem ((c.tc : Thread Cert.PrepGuIdeal.nD Cert.PrepGuIdeal.τ).loc Cert.PrepGuIdeal.main_arg2) = m ((c.tc : Thread Cert.PrepGuIdeal.nD Cert.PrepGuIdeal.τ).loc Cert.PrepGuIdeal.main_arg2)
      ∧ r.2.mem ((c.tc : Thread Cert.PrepGuIdeal.nD Cert.PrepGuIdeal.τ).loc Cert.PrepGuIdeal.main_arg3) = m ((c.tc : Thread Cert.PrepGuIdeal.nD Cert.PrepGuIdeal.τ).loc Cert.PrepGuIdeal.main_arg3))
      ∧ r.2.sem = fun _ => 0)

def quiescent_PrepGuIdeal_pre_gu_exponents_normal [hPrepGuIdeal : Cert.PrepGuIdeal.Facts] [hPre_gu_exponents_normal : Cert.Pre_gu_exponents_normal.Facts] : Prop :=
  ∀ (m : (ℓ : Loc Cert.PrepGuIdeal.nD Cert.PrepGuIdeal.τ Cert.PrepGuIdeal.sig) → Buf (Elt Ideal) ℓ) (g : Dev Cert.PrepGuIdeal.nD → PrngReg), Pre_PrepGuIdeal_gu_exponents_normal m →
    θ_run (Cert.PrepGuIdeal.defs (F := Ideal)) (onTc (τ := Cert.PrepGuIdeal.τ) (Cert.PrepGuIdeal.main (F := Ideal))) ⟨m, fun _ => 0, g⟩ (fun r => (∀ c : Dev Cert.PrepGuIdeal.nD,
      r.2.mem ((c.tc : Thread Cert.PrepGuIdeal.nD Cert.PrepGuIdeal.τ).loc Cert.PrepGuIdeal.main_arg0) = m ((c.tc : Thread Cert.PrepGuIdeal.nD Cert.PrepGuIdeal.τ).loc Cert.PrepGuIdeal.main_arg0)
      ∧ r.2.mem ((c.tc : Thread Cert.PrepGuIdeal.nD Cert.PrepGuIdeal.τ).loc Cert.PrepGuIdeal.main_arg1) = m ((c.tc : Thread Cert.PrepGuIdeal.nD Cert.PrepGuIdeal.τ).loc Cert.PrepGuIdeal.main_arg1)
      ∧ r.2.mem ((c.tc : Thread Cert.PrepGuIdeal.nD Cert.PrepGuIdeal.τ).loc Cert.PrepGuIdeal.main_arg2) = m ((c.tc : Thread Cert.PrepGuIdeal.nD Cert.PrepGuIdeal.τ).loc Cert.PrepGuIdeal.main_arg2)
      ∧ r.2.mem ((c.tc : Thread Cert.PrepGuIdeal.nD Cert.PrepGuIdeal.τ).loc Cert.PrepGuIdeal.main_arg3) = m ((c.tc : Thread Cert.PrepGuIdeal.nD Cert.PrepGuIdeal.τ).loc Cert.PrepGuIdeal.main_arg3))
      ∧ r.2.sem = fun _ => 0)

def quiescent_PrepGuRefIdeal [hPrepGuRefIdeal : Cert.PrepGuRefIdeal.Facts] : Prop :=
  ∀ (m : (ℓ : Loc Cert.PrepGuRefIdeal.nD Cert.PrepGuRefIdeal.τ Cert.PrepGuRefIdeal.sig) → Buf (Elt Ideal) ℓ) (g : Dev Cert.PrepGuRefIdeal.nD → PrngReg), Pre_PrepGuRefIdeal m →
    θ_run (Cert.PrepGuRefIdeal.defs (F := Ideal)) (onTc (τ := Cert.PrepGuRefIdeal.τ) (Cert.PrepGuRefIdeal.main (F := Ideal))) ⟨m, fun _ => 0, g⟩ (fun r => (∀ c : Dev Cert.PrepGuRefIdeal.nD,
      r.2.mem ((c.tc : Thread Cert.PrepGuRefIdeal.nD Cert.PrepGuRefIdeal.τ).loc Cert.PrepGuRefIdeal.main_arg0) = m ((c.tc : Thread Cert.PrepGuRefIdeal.nD Cert.PrepGuRefIdeal.τ).loc Cert.PrepGuRefIdeal.main_arg0)
      ∧ r.2.mem ((c.tc : Thread Cert.PrepGuRefIdeal.nD Cert.PrepGuRefIdeal.τ).loc Cert.PrepGuRefIdeal.main_arg1) = m ((c.tc : Thread Cert.PrepGuRefIdeal.nD Cert.PrepGuRefIdeal.τ).loc Cert.PrepGuRefIdeal.main_arg1)
      ∧ r.2.mem ((c.tc : Thread Cert.PrepGuRefIdeal.nD Cert.PrepGuRefIdeal.τ).loc Cert.PrepGuRefIdeal.main_arg2) = m ((c.tc : Thread Cert.PrepGuRefIdeal.nD Cert.PrepGuRefIdeal.τ).loc Cert.PrepGuRefIdeal.main_arg2)
      ∧ r.2.mem ((c.tc : Thread Cert.PrepGuRefIdeal.nD Cert.PrepGuRefIdeal.τ).loc Cert.PrepGuRefIdeal.main_arg3) = m ((c.tc : Thread Cert.PrepGuRefIdeal.nD Cert.PrepGuRefIdeal.τ).loc Cert.PrepGuRefIdeal.main_arg3))
      ∧ r.2.sem = fun _ => 0)

def quiescent_PrepGuRefIdeal_pre_gu_exponents_normal [hPrepGuRefIdeal : Cert.PrepGuRefIdeal.Facts] [hPre_gu_exponents_normal : Cert.Pre_gu_exponents_normal.Facts] : Prop :=
  ∀ (m : (ℓ : Loc Cert.PrepGuRefIdeal.nD Cert.PrepGuRefIdeal.τ Cert.PrepGuRefIdeal.sig) → Buf (Elt Ideal) ℓ) (g : Dev Cert.PrepGuRefIdeal.nD → PrngReg), Pre_PrepGuRefIdeal_gu_exponents_normal m →
    θ_run (Cert.PrepGuRefIdeal.defs (F := Ideal)) (onTc (τ := Cert.PrepGuRefIdeal.τ) (Cert.PrepGuRefIdeal.main (F := Ideal))) ⟨m, fun _ => 0, g⟩ (fun r => (∀ c : Dev Cert.PrepGuRefIdeal.nD,
      r.2.mem ((c.tc : Thread Cert.PrepGuRefIdeal.nD Cert.PrepGuRefIdeal.τ).loc Cert.PrepGuRefIdeal.main_arg0) = m ((c.tc : Thread Cert.PrepGuRefIdeal.nD Cert.PrepGuRefIdeal.τ).loc Cert.PrepGuRefIdeal.main_arg0)
      ∧ r.2.mem ((c.tc : Thread Cert.PrepGuRefIdeal.nD Cert.PrepGuRefIdeal.τ).loc Cert.PrepGuRefIdeal.main_arg1) = m ((c.tc : Thread Cert.PrepGuRefIdeal.nD Cert.PrepGuRefIdeal.τ).loc Cert.PrepGuRefIdeal.main_arg1)
      ∧ r.2.mem ((c.tc : Thread Cert.PrepGuRefIdeal.nD Cert.PrepGuRefIdeal.τ).loc Cert.PrepGuRefIdeal.main_arg2) = m ((c.tc : Thread Cert.PrepGuRefIdeal.nD Cert.PrepGuRefIdeal.τ).loc Cert.PrepGuRefIdeal.main_arg2)
      ∧ r.2.mem ((c.tc : Thread Cert.PrepGuRefIdeal.nD Cert.PrepGuRefIdeal.τ).loc Cert.PrepGuRefIdeal.main_arg3) = m ((c.tc : Thread Cert.PrepGuRefIdeal.nD Cert.PrepGuRefIdeal.τ).loc Cert.PrepGuRefIdeal.main_arg3))
      ∧ r.2.sem = fun _ => 0)

def quiescent_PrepD [hPrepD : Cert.PrepD.Facts] : Prop :=
  ∀ (m : (ℓ : Loc Cert.PrepD.nD Cert.PrepD.τ Cert.PrepD.sig) → Buf (Elt Bits) ℓ) (g : Dev Cert.PrepD.nD → PrngReg), Pre_PrepD m →
    θ_run (Cert.PrepD.defs (F := Bits)) (onTc (τ := Cert.PrepD.τ) (Cert.PrepD.main (F := Bits))) ⟨m, fun _ => 0, g⟩ (fun r => (∀ c : Dev Cert.PrepD.nD,
      r.2.mem ((c.tc : Thread Cert.PrepD.nD Cert.PrepD.τ).loc Cert.PrepD.main_arg0) = m ((c.tc : Thread Cert.PrepD.nD Cert.PrepD.τ).loc Cert.PrepD.main_arg0)
      ∧ r.2.mem ((c.tc : Thread Cert.PrepD.nD Cert.PrepD.τ).loc Cert.PrepD.main_arg1) = m ((c.tc : Thread Cert.PrepD.nD Cert.PrepD.τ).loc Cert.PrepD.main_arg1))
      ∧ r.2.sem = fun _ => 0)

def quiescent_PrepDIdeal [hPrepDIdeal : Cert.PrepDIdeal.Facts] : Prop :=
  ∀ (m : (ℓ : Loc Cert.PrepDIdeal.nD Cert.PrepDIdeal.τ Cert.PrepDIdeal.sig) → Buf (Elt Ideal) ℓ) (g : Dev Cert.PrepDIdeal.nD → PrngReg), Pre_PrepDIdeal m →
    θ_run (Cert.PrepDIdeal.defs (F := Ideal)) (onTc (τ := Cert.PrepDIdeal.τ) (Cert.PrepDIdeal.main (F := Ideal))) ⟨m, fun _ => 0, g⟩ (fun r => (∀ c : Dev Cert.PrepDIdeal.nD,
      r.2.mem ((c.tc : Thread Cert.PrepDIdeal.nD Cert.PrepDIdeal.τ).loc Cert.PrepDIdeal.main_arg0) = m ((c.tc : Thread Cert.PrepDIdeal.nD Cert.PrepDIdeal.τ).loc Cert.PrepDIdeal.main_arg0)
      ∧ r.2.mem ((c.tc : Thread Cert.PrepDIdeal.nD Cert.PrepDIdeal.τ).loc Cert.PrepDIdeal.main_arg1) = m ((c.tc : Thread Cert.PrepDIdeal.nD Cert.PrepDIdeal.τ).loc Cert.PrepDIdeal.main_arg1))
      ∧ r.2.sem = fun _ => 0)

def quiescent_PrepDIdeal_pre_d_exponents_normal [hPrepDIdeal : Cert.PrepDIdeal.Facts] [hPre_d_exponents_normal : Cert.Pre_d_exponents_normal.Facts] : Prop :=
  ∀ (m : (ℓ : Loc Cert.PrepDIdeal.nD Cert.PrepDIdeal.τ Cert.PrepDIdeal.sig) → Buf (Elt Ideal) ℓ) (g : Dev Cert.PrepDIdeal.nD → PrngReg), Pre_PrepDIdeal_d_exponents_normal m →
    θ_run (Cert.PrepDIdeal.defs (F := Ideal)) (onTc (τ := Cert.PrepDIdeal.τ) (Cert.PrepDIdeal.main (F := Ideal))) ⟨m, fun _ => 0, g⟩ (fun r => (∀ c : Dev Cert.PrepDIdeal.nD,
      r.2.mem ((c.tc : Thread Cert.PrepDIdeal.nD Cert.PrepDIdeal.τ).loc Cert.PrepDIdeal.main_arg0) = m ((c.tc : Thread Cert.PrepDIdeal.nD Cert.PrepDIdeal.τ).loc Cert.PrepDIdeal.main_arg0)
      ∧ r.2.mem ((c.tc : Thread Cert.PrepDIdeal.nD Cert.PrepDIdeal.τ).loc Cert.PrepDIdeal.main_arg1) = m ((c.tc : Thread Cert.PrepDIdeal.nD Cert.PrepDIdeal.τ).loc Cert.PrepDIdeal.main_arg1))
      ∧ r.2.sem = fun _ => 0)

def quiescent_PrepDRefIdeal [hPrepDRefIdeal : Cert.PrepDRefIdeal.Facts] : Prop :=
  ∀ (m : (ℓ : Loc Cert.PrepDRefIdeal.nD Cert.PrepDRefIdeal.τ Cert.PrepDRefIdeal.sig) → Buf (Elt Ideal) ℓ) (g : Dev Cert.PrepDRefIdeal.nD → PrngReg), Pre_PrepDRefIdeal m →
    θ_run (Cert.PrepDRefIdeal.defs (F := Ideal)) (onTc (τ := Cert.PrepDRefIdeal.τ) (Cert.PrepDRefIdeal.main (F := Ideal))) ⟨m, fun _ => 0, g⟩ (fun r => (∀ c : Dev Cert.PrepDRefIdeal.nD,
      r.2.mem ((c.tc : Thread Cert.PrepDRefIdeal.nD Cert.PrepDRefIdeal.τ).loc Cert.PrepDRefIdeal.main_arg0) = m ((c.tc : Thread Cert.PrepDRefIdeal.nD Cert.PrepDRefIdeal.τ).loc Cert.PrepDRefIdeal.main_arg0)
      ∧ r.2.mem ((c.tc : Thread Cert.PrepDRefIdeal.nD Cert.PrepDRefIdeal.τ).loc Cert.PrepDRefIdeal.main_arg1) = m ((c.tc : Thread Cert.PrepDRefIdeal.nD Cert.PrepDRefIdeal.τ).loc Cert.PrepDRefIdeal.main_arg1))
      ∧ r.2.sem = fun _ => 0)

def quiescent_PrepDRefIdeal_pre_d_exponents_normal [hPrepDRefIdeal : Cert.PrepDRefIdeal.Facts] [hPre_d_exponents_normal : Cert.Pre_d_exponents_normal.Facts] : Prop :=
  ∀ (m : (ℓ : Loc Cert.PrepDRefIdeal.nD Cert.PrepDRefIdeal.τ Cert.PrepDRefIdeal.sig) → Buf (Elt Ideal) ℓ) (g : Dev Cert.PrepDRefIdeal.nD → PrngReg), Pre_PrepDRefIdeal_d_exponents_normal m →
    θ_run (Cert.PrepDRefIdeal.defs (F := Ideal)) (onTc (τ := Cert.PrepDRefIdeal.τ) (Cert.PrepDRefIdeal.main (F := Ideal))) ⟨m, fun _ => 0, g⟩ (fun r => (∀ c : Dev Cert.PrepDRefIdeal.nD,
      r.2.mem ((c.tc : Thread Cert.PrepDRefIdeal.nD Cert.PrepDRefIdeal.τ).loc Cert.PrepDRefIdeal.main_arg0) = m ((c.tc : Thread Cert.PrepDRefIdeal.nD Cert.PrepDRefIdeal.τ).loc Cert.PrepDRefIdeal.main_arg0)
      ∧ r.2.mem ((c.tc : Thread Cert.PrepDRefIdeal.nD Cert.PrepDRefIdeal.τ).loc Cert.PrepDRefIdeal.main_arg1) = m ((c.tc : Thread Cert.PrepDRefIdeal.nD Cert.PrepDRefIdeal.τ).loc Cert.PrepDRefIdeal.main_arg1))
      ∧ r.2.sem = fun _ => 0)

def preserves_DwGu_DwGuIdeal : Prop :=
  True

def algebraic_DwGuIdeal_DwGuRefIdeal [hDwGuIdeal : Cert.DwGuIdeal.Facts] [hDwGuRefIdeal : Cert.DwGuRefIdeal.Facts] : Prop :=
  ∀ (m : (ℓ : Loc Cert.DwGuIdeal.nD Cert.DwGuIdeal.τ Cert.DwGuIdeal.sig) → Buf (Elt Ideal) ℓ) (g : Dev Cert.DwGuIdeal.nD → PrngReg)
    (m' : (ℓ : Loc Cert.DwGuRefIdeal.nD Cert.DwGuRefIdeal.τ Cert.DwGuRefIdeal.sig) → Buf (Elt Ideal) ℓ) (g' : Dev Cert.DwGuRefIdeal.nD → PrngReg), Pre_DwGuIdeal m →
    (∀ c : Dev Cert.DwGuIdeal.nD,
      m' ((c.tc : Thread Cert.DwGuRefIdeal.nD Cert.DwGuRefIdeal.τ).loc Cert.DwGuRefIdeal.main_arg0) = m ((c.tc : Thread Cert.DwGuIdeal.nD Cert.DwGuIdeal.τ).loc Cert.DwGuIdeal.main_arg0)
      ∧ m' ((c.tc : Thread Cert.DwGuRefIdeal.nD Cert.DwGuRefIdeal.τ).loc Cert.DwGuRefIdeal.main_arg1) = m ((c.tc : Thread Cert.DwGuIdeal.nD Cert.DwGuIdeal.τ).loc Cert.DwGuIdeal.main_arg1)) →
    ∃ (v0 : (c : Dev Cert.DwGuIdeal.nD) → Buf (Elt Ideal) ((c.tc : Thread Cert.DwGuIdeal.nD Cert.DwGuIdeal.τ).loc Cert.DwGuIdeal.main_v0)),
      θ_run (Cert.DwGuIdeal.defs (F := Ideal)) (onTc (τ := Cert.DwGuIdeal.τ) (Cert.DwGuIdeal.main (F := Ideal))) ⟨m, fun _ => 0, g⟩ (fun r => ∀ c : Dev Cert.DwGuIdeal.nD,
          r.2.mem ((c.tc : Thread Cert.DwGuIdeal.nD Cert.DwGuIdeal.τ).loc Cert.DwGuIdeal.main_v0) = v0 c
          ∧ r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
          ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ θ_run (Cert.DwGuRefIdeal.defs (F := Ideal)) (onTc (τ := Cert.DwGuRefIdeal.τ) (Cert.DwGuRefIdeal.main (F := Ideal))) ⟨m', fun _ => 0, g'⟩ (fun r => ∀ c : Dev Cert.DwGuRefIdeal.nD,
          r.2.mem ((c.tc : Thread Cert.DwGuRefIdeal.nD Cert.DwGuRefIdeal.τ).loc Cert.DwGuRefIdeal.main_v0) = v0 c
          ∧ r.2.mem ((c.tc : Thread Cert.DwGuRefIdeal.nD Cert.DwGuRefIdeal.τ).loc Cert.DwGuRefIdeal.main_arg0) = m' ((c.tc : Thread Cert.DwGuRefIdeal.nD Cert.DwGuRefIdeal.τ).loc Cert.DwGuRefIdeal.main_arg0)
          ∧ r.2.mem ((c.tc : Thread Cert.DwGuRefIdeal.nD Cert.DwGuRefIdeal.τ).loc Cert.DwGuRefIdeal.main_arg1) = m' ((c.tc : Thread Cert.DwGuRefIdeal.nD Cert.DwGuRefIdeal.τ).loc Cert.DwGuRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v2) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Act_ActIdeal : Prop :=
  True

def algebraic_ActIdeal_ActRefIdeal_pre_exponents_normal [hActIdeal : Cert.ActIdeal.Facts] [hActRefIdeal : Cert.ActRefIdeal.Facts] [hPre_exponents_normal : Cert.Pre_exponents_normal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_exponents_normal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)
      ∧ m' ((c.tc : Thread Cert.ActRefIdeal.nD Cert.ActRefIdeal.τ).loc Cert.ActRefIdeal.main_arg5) = m ((c.tc : Thread Cert.ActIdeal.nD Cert.ActIdeal.τ).loc Cert.ActIdeal.main_arg5)
      ∧ m' ((c.tc : Thread Cert.ActRefIdeal.nD Cert.ActRefIdeal.τ).loc Cert.ActRefIdeal.main_arg6) = m ((c.tc : Thread Cert.ActIdeal.nD Cert.ActIdeal.τ).loc Cert.ActIdeal.main_arg6)
      ∧ m' ((c.tc : Thread Cert.ActRefIdeal.nD Cert.ActRefIdeal.τ).loc Cert.ActRefIdeal.main_arg7) = m ((c.tc : Thread Cert.ActIdeal.nD Cert.ActIdeal.τ).loc Cert.ActIdeal.main_arg7)
      ∧ m' ((c.tc : Thread Cert.ActRefIdeal.nD Cert.ActRefIdeal.τ).loc Cert.ActRefIdeal.main_arg8) = m ((c.tc : Thread Cert.ActIdeal.nD Cert.ActIdeal.τ).loc Cert.ActIdeal.main_arg8)
      ∧ m' ((c.tc : Thread Cert.ActRefIdeal.nD Cert.ActRefIdeal.τ).loc Cert.ActRefIdeal.main_arg9) = m ((c.tc : Thread Cert.ActIdeal.nD Cert.ActIdeal.τ).loc Cert.ActIdeal.main_arg9)
      ∧ m' ((c.tc : Thread Cert.ActRefIdeal.nD Cert.ActRefIdeal.τ).loc Cert.ActRefIdeal.main_arg10) = m ((c.tc : Thread Cert.ActIdeal.nD Cert.ActIdeal.τ).loc Cert.ActIdeal.main_arg10)) →
    ∃ (v0 : (c : Dev Cert.ActIdeal.nD) → Buf (Elt Ideal) ((c.tc : Thread Cert.ActIdeal.nD Cert.ActIdeal.τ).loc Cert.ActIdeal.main_v9_0)) (v1 : (c : Dev Cert.ActIdeal.nD) → Buf (Elt Ideal) ((c.tc : Thread Cert.ActIdeal.nD Cert.ActIdeal.τ).loc Cert.ActIdeal.main_v9_1)) (v2 : (c : Dev Cert.ActIdeal.nD) → Buf (Elt Ideal) ((c.tc : Thread Cert.ActIdeal.nD Cert.ActIdeal.τ).loc Cert.ActIdeal.main_v9_2)) (v3 : (c : Dev Cert.ActIdeal.nD) → Buf (Elt Ideal) ((c.tc : Thread Cert.ActIdeal.nD Cert.ActIdeal.τ).loc Cert.ActIdeal.main_v9_3)) (v4 : (c : Dev Cert.ActIdeal.nD) → Buf (Elt Ideal) ((c.tc : Thread Cert.ActIdeal.nD Cert.ActIdeal.τ).loc Cert.ActIdeal.main_v9_4)) (v5 : (c : Dev Cert.ActIdeal.nD) → Buf (Elt Ideal) ((c.tc : Thread Cert.ActIdeal.nD Cert.ActIdeal.τ).loc Cert.ActIdeal.main_v9_5)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v9_0) = v0 c
          ∧ r.2.mem ((c.tc : Thread Cert.ActIdeal.nD Cert.ActIdeal.τ).loc Cert.ActIdeal.main_v9_1) = v1 c
          ∧ r.2.mem ((c.tc : Thread Cert.ActIdeal.nD Cert.ActIdeal.τ).loc Cert.ActIdeal.main_v9_2) = v2 c
          ∧ r.2.mem ((c.tc : Thread Cert.ActIdeal.nD Cert.ActIdeal.τ).loc Cert.ActIdeal.main_v9_3) = v3 c
          ∧ r.2.mem ((c.tc : Thread Cert.ActIdeal.nD Cert.ActIdeal.τ).loc Cert.ActIdeal.main_v9_4) = v4 c
          ∧ r.2.mem ((c.tc : Thread Cert.ActIdeal.nD Cert.ActIdeal.τ).loc Cert.ActIdeal.main_v9_5) = v5 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4)
          ∧ r.2.mem ((c.tc : Thread Cert.ActIdeal.nD Cert.ActIdeal.τ).loc Cert.ActIdeal.main_arg5) = m ((c.tc : Thread Cert.ActIdeal.nD Cert.ActIdeal.τ).loc Cert.ActIdeal.main_arg5)
          ∧ r.2.mem ((c.tc : Thread Cert.ActIdeal.nD Cert.ActIdeal.τ).loc Cert.ActIdeal.main_arg6) = m ((c.tc : Thread Cert.ActIdeal.nD Cert.ActIdeal.τ).loc Cert.ActIdeal.main_arg6)
          ∧ r.2.mem ((c.tc : Thread Cert.ActIdeal.nD Cert.ActIdeal.τ).loc Cert.ActIdeal.main_arg7) = m ((c.tc : Thread Cert.ActIdeal.nD Cert.ActIdeal.τ).loc Cert.ActIdeal.main_arg7)
          ∧ r.2.mem ((c.tc : Thread Cert.ActIdeal.nD Cert.ActIdeal.τ).loc Cert.ActIdeal.main_arg8) = m ((c.tc : Thread Cert.ActIdeal.nD Cert.ActIdeal.τ).loc Cert.ActIdeal.main_arg8)
          ∧ r.2.mem ((c.tc : Thread Cert.ActIdeal.nD Cert.ActIdeal.τ).loc Cert.ActIdeal.main_arg9) = m ((c.tc : Thread Cert.ActIdeal.nD Cert.ActIdeal.τ).loc Cert.ActIdeal.main_arg9)
          ∧ r.2.mem ((c.tc : Thread Cert.ActIdeal.nD Cert.ActIdeal.τ).loc Cert.ActIdeal.main_arg10) = m ((c.tc : Thread Cert.ActIdeal.nD Cert.ActIdeal.τ).loc Cert.ActIdeal.main_arg10))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v48) = v0 c
          ∧ r.2.mem ((c.tc : Thread Cert.ActRefIdeal.nD Cert.ActRefIdeal.τ).loc Cert.ActRefIdeal.main_v33) = v1 c
          ∧ r.2.mem ((c.tc : Thread Cert.ActRefIdeal.nD Cert.ActRefIdeal.τ).loc Cert.ActRefIdeal.main_v43) = v2 c
          ∧ r.2.mem ((c.tc : Thread Cert.ActRefIdeal.nD Cert.ActRefIdeal.τ).loc Cert.ActRefIdeal.main_v45) = v3 c
          ∧ r.2.mem ((c.tc : Thread Cert.ActRefIdeal.nD Cert.ActRefIdeal.τ).loc Cert.ActRefIdeal.main_v49) = v4 c
          ∧ r.2.mem ((c.tc : Thread Cert.ActRefIdeal.nD Cert.ActRefIdeal.τ).loc Cert.ActRefIdeal.main_v50) = v5 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4)
          ∧ r.2.mem ((c.tc : Thread Cert.ActRefIdeal.nD Cert.ActRefIdeal.τ).loc Cert.ActRefIdeal.main_arg5) = m' ((c.tc : Thread Cert.ActRefIdeal.nD Cert.ActRefIdeal.τ).loc Cert.ActRefIdeal.main_arg5)
          ∧ r.2.mem ((c.tc : Thread Cert.ActRefIdeal.nD Cert.ActRefIdeal.τ).loc Cert.ActRefIdeal.main_arg6) = m' ((c.tc : Thread Cert.ActRefIdeal.nD Cert.ActRefIdeal.τ).loc Cert.ActRefIdeal.main_arg6)
          ∧ r.2.mem ((c.tc : Thread Cert.ActRefIdeal.nD Cert.ActRefIdeal.τ).loc Cert.ActRefIdeal.main_arg7) = m' ((c.tc : Thread Cert.ActRefIdeal.nD Cert.ActRefIdeal.τ).loc Cert.ActRefIdeal.main_arg7)
          ∧ r.2.mem ((c.tc : Thread Cert.ActRefIdeal.nD Cert.ActRefIdeal.τ).loc Cert.ActRefIdeal.main_arg8) = m' ((c.tc : Thread Cert.ActRefIdeal.nD Cert.ActRefIdeal.τ).loc Cert.ActRefIdeal.main_arg8)
          ∧ r.2.mem ((c.tc : Thread Cert.ActRefIdeal.nD Cert.ActRefIdeal.τ).loc Cert.ActRefIdeal.main_arg9) = m' ((c.tc : Thread Cert.ActRefIdeal.nD Cert.ActRefIdeal.τ).loc Cert.ActRefIdeal.main_arg9)
          ∧ r.2.mem ((c.tc : Thread Cert.ActRefIdeal.nD Cert.ActRefIdeal.τ).loc Cert.ActRefIdeal.main_arg10) = m' ((c.tc : Thread Cert.ActRefIdeal.nD Cert.ActRefIdeal.τ).loc Cert.ActRefIdeal.main_arg10))

def preserves_PrepGu_PrepGuIdeal : Prop :=
  True

def algebraic_PrepGuIdeal_PrepGuRefIdeal_pre_gu_exponents_normal [hPrepGuIdeal : Cert.PrepGuIdeal.Facts] [hPrepGuRefIdeal : Cert.PrepGuRefIdeal.Facts] [hPre_gu_exponents_normal : Cert.Pre_gu_exponents_normal.Facts] : Prop :=
  ∀ (m : (ℓ : Loc Cert.PrepGuIdeal.nD Cert.PrepGuIdeal.τ Cert.PrepGuIdeal.sig) → Buf (Elt Ideal) ℓ) (g : Dev Cert.PrepGuIdeal.nD → PrngReg)
    (m' : (ℓ : Loc Cert.PrepGuRefIdeal.nD Cert.PrepGuRefIdeal.τ Cert.PrepGuRefIdeal.sig) → Buf (Elt Ideal) ℓ) (g' : Dev Cert.PrepGuRefIdeal.nD → PrngReg), Pre_PrepGuIdeal_gu_exponents_normal m →
    (∀ c : Dev Cert.PrepGuIdeal.nD,
      m' ((c.tc : Thread Cert.PrepGuRefIdeal.nD Cert.PrepGuRefIdeal.τ).loc Cert.PrepGuRefIdeal.main_arg0) = m ((c.tc : Thread Cert.PrepGuIdeal.nD Cert.PrepGuIdeal.τ).loc Cert.PrepGuIdeal.main_arg0)
      ∧ m' ((c.tc : Thread Cert.PrepGuRefIdeal.nD Cert.PrepGuRefIdeal.τ).loc Cert.PrepGuRefIdeal.main_arg1) = m ((c.tc : Thread Cert.PrepGuIdeal.nD Cert.PrepGuIdeal.τ).loc Cert.PrepGuIdeal.main_arg1)
      ∧ m' ((c.tc : Thread Cert.PrepGuRefIdeal.nD Cert.PrepGuRefIdeal.τ).loc Cert.PrepGuRefIdeal.main_arg2) = m ((c.tc : Thread Cert.PrepGuIdeal.nD Cert.PrepGuIdeal.τ).loc Cert.PrepGuIdeal.main_arg2)
      ∧ m' ((c.tc : Thread Cert.PrepGuRefIdeal.nD Cert.PrepGuRefIdeal.τ).loc Cert.PrepGuRefIdeal.main_arg3) = m ((c.tc : Thread Cert.PrepGuIdeal.nD Cert.PrepGuIdeal.τ).loc Cert.PrepGuIdeal.main_arg3)) →
    ∃ (v0 : (c : Dev Cert.PrepGuIdeal.nD) → Buf (Elt Ideal) ((c.tc : Thread Cert.PrepGuIdeal.nD Cert.PrepGuIdeal.τ).loc Cert.PrepGuIdeal.main_v4_0)) (v1 : (c : Dev Cert.PrepGuIdeal.nD) → Buf (Elt Ideal) ((c.tc : Thread Cert.PrepGuIdeal.nD Cert.PrepGuIdeal.τ).loc Cert.PrepGuIdeal.main_v4_1)),
      θ_run (Cert.PrepGuIdeal.defs (F := Ideal)) (onTc (τ := Cert.PrepGuIdeal.τ) (Cert.PrepGuIdeal.main (F := Ideal))) ⟨m, fun _ => 0, g⟩ (fun r => ∀ c : Dev Cert.PrepGuIdeal.nD,
          r.2.mem ((c.tc : Thread Cert.PrepGuIdeal.nD Cert.PrepGuIdeal.τ).loc Cert.PrepGuIdeal.main_v4_0) = v0 c
          ∧ r.2.mem ((c.tc : Thread Cert.PrepGuIdeal.nD Cert.PrepGuIdeal.τ).loc Cert.PrepGuIdeal.main_v4_1) = v1 c
          ∧ r.2.mem ((c.tc : Thread Cert.PrepGuIdeal.nD Cert.PrepGuIdeal.τ).loc Cert.PrepGuIdeal.main_arg0) = m ((c.tc : Thread Cert.PrepGuIdeal.nD Cert.PrepGuIdeal.τ).loc Cert.PrepGuIdeal.main_arg0)
          ∧ r.2.mem ((c.tc : Thread Cert.PrepGuIdeal.nD Cert.PrepGuIdeal.τ).loc Cert.PrepGuIdeal.main_arg1) = m ((c.tc : Thread Cert.PrepGuIdeal.nD Cert.PrepGuIdeal.τ).loc Cert.PrepGuIdeal.main_arg1)
          ∧ r.2.mem ((c.tc : Thread Cert.PrepGuIdeal.nD Cert.PrepGuIdeal.τ).loc Cert.PrepGuIdeal.main_arg2) = m ((c.tc : Thread Cert.PrepGuIdeal.nD Cert.PrepGuIdeal.τ).loc Cert.PrepGuIdeal.main_arg2)
          ∧ r.2.mem ((c.tc : Thread Cert.PrepGuIdeal.nD Cert.PrepGuIdeal.τ).loc Cert.PrepGuIdeal.main_arg3) = m ((c.tc : Thread Cert.PrepGuIdeal.nD Cert.PrepGuIdeal.τ).loc Cert.PrepGuIdeal.main_arg3))
      ∧ θ_run (Cert.PrepGuRefIdeal.defs (F := Ideal)) (onTc (τ := Cert.PrepGuRefIdeal.τ) (Cert.PrepGuRefIdeal.main (F := Ideal))) ⟨m', fun _ => 0, g'⟩ (fun r => ∀ c : Dev Cert.PrepGuRefIdeal.nD,
          r.2.mem ((c.tc : Thread Cert.PrepGuRefIdeal.nD Cert.PrepGuRefIdeal.τ).loc Cert.PrepGuRefIdeal.main_v5) = v0 c
          ∧ r.2.mem ((c.tc : Thread Cert.PrepGuRefIdeal.nD Cert.PrepGuRefIdeal.τ).loc Cert.PrepGuRefIdeal.main_v11) = v1 c
          ∧ r.2.mem ((c.tc : Thread Cert.PrepGuRefIdeal.nD Cert.PrepGuRefIdeal.τ).loc Cert.PrepGuRefIdeal.main_arg0) = m' ((c.tc : Thread Cert.PrepGuRefIdeal.nD Cert.PrepGuRefIdeal.τ).loc Cert.PrepGuRefIdeal.main_arg0)
          ∧ r.2.mem ((c.tc : Thread Cert.PrepGuRefIdeal.nD Cert.PrepGuRefIdeal.τ).loc Cert.PrepGuRefIdeal.main_arg1) = m' ((c.tc : Thread Cert.PrepGuRefIdeal.nD Cert.PrepGuRefIdeal.τ).loc Cert.PrepGuRefIdeal.main_arg1)
          ∧ r.2.mem ((c.tc : Thread Cert.PrepGuRefIdeal.nD Cert.PrepGuRefIdeal.τ).loc Cert.PrepGuRefIdeal.main_arg2) = m' ((c.tc : Thread Cert.PrepGuRefIdeal.nD Cert.PrepGuRefIdeal.τ).loc Cert.PrepGuRefIdeal.main_arg2)
          ∧ r.2.mem ((c.tc : Thread Cert.PrepGuRefIdeal.nD Cert.PrepGuRefIdeal.τ).loc Cert.PrepGuRefIdeal.main_arg3) = m' ((c.tc : Thread Cert.PrepGuRefIdeal.nD Cert.PrepGuRefIdeal.τ).loc Cert.PrepGuRefIdeal.main_arg3))

def preserves_PrepD_PrepDIdeal : Prop :=
  True

def algebraic_PrepDIdeal_PrepDRefIdeal_pre_d_exponents_normal [hPrepDIdeal : Cert.PrepDIdeal.Facts] [hPrepDRefIdeal : Cert.PrepDRefIdeal.Facts] [hPre_d_exponents_normal : Cert.Pre_d_exponents_normal.Facts] : Prop :=
  ∀ (m : (ℓ : Loc Cert.PrepDIdeal.nD Cert.PrepDIdeal.τ Cert.PrepDIdeal.sig) → Buf (Elt Ideal) ℓ) (g : Dev Cert.PrepDIdeal.nD → PrngReg)
    (m' : (ℓ : Loc Cert.PrepDRefIdeal.nD Cert.PrepDRefIdeal.τ Cert.PrepDRefIdeal.sig) → Buf (Elt Ideal) ℓ) (g' : Dev Cert.PrepDRefIdeal.nD → PrngReg), Pre_PrepDIdeal_d_exponents_normal m →
    (∀ c : Dev Cert.PrepDIdeal.nD,
      m' ((c.tc : Thread Cert.PrepDRefIdeal.nD Cert.PrepDRefIdeal.τ).loc Cert.PrepDRefIdeal.main_arg0) = m ((c.tc : Thread Cert.PrepDIdeal.nD Cert.PrepDIdeal.τ).loc Cert.PrepDIdeal.main_arg0)
      ∧ m' ((c.tc : Thread Cert.PrepDRefIdeal.nD Cert.PrepDRefIdeal.τ).loc Cert.PrepDRefIdeal.main_arg1) = m ((c.tc : Thread Cert.PrepDIdeal.nD Cert.PrepDIdeal.τ).loc Cert.PrepDIdeal.main_arg1)) →
    ∃ (v0 : (c : Dev Cert.PrepDIdeal.nD) → Buf (Elt Ideal) ((c.tc : Thread Cert.PrepDIdeal.nD Cert.PrepDIdeal.τ).loc Cert.PrepDIdeal.main_v1)),
      θ_run (Cert.PrepDIdeal.defs (F := Ideal)) (onTc (τ := Cert.PrepDIdeal.τ) (Cert.PrepDIdeal.main (F := Ideal))) ⟨m, fun _ => 0, g⟩ (fun r => ∀ c : Dev Cert.PrepDIdeal.nD,
          r.2.mem ((c.tc : Thread Cert.PrepDIdeal.nD Cert.PrepDIdeal.τ).loc Cert.PrepDIdeal.main_v1) = v0 c
          ∧ r.2.mem ((c.tc : Thread Cert.PrepDIdeal.nD Cert.PrepDIdeal.τ).loc Cert.PrepDIdeal.main_arg0) = m ((c.tc : Thread Cert.PrepDIdeal.nD Cert.PrepDIdeal.τ).loc Cert.PrepDIdeal.main_arg0)
          ∧ r.2.mem ((c.tc : Thread Cert.PrepDIdeal.nD Cert.PrepDIdeal.τ).loc Cert.PrepDIdeal.main_arg1) = m ((c.tc : Thread Cert.PrepDIdeal.nD Cert.PrepDIdeal.τ).loc Cert.PrepDIdeal.main_arg1))
      ∧ θ_run (Cert.PrepDRefIdeal.defs (F := Ideal)) (onTc (τ := Cert.PrepDRefIdeal.τ) (Cert.PrepDRefIdeal.main (F := Ideal))) ⟨m', fun _ => 0, g'⟩ (fun r => ∀ c : Dev Cert.PrepDRefIdeal.nD,
          r.2.mem ((c.tc : Thread Cert.PrepDRefIdeal.nD Cert.PrepDRefIdeal.τ).loc Cert.PrepDRefIdeal.main_v6) = v0 c
          ∧ r.2.mem ((c.tc : Thread Cert.PrepDRefIdeal.nD Cert.PrepDRefIdeal.τ).loc Cert.PrepDRefIdeal.main_arg0) = m' ((c.tc : Thread Cert.PrepDRefIdeal.nD Cert.PrepDRefIdeal.τ).loc Cert.PrepDRefIdeal.main_arg0)
          ∧ r.2.mem ((c.tc : Thread Cert.PrepDRefIdeal.nD Cert.PrepDRefIdeal.τ).loc Cert.PrepDRefIdeal.main_arg1) = m' ((c.tc : Thread Cert.PrepDRefIdeal.nD Cert.PrepDRefIdeal.τ).loc Cert.PrepDRefIdeal.main_arg1))

def Claim : Prop :=
  ∃ (hDwGu : Cert.DwGu.Facts) (hDwGuIdeal : Cert.DwGuIdeal.Facts) (hDwGuRefIdeal : Cert.DwGuRefIdeal.Facts) (hDwDown : Cert.DwDown.Facts) (hDwDownIdeal : Cert.DwDownIdeal.Facts) (hDwDownRefIdeal : Cert.DwDownRefIdeal.Facts) (hAct : Cert.Act.Facts) (hActIdeal : Cert.ActIdeal.Facts) (hActRefIdeal : Cert.ActRefIdeal.Facts) (hPrepGu : Cert.PrepGu.Facts) (hPrepGuIdeal : Cert.PrepGuIdeal.Facts) (hPrepGuRefIdeal : Cert.PrepGuRefIdeal.Facts) (hPrepD : Cert.PrepD.Facts) (hPrepDIdeal : Cert.PrepDIdeal.Facts) (hPrepDRefIdeal : Cert.PrepDRefIdeal.Facts) (hPre_exponents_normal : Cert.Pre_exponents_normal.Facts) (hPre_gu_exponents_normal : Cert.Pre_gu_exponents_normal.Facts) (hPre_d_exponents_normal : Cert.Pre_d_exponents_normal.Facts),
    quiescent_DwGu (hDwGu := hDwGu)
    ∧ quiescent_DwGuIdeal (hDwGuIdeal := hDwGuIdeal)
    ∧ quiescent_DwGuRefIdeal (hDwGuRefIdeal := hDwGuRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Act (hAct := hAct)
    ∧ quiescent_ActIdeal (hActIdeal := hActIdeal)
    ∧ quiescent_ActIdeal_pre_exponents_normal (hActIdeal := hActIdeal) (hPre_exponents_normal := hPre_exponents_normal)
    ∧ quiescent_ActRefIdeal (hActRefIdeal := hActRefIdeal)
    ∧ quiescent_ActRefIdeal_pre_exponents_normal (hActRefIdeal := hActRefIdeal) (hPre_exponents_normal := hPre_exponents_normal)
    ∧ quiescent_PrepGu (hPrepGu := hPrepGu)
    ∧ quiescent_PrepGuIdeal (hPrepGuIdeal := hPrepGuIdeal)
    ∧ quiescent_PrepGuIdeal_pre_gu_exponents_normal (hPrepGuIdeal := hPrepGuIdeal) (hPre_gu_exponents_normal := hPre_gu_exponents_normal)
    ∧ quiescent_PrepGuRefIdeal (hPrepGuRefIdeal := hPrepGuRefIdeal)
    ∧ quiescent_PrepGuRefIdeal_pre_gu_exponents_normal (hPrepGuRefIdeal := hPrepGuRefIdeal) (hPre_gu_exponents_normal := hPre_gu_exponents_normal)
    ∧ quiescent_PrepD (hPrepD := hPrepD)
    ∧ quiescent_PrepDIdeal (hPrepDIdeal := hPrepDIdeal)
    ∧ quiescent_PrepDIdeal_pre_d_exponents_normal (hPrepDIdeal := hPrepDIdeal) (hPre_d_exponents_normal := hPre_d_exponents_normal)
    ∧ quiescent_PrepDRefIdeal (hPrepDRefIdeal := hPrepDRefIdeal)
    ∧ quiescent_PrepDRefIdeal_pre_d_exponents_normal (hPrepDRefIdeal := hPrepDRefIdeal) (hPre_d_exponents_normal := hPre_d_exponents_normal)
    ∧ preserves_DwGu_DwGuIdeal
    ∧ algebraic_DwGuIdeal_DwGuRefIdeal (hDwGuIdeal := hDwGuIdeal) (hDwGuRefIdeal := hDwGuRefIdeal)
    ∧ preserves_DwDown_DwDownIdeal
    ∧ algebraic_DwDownIdeal_DwDownRefIdeal (hDwDownIdeal := hDwDownIdeal) (hDwDownRefIdeal := hDwDownRefIdeal)
    ∧ preserves_Act_ActIdeal
    ∧ algebraic_ActIdeal_ActRefIdeal_pre_exponents_normal (hActIdeal := hActIdeal) (hActRefIdeal := hActRefIdeal) (hPre_exponents_normal := hPre_exponents_normal)
    ∧ preserves_PrepGu_PrepGuIdeal
    ∧ algebraic_PrepGuIdeal_PrepGuRefIdeal_pre_gu_exponents_normal (hPrepGuIdeal := hPrepGuIdeal) (hPrepGuRefIdeal := hPrepGuRefIdeal) (hPre_gu_exponents_normal := hPre_gu_exponents_normal)
    ∧ preserves_PrepD_PrepDIdeal
    ∧ algebraic_PrepDIdeal_PrepDRefIdeal_pre_d_exponents_normal (hPrepDIdeal := hPrepDIdeal) (hPrepDRefIdeal := hPrepDRefIdeal) (hPre_d_exponents_normal := hPre_d_exponents_normal)
-- ==== Pre_d_exponents_normal.lean ====
abbrev S8192x2048 : Shape := ⟨2, ![8192, 2048]⟩
abbrev S8192x64 : Shape := ⟨2, ![8192, 64]⟩
abbrev S_ : Shape := ⟨0, ![]⟩

class Facts : Prop where
  bcast_S_S8192x64 : S_.BroadcastsInDim S8192x64 (![] : Fin 0 → Fin S8192x64.rank)

variable [Facts]

def fn {F : FTy → Type} [FloatOps F] (main_arg0 : FVec F S8192x2048 .fp8e4m3) (main_arg1 : IVec S8192x64 8) : IVec S8192x64 1 :=
  let main_c : IVec S_ 8 := constantI S_ 8 1#8
  let main_v0 : IVec S8192x64 8 := broadcastInDim S8192x64 ![] bcast_S_S8192x64 main_c
  let main_v1 : IVec S8192x64 1 := cmpi .uge main_arg1 main_v0
  let main_c_0 : IVec S_ 8 := constantI S_ 8 254#8
  let main_v2 : IVec S8192x64 8 := broadcastInDim S8192x64 ![] bcast_S_S8192x64 main_c_0
  let main_v3 : IVec S8192x64 1 := cmpi .ule main_arg1 main_v2
  let main_v4 : IVec S8192x64 1 := andi main_v1 main_v3
  main_v4
-- ==== Pre_exponents_normal.lean ====
abbrev S12x4096x2048 : Shape := ⟨3, ![12, 4096, 2048]⟩
abbrev S12x4096x64 : Shape := ⟨3, ![12, 4096, 64]⟩
abbrev S12x128x2048 : Shape := ⟨3, ![12, 128, 2048]⟩
abbrev S2048x16384 : Shape := ⟨2, ![2048, 16384]⟩
abbrev S16384x2048 : Shape := ⟨2, ![16384, 2048]⟩
abbrev S2048x8192 : Shape := ⟨2, ![2048, 8192]⟩
abbrev S_ : Shape := ⟨0, ![]⟩

class Facts : Prop where
  bcast_S_S12x4096x64 : S_.BroadcastsInDim S12x4096x64 (![] : Fin 0 → Fin S12x4096x64.rank)
  bcast_S_S12x128x2048 : S_.BroadcastsInDim S12x128x2048 (![] : Fin 0 → Fin S12x128x2048.rank)

variable [Facts]

def fn_part1 {F : FTy → Type} [FloatOps F] (main_arg7 : IVec S12x128x2048 8) (main_v4 : IVec S12x4096x64 1) (main_v9 : IVec S12x4096x64 1) (main_v14 : IVec S12x128x2048 1) (main_v16 : IVec S12x128x2048 1) : IVec S12x4096x64 1 × IVec S12x4096x64 1 × IVec S12x128x2048 1 × IVec S12x128x2048 1 :=
  let main_c_6 : IVec S_ 8 := constantI S_ 8 254#8
  let main_v17 : IVec S12x128x2048 8 := broadcastInDim S12x128x2048 ![] bcast_S_S12x128x2048 main_c_6
  let main_v18 : IVec S12x128x2048 1 := cmpi .ule main_arg7 main_v17
  let main_v19 : IVec S12x128x2048 1 := andi main_v16 main_v18
  (main_v4, main_v9, main_v14, main_v19)

def fn {F : FTy → Type} [FloatOps F] (main_arg0 : FVec F S12x4096x2048 .fp8e4m3) (main_arg1 : IVec S12x4096x64 8) (main_arg2 : FVec F S12x4096x2048 .fp8e4m3) (main_arg3 : IVec S12x128x2048 8) (main_arg4 : FVec F S12x4096x2048 .fp8e5m2) (main_arg5 : IVec S12x4096x64 8) (main_arg6 : FVec F S12x4096x2048 .fp8e5m2) (main_arg7 : IVec S12x128x2048 8) (main_arg8 : FVec F S2048x16384 .bf16) (main_arg9 : FVec F S16384x2048 .bf16) (main_arg10 : FVec F S2048x8192 .bf16) : IVec S12x4096x64 1 × IVec S12x4096x64 1 × IVec S12x128x2048 1 × IVec S12x128x2048 1 :=
  let main_c : IVec S_ 8 := constantI S_ 8 1#8
  let main_v0 : IVec S12x4096x64 8 := broadcastInDim S12x4096x64 ![] bcast_S_S12x4096x64 main_c
  let main_v1 : IVec S12x4096x64 1 := cmpi .uge main_arg1 main_v0
  let main_c_0 : IVec S_ 8 := constantI S_ 8 254#8
  let main_v2 : IVec S12x4096x64 8 := broadcastInDim S12x4096x64 ![] bcast_S_S12x4096x64 main_c_0
  let main_v3 : IVec S12x4096x64 1 := cmpi .ule main_arg1 main_v2
  let main_v4 : IVec S12x4096x64 1 := andi main_v1 main_v3
  let main_c_1 : IVec S_ 8 := constantI S_ 8 1#8
  let main_v5 : IVec S12x4096x64 8 := broadcastInDim S12x4096x64 ![] bcast_S_S12x4096x64 main_c_1
  let main_v6 : IVec S12x4096x64 1 := cmpi .uge main_arg5 main_v5
  let main_c_2 : IVec S_ 8 := constantI S_ 8 254#8
  let main_v7 : IVec S12x4096x64 8 := broadcastInDim S12x4096x64 ![] bcast_S_S12x4096x64 main_c_2
  let main_v8 : IVec S12x4096x64 1 := cmpi .ule main_arg5 main_v7
  let main_v9 : IVec S12x4096x64 1 := andi main_v6 main_v8
  let main_c_3 : IVec S_ 8 := constantI S_ 8 1#8
  let main_v10 : IVec S12x128x2048 8 := broadcastInDim S12x128x2048 ![] bcast_S_S12x128x2048 main_c_3
  let main_v11 : IVec S12x128x2048 1 := cmpi .uge main_arg3 main_v10
  let main_c_4 : IVec S_ 8 := constantI S_ 8 254#8
  let main_v12 : IVec S12x128x2048 8 := broadcastInDim S12x128x2048 ![] bcast_S_S12x128x2048 main_c_4
  let main_v13 : IVec S12x128x2048 1 := cmpi .ule main_arg3 main_v12
  let main_v14 : IVec S12x128x2048 1 := andi main_v11 main_v13
  let main_c_5 : IVec S_ 8 := constantI S_ 8 1#8
  let main_v15 : IVec S12x128x2048 8 := broadcastInDim S12x128x2048 ![] bcast_S_S12x128x2048 main_c_5
  let main_v16 : IVec S12x128x2048 1 := cmpi .uge main_arg7 main_v15
  fn_part1 (F := F) main_arg7 main_v4 main_v9 main_v14 main_v16
-- ==== Pre_gu_exponents_normal.lean ====
abbrev S2048x2x8192 : Shape := ⟨3, ![2048, 2, 8192]⟩
abbrev S64x2x8192 : Shape := ⟨3, ![64, 2, 8192]⟩
abbrev S2048x2x256 : Shape := ⟨3, ![2048, 2, 256]⟩
abbrev S_ : Shape := ⟨0, ![]⟩

class Facts : Prop where
  bcast_S_S64x2x8192 : S_.BroadcastsInDim S64x2x8192 (![] : Fin 0 → Fin S64x2x8192.rank)
  bcast_S_S2048x2x256 : S_.BroadcastsInDim S2048x2x256 (![] : Fin 0 → Fin S2048x2x256.rank)

variable [Facts]

def fn {F : FTy → Type} [FloatOps F] (main_arg0 : FVec F S2048x2x8192 .fp8e4m3) (main_arg1 : IVec S64x2x8192 8) (main_arg2 : FVec F S2048x2x8192 .fp8e4m3) (main_arg3 : IVec S2048x2x256 8) : IVec S64x2x8192 1 × IVec S2048x2x256 1 :=
  let main_c : IVec S_ 8 := constantI S_ 8 1#8
  let main_v0 : IVec S64x2x8192 8 := broadcastInDim S64x2x8192 ![] bcast_S_S64x2x8192 main_c
  let main_v1 : IVec S64x2x8192 1 := cmpi .uge main_arg1 main_v0
  let main_c_0 : IVec S_ 8 := constantI S_ 8 254#8
  let main_v2 : IVec S64x2x8192 8 := broadcastInDim S64x2x8192 ![] bcast_S_S64x2x8192 main_c_0
  let main_v3 : IVec S64x2x8192 1 := cmpi .ule main_arg1 main_v2
  let main_v4 : IVec S64x2x8192 1 := andi main_v1 main_v3
  let main_c_1 : IVec S_ 8 := constantI S_ 8 1#8
  let main_v5 : IVec S2048x2x256 8 := broadcastInDim S2048x2x256 ![] bcast_S_S2048x2x256 main_c_1
  let main_v6 : IVec S2048x2x256 1 := cmpi .uge main_arg3 main_v5
  let main_c_2 : IVec S_ 8 := constantI S_ 8 254#8
  let main_v7 : IVec S2048x2x256 8 := broadcastInDim S2048x2x256 ![] bcast_S_S2048x2x256 main_c_2
  let main_v8 : IVec S2048x2x256 1 := cmpi .ule main_arg3 main_v7
  let main_v9 : IVec S2048x2x256 1 := andi main_v6 main_v8
  (main_v4, main_v9)
-- ==== DwGu.lean ====
abbrev S2048x49152 : Shape := ⟨2, ![2048, 49152]⟩
abbrev S49152x8192 : Shape := ⟨2, ![49152, 8192]⟩
abbrev S2048x8192 : Shape := ⟨2, ![2048, 8192]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x49152, .bf16⟩
  | .hbm, ⟨1, _⟩ => ⟨S49152x8192, .bf16⟩
  | .hbm, ⟨2, _⟩ => ⟨S2048x8192, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S2048x49152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwGuRefIdeal.lean ====
abbrev S2048x49152 : Shape := ⟨2, ![2048, 49152]⟩
abbrev S49152x8192 : Shape := ⟨2, ![49152, 8192]⟩
abbrev S2048x8192 : Shape := ⟨2, ![2048, 8192]⟩

abbrev nBuf : Space → Nat
  | .hbm => 3
  | .vmem => 0
  | .smem => 0
  | _ => 0

abbrev bufTy : (tb : Table) → Fin (tcTables nBuf tb) → BufTy
  | .hbm, ⟨0, _⟩ => ⟨S2048x49152, .bf16⟩
  | .hbm, ⟨1, _⟩ => ⟨S49152x8192, .bf16⟩
  | .hbm, ⟨2, _⟩ => ⟨S2048x8192, .f32⟩
  | _, _ => ⟨S2048x49152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwDown.lean ====
abbrev S2048x49152 : Shape := ⟨2, ![2048, 49152]⟩
abbrev S49152x8192 : Shape := ⟨2, ![49152, 8192]⟩
abbrev S8192x2048 : Shape := ⟨2, ![8192, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x49152, .bf16⟩
  | .hbm, ⟨1, _⟩ => ⟨S49152x8192, .bf16⟩
  | .hbm, ⟨2, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S2048x1024, .f32⟩
  | _, _ => ⟨S2048x49152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 24], ![false, false]⟩

def k0_cond2 (i : grid0.Coords) : BitVec 1 :=
  let arg1 : BitVec 32 := BitVec.ofNat 32 (i 1).val
  let c23_i32 : BitVec 32 := 23#32
  let v11 : BitVec 1 := Scalar.cmpi .eq arg1 c23_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S2048x49152 : Shape := ⟨2, ![2048, 49152]⟩
abbrev S49152x8192 : Shape := ⟨2, ![49152, 8192]⟩
abbrev S8192x49152 : Shape := ⟨2, ![8192, 49152]⟩
abbrev S49152x2048 : Shape := ⟨2, ![49152, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x49152, .bf16⟩
  | .hbm, ⟨1, _⟩ => ⟨S49152x8192, .bf16⟩
  | .hbm, ⟨2, _⟩ => ⟨S8192x49152, .bf16⟩
  | .hbm, ⟨3, _⟩ => ⟨S49152x2048, .bf16⟩
  | .hbm, ⟨4, _⟩ => ⟨S8192x2048, .f32⟩
  | _, _ => ⟨S2048x49152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Act.lean ====
abbrev S12x4096x2048 : Shape := ⟨3, ![12, 4096, 2048]⟩
abbrev S12x4096x64 : Shape := ⟨3, ![12, 4096, 64]⟩
abbrev S12x128x2048 : Shape := ⟨3, ![12, 128, 2048]⟩
abbrev S2048x16384 : Shape := ⟨2, ![2048, 16384]⟩
abbrev S16384x2048 : Shape := ⟨2, ![16384, 2048]⟩
abbrev S2048x8192 : Shape := ⟨2, ![2048, 8192]⟩
abbrev S49152x2048 : Shape := ⟨2, ![49152, 2048]⟩
abbrev S1536x2048 : Shape := ⟨2, ![1536, 2048]⟩
abbrev S49152x64 : Shape := ⟨2, ![49152, 64]⟩
abbrev S49152x128 : Shape := ⟨2, ![49152, 128]⟩
abbrev S49152x8192 : Shape := ⟨2, ![49152, 8192]⟩
abbrev S2048x49152 : Shape := ⟨2, ![2048, 49152]⟩
abbrev S512x2048 : Shape := ⟨2, ![512, 2048]⟩
abbrev S512x128 : Shape := ⟨2, ![512, 128]⟩
abbrev S16x128 : Shape := ⟨2, ![16, 128]⟩
abbrev S2048x512 : Shape := ⟨2, ![2048, 512]⟩
abbrev S512x512 : Shape := ⟨2, ![512, 512]⟩
abbrev S128x512 : Shape := ⟨2, ![128, 512]⟩
abbrev S32x128 : Shape := ⟨2, ![32, 128]⟩
abbrev S8x128 : Shape := ⟨2, ![8, 128]⟩
abbrev S8x128x1 : Shape := ⟨3, ![8, 128, 1]⟩
abbrev S1x128 : Shape := ⟨2, ![1, 128]⟩
abbrev S2048x256 : Shape := ⟨2, ![2048, 256]⟩
abbrev S512x256 : Shape := ⟨2, ![512, 256]⟩

abbrev nBuf : Space → Nat
  | .hbm => 26
  | .vmem => 39
  | .smem => 0
  | _ => 0

abbrev bufTy : (tb : Table) → Fin (tcTables nBuf tb) → BufTy
  | .hbm, ⟨0, _⟩ => ⟨S12x4096x2048, .fp8e4m3⟩
  | .hbm, ⟨1, _⟩ => ⟨S12x4096x64, .i8⟩
  | .hbm, ⟨2, _⟩ => ⟨S12x4096x2048, .fp8e4m3⟩
  | .hbm, ⟨3, _⟩ => ⟨S12x128x2048, .i8⟩
  | .hbm, ⟨4, _⟩ => ⟨S12x4096x2048, .fp8e5m2⟩
  | .hbm, ⟨5, _⟩ => ⟨S12x4096x64, .i8⟩
  | .hbm, ⟨6, _⟩ => ⟨S12x4096x2048, .fp8e5m2⟩
  | .hbm, ⟨7, _⟩ => ⟨S12x128x2048, .i8⟩
  | .hbm, ⟨8, _⟩ => ⟨S2048x16384, .bf16⟩
  | .hbm, ⟨9, _⟩ => ⟨S16384x2048, .bf16⟩
  | .hbm, ⟨10, _⟩ => ⟨S2048x8192, .bf16⟩
  | .hbm, ⟨11, _⟩ => ⟨S49152x2048, .fp8e4m3⟩
  | .hbm, ⟨12, _⟩ => ⟨S49152x2048, .fp8e5m2⟩
  | .hbm, ⟨13, _⟩ => ⟨S49152x2048, .fp8e4m3⟩
  | .hbm, ⟨14, _⟩ => ⟨S49152x2048, .fp8e5m2⟩
  | .hbm, ⟨15, _⟩ => ⟨S1536x2048, .i8⟩
  | .hbm, ⟨16, _⟩ => ⟨S1536x2048, .i8⟩
  | .hbm, ⟨17, _⟩ => ⟨S49152x64, .i8⟩
  | .hbm, ⟨18, _⟩ => ⟨S49152x64, .i8⟩
  | .hbm, ⟨19, _⟩ => ⟨S49152x128, .i8⟩
  | .hbm, ⟨20, _⟩ => ⟨S49152x2048, .bf16⟩
  | .hbm, ⟨21, _⟩ => ⟨S49152x8192, .bf16⟩
  | .hbm, ⟨22, _⟩ => ⟨S49152x8192, .bf16⟩
  | .hbm, ⟨23, _⟩ => ⟨S49152x8192, .bf16⟩
  | .hbm, ⟨24, _⟩ => ⟨S2048x49152, .bf16⟩
  | .hbm, ⟨25, _⟩ => ⟨S2048x49152, .bf16⟩
  | .local _ .vmem, ⟨0, _⟩ => ⟨S512x2048, .fp8e4m3⟩
  | .local _ .vmem, ⟨1, _⟩ => ⟨S512x2048, .fp8e4m3⟩
  | .local _ .vmem, ⟨2, _⟩ => ⟨S512x2048, .fp8e5m2⟩
  | .local _ .vmem, ⟨3, _⟩ => ⟨S512x2048, .fp8e5m2⟩
  | .local _ .vmem, ⟨4, _⟩ => ⟨S512x128, .i8⟩
  | .local _ .vmem, ⟨5, _⟩ => ⟨S512x128, .i8⟩
  | .local _ .vmem, ⟨6, _⟩ => ⟨S512x128, .fp8e4m3⟩
  | .local _ .vmem, ⟨7, _⟩ => ⟨S512x128, .fp8e4m3⟩
  | .local _ .vmem, ⟨8, _⟩ => ⟨S16x128, .i8⟩
  | .local _ .vmem, ⟨9, _⟩ => ⟨S16x128, .i8⟩
  | .local _ .vmem, ⟨10, _⟩ => ⟨S512x128, .fp8e5m2⟩
  | .local _ .vmem, ⟨11, _⟩ => ⟨S512x128, .fp8e5m2⟩
  | .local _ .vmem, ⟨12, _⟩ => ⟨S16x128, .i8⟩
  | .local _ .vmem, ⟨13, _⟩ => ⟨S16x128, .i8⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S128x512, .bf16⟩
  | .local _ .vmem, ⟨33, _⟩ => ⟨S128x512, .bf16⟩
  | .local _ .vmem, ⟨34, _⟩ => ⟨S128x512, .bf16⟩
  | .local _ .vmem, ⟨35, _⟩ => ⟨S128x512, .bf16⟩
  | .local _ .vmem, ⟨36, _⟩ => ⟨S512x2048, .bf16⟩
  | .local _ .vmem, ⟨37, _⟩ => ⟨S512x2048, .bf16⟩
  | .local _ .vmem, ⟨38, _⟩ => ⟨S512x2048, .f32⟩
  | _, _ => ⟨S12x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![96, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_193 : BitVec 32 := 0#32
  let c16_i32 : BitVec 32 := 16#32
  let v464 : BitVec 32 := Scalar.addi c0_i32_193 c16_i32
  let c1_i32 : BitVec 32 := 1#32
  ⟨c0_i32_193, v464, c1_i32⟩
def k0_mult1 (k0_t1 : Fin k0_t1_loop.trips) : BitVec 32 :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  v469
def k0_off1 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v471 : Index := Scalar.indexCast v470
  let c0_198 : Index := 0#32
  ![v471.toNat, 0]
def k0_off2 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v474 : Index := Scalar.indexCast v470
  let c0_199 : Index := 0#32
  ![v474.toNat, 0]
def k0_off3 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v576 : Index := Scalar.indexCast v470
  let c128_223 : Index := 128#32
  ![v576.toNat, 128]
def k0_off4 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v678 : Index := Scalar.indexCast v470
  let c256_247 : Index := 256#32
  ![v678.toNat, 256]
def k0_off5 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v780 : Index := Scalar.indexCast v470
  let c384_271 : Index := 384#32
  ![v780.toNat, 384]
def k0_off6 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v882 : Index := Scalar.indexCast v470
  let c512 : Index := 512#32
  ![v882.toNat, 512]
def k0_off7 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v984 : Index := Scalar.indexCast v470
  let c640 : Index := 640#32
  ![v984.toNat, 640]
def k0_off8 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v1086 : Index := Scalar.indexCast v470
  let c768 : Index := 768#32
  ![v1086.toNat, 768]
def k0_off9 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v1188 : Index := Scalar.indexCast v470
  let c896 : Index := 896#32
  ![v1188.toNat, 896]
def k0_off10 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v1290 : Index := Scalar.indexCast v470
  let c1024 : Index := 1024#32
  ![v1290.toNat, 1024]
def k0_off11 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v1392 : Index := Scalar.indexCast v470
  let c1152 : Index := 1152#32
  ![v1392.toNat, 1152]
def k0_off12 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v1494 : Index := Scalar.indexCast v470
  let c1280 : Index := 1280#32
  ![v1494.toNat, 1280]
def k0_off13 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v1596 : Index := Scalar.indexCast v470
  let c1408 : Index := 1408#32
  ![v1596.toNat, 1408]
def k0_off14 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v1698 : Index := Scalar.indexCast v470
  let c1536 : Index := 1536#32
  ![v1698.toNat, 1536]
def k0_off15 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v1800 : Index := Scalar.indexCast v470
  let c1664 : Index := 1664#32
  ![v1800.toNat, 1664]
def k0_off16 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v1902 : Index := Scalar.indexCast v470
  let c1792 : Index := 1792#32
  ![v1902.toNat, 1792]
def k0_off17 (k0_t1 : Fin k0_t1_loop.trips) : Fin 2 → Nat :=
  let c0_i32_193 : BitVec 32 := 0#32
  let c1_i32 : BitVec 32 := 1#32
  let arg23 : BitVec 32 := Scf.iv c0_i32_193 c1_i32 k0_t1
  let c32_i32 : BitVec 32 := 32#32
  let v469 : BitVec 32 := Scalar.muli arg23 c32_i32
  let v470 : BitVec 32 := v469
  let v2004 : Index := Scalar.indexCast v470
  let c1920 : Index := 1920#32
  ![v2004.toNat, 1920]
def k0_cond2 (i : grid0.Coords) : BitVec 1 :=
  let arg1 : BitVec 32 := BitVec.ofNat 32 (i 1).val
  let c15_i32 : BitVec 32 := 15#32
  let v461 : BitVec 1 := Scalar.cmpi .eq arg1 c15_i32
  let v462 : BitVec 32 := Scalar.extui v461
  let c0_i32_192 : BitVec 32 := 0#32
  let v463 : BitVec 1 := Scalar.cmpi .ne v462 c0_i32_192
  v463

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ActRefIdeal.lean ====
abbrev S12x4096x2048 : Shape := ⟨3, ![12, 4096, 2048]⟩
abbrev S12x4096x64 : Shape := ⟨3, ![12, 4096, 64]⟩
abbrev S12x128x2048 : Shape := ⟨3, ![12, 128, 2048]⟩
abbrev S2048x16384 : Shape := ⟨2, ![2048, 16384]⟩
abbrev S16384x2048 : Shape := ⟨2, ![16384, 2048]⟩
abbrev S2048x8192 : Shape := ⟨2, ![2048, 8192]⟩
abbrev S12x4096x64x32 : Shape := ⟨4, ![12, 4096, 64, 32]⟩
abbrev S12x4096x64x1 : Shape := ⟨4, ![12, 4096, 64, 1]⟩
abbrev S49152x2048 : Shape := ⟨2, ![49152, 2048]⟩
abbrev S12x128x32x2048 : Shape := ⟨4, ![12, 128, 32, 2048]⟩
abbrev S12x128x1x2048 : Shape := ⟨4, ![12, 128, 1, 2048]⟩
abbrev S49152x8192 : Shape := ⟨2, ![49152, 8192]⟩
abbrev S_ : Shape := ⟨0, ![]⟩
abbrev S49152x16384 : Shape := ⟨2, ![49152, 16384]⟩
abbrev S2048x49152 : Shape := ⟨2, ![2048, 49152]⟩

abbrev nBuf : Space → Nat
  | .hbm => 73
  | .vmem => 16
  | .smem => 0
  | _ => 0

abbrev bufTy : (tb : Table) → Fin (tcTables nBuf tb) → BufTy
  | .hbm, ⟨0, _⟩ => ⟨S12x4096x2048, .fp8e4m3⟩
  | .hbm, ⟨1, _⟩ => ⟨S12x4096x64, .i8⟩
  | .hbm, ⟨2, _⟩ => ⟨S12x4096x2048, .fp8e4m3⟩
  | .hbm, ⟨3, _⟩ => ⟨S12x128x2048, .i8⟩
  | .hbm, ⟨4, _⟩ => ⟨S12x4096x2048, .fp8e5m2⟩
  | .hbm, ⟨5, _⟩ => ⟨S12x4096x64, .i8⟩
  | .hbm, ⟨6, _⟩ => ⟨S12x4096x2048, .fp8e5m2⟩
  | .hbm, ⟨7, _⟩ => ⟨S12x128x2048, .i8⟩
  | .hbm, ⟨8, _⟩ => ⟨S2048x16384, .bf16⟩
  | .hbm, ⟨9, _⟩ => ⟨S16384x2048, .bf16⟩
  | .hbm, ⟨10, _⟩ => ⟨S2048x8192, .bf16⟩
  | .hbm, ⟨11, _⟩ => ⟨S12x4096x2048, .bf16⟩
  | .hbm, ⟨12, _⟩ => ⟨S12x4096x2048, .bf16⟩
  | .hbm, ⟨13, _⟩ => ⟨S12x4096x2048, .bf16⟩
  | .hbm, ⟨14, _⟩ => ⟨S12x4096x2048, .bf16⟩
  | .hbm, ⟨15, _⟩ => ⟨S12x4096x64, .bf16⟩
  | .hbm, ⟨16, _⟩ => ⟨S12x4096x64, .bf16⟩
  | .hbm, ⟨17, _⟩ => ⟨S12x128x2048, .bf16⟩
  | .hbm, ⟨18, _⟩ => ⟨S12x128x2048, .bf16⟩
  | .hbm, ⟨19, _⟩ => ⟨S12x4096x64x32, .bf16⟩
  | .hbm, ⟨20, _⟩ => ⟨S12x4096x64x1, .bf16⟩
  | .hbm, ⟨21, _⟩ => ⟨S12x4096x64x32, .bf16⟩
  | .hbm, ⟨22, _⟩ => ⟨S12x4096x64x32, .bf16⟩
  | .hbm, ⟨23, _⟩ => ⟨S49152x2048, .bf16⟩
  | .hbm, ⟨24, _⟩ => ⟨S12x4096x64x32, .bf16⟩
  | .hbm, ⟨25, _⟩ => ⟨S12x4096x64x1, .bf16⟩
  | .hbm, ⟨26, _⟩ => ⟨S12x4096x64x32, .bf16⟩
  | .hbm, ⟨27, _⟩ => ⟨S12x4096x64x32, .bf16⟩
  | .hbm, ⟨28, _⟩ => ⟨S49152x2048, .bf16⟩
  | .hbm, ⟨29, _⟩ => ⟨S12x128x32x2048, .bf16⟩
  | .hbm, ⟨30, _⟩ => ⟨S12x128x1x2048, .bf16⟩
  | .hbm, ⟨31, _⟩ => ⟨S12x128x32x2048, .bf16⟩
  | .hbm, ⟨32, _⟩ => ⟨S12x128x32x2048, .bf16⟩
  | .hbm, ⟨33, _⟩ => ⟨S49152x2048, .bf16⟩
  | .hbm, ⟨34, _⟩ => ⟨S12x128x32x2048, .bf16⟩
  | .hbm, ⟨35, _⟩ => ⟨S12x128x1x2048, .bf16⟩
  | .hbm, ⟨36, _⟩ => ⟨S12x128x32x2048, .bf16⟩
  | .hbm, ⟨37, _⟩ => ⟨S12x128x32x2048, .bf16⟩
  | .hbm, ⟨38, _⟩ => ⟨S49152x2048, .bf16⟩
  | .hbm, ⟨39, _⟩ => ⟨S2048x8192, .bf16⟩
  | .hbm, ⟨40, _⟩ => ⟨S49152x8192, .f32⟩
  | .hbm, ⟨41, _⟩ => ⟨S2048x8192, .bf16⟩
  | .hbm, ⟨42, _⟩ => ⟨S49152x8192, .f32⟩
  | .hbm, ⟨43, _⟩ => ⟨S49152x8192, .f32⟩
  | .hbm, ⟨44, _⟩ => ⟨S49152x8192, .f32⟩
  | .hbm, ⟨45, _⟩ => ⟨S_, .f32⟩
  | .hbm, ⟨46, _⟩ => ⟨S49152x8192, .f32⟩
  | .hbm, ⟨47, _⟩ => ⟨S49152x8192, .f32⟩
  | .hbm, ⟨48, _⟩ => ⟨S_, .f32⟩
  | .hbm, ⟨49, _⟩ => ⟨S49152x8192, .f32⟩
  | .hbm, ⟨50, _⟩ => ⟨S49152x8192, .f32⟩
  | .hbm, ⟨51, _⟩ => ⟨S49152x8192, .f32⟩
  | .hbm, ⟨52, _⟩ => ⟨S49152x8192, .f32⟩
  | .hbm, ⟨53, _⟩ => ⟨S49152x8192, .bf16⟩
  | .hbm, ⟨54, _⟩ => ⟨S49152x8192, .f32⟩
  | .hbm, ⟨55, _⟩ => ⟨S49152x8192, .f32⟩
  | .hbm, ⟨56, _⟩ => ⟨S49152x8192, .f32⟩
  | .hbm, ⟨57, _⟩ => ⟨S_, .f32⟩
  | .hbm, ⟨58, _⟩ => ⟨S49152x8192, .f32⟩
  | .hbm, ⟨59, _⟩ => ⟨S49152x8192, .f32⟩
  | .hbm, ⟨60, _⟩ => ⟨S49152x8192, .f32⟩
  | .hbm, ⟨61, _⟩ => ⟨S_, .f32⟩
  | .hbm, ⟨62, _⟩ => ⟨S49152x8192, .f32⟩
  | .hbm, ⟨63, _⟩ => ⟨S49152x8192, .f32⟩
  | .hbm, ⟨64, _⟩ => ⟨S49152x8192, .f32⟩
  | .hbm, ⟨65, _⟩ => ⟨S49152x8192, .bf16⟩
  | .hbm, ⟨66, _⟩ => ⟨S49152x8192, .f32⟩
  | .hbm, ⟨67, _⟩ => ⟨S49152x8192, .bf16⟩
  | .hbm, ⟨68, _⟩ => ⟨S49152x16384, .bf16⟩
  | .hbm, ⟨69, _⟩ => ⟨S49152x2048, .f32⟩
  | .hbm, ⟨70, _⟩ => ⟨S49152x2048, .bf16⟩
  | .hbm, ⟨71, _⟩ => ⟨S2048x49152, .bf16⟩
  | .hbm, ⟨72, _⟩ => ⟨S2048x49152, .bf16⟩
  | .local _ .vmem, ⟨0, _⟩ => ⟨S12x4096x2048, .fp8e4m3⟩
  | .local _ .vmem, ⟨1, _⟩ => ⟨S12x4096x2048, .fp8e5m2⟩
  | .local _ .vmem, ⟨2, _⟩ => ⟨S12x4096x2048, .fp8e4m3⟩
  | .local _ .vmem, ⟨3, _⟩ => ⟨S12x4096x2048, .fp8e5m2⟩
  | .local _ .vmem, ⟨4, _⟩ => ⟨S12x4096x64, .i8⟩
  | .local _ .vmem, ⟨5, _⟩ => ⟨S12x4096x64, .i8⟩
  | .local _ .vmem, ⟨6, _⟩ => ⟨S12x128x2048, .i8⟩
  | .local _ .vmem, ⟨7, _⟩ => ⟨S12x128x2048, .i8⟩
  | .local _ .vmem, ⟨8, _⟩ => ⟨S12x4096x2048, .bf16⟩
  | .local _ .vmem, ⟨9, _⟩ => ⟨S12x4096x2048, .bf16⟩
  | .local _ .vmem, ⟨10, _⟩ => ⟨S12x4096x2048, .bf16⟩
  | .local _ .vmem, ⟨11, _⟩ => ⟨S12x4096x2048, .bf16⟩
  | .local _ .vmem, ⟨12, _⟩ => ⟨S12x4096x64, .bf16⟩
  | .local _ .vmem, ⟨13, _⟩ => ⟨S12x4096x64, .bf16⟩
  | .local _ .vmem, ⟨14, _⟩ => ⟨S12x128x2048, .bf16⟩
  | .local _ .vmem, ⟨15, _⟩ => ⟨S12x128x2048, .bf16⟩
  | _, _ => ⟨S12x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_v28 : Ref sig .tc := ⟨.hbm, 47, rfl⟩
abbrev main_cst_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_1 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S12x4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x4096x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x4096x64 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x4096x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x128x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x128x2048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x4096x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x4096x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x4096x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x4096x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x4096x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x4096x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x128x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12x128x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== PrepGu.lean ====
abbrev S2048x2x8192 : Shape := ⟨3, ![2048, 2, 8192]⟩
abbrev S64x2x8192 : Shape := ⟨3, ![64, 2, 8192]⟩
abbrev S2048x2x256 : Shape := ⟨3, ![2048, 2, 256]⟩
abbrev S2048x16384 : Shape := ⟨2, ![2048, 16384]⟩
abbrev S16x4x16384 : Shape := ⟨3, ![16, 4, 16384]⟩
abbrev S2048x512 : Shape := ⟨2, ![2048, 512]⟩
abbrev S16384x2048 : Shape := ⟨2, ![16384, 2048]⟩
abbrev S128x4096 : Shape := ⟨2, ![128, 4096]⟩
abbrev S1x4x4096 : Shape := ⟨3, ![1, 4, 4096]⟩
abbrev S128x128 : Shape := ⟨2, ![128, 128]⟩
abbrev S4096x128 : Shape := ⟨2, ![4096, 128]⟩
abbrev S1x1x4096 : Shape := ⟨3, ![1, 1, 4096]⟩
abbrev S1x4096 : Shape := ⟨2, ![1, 4096]⟩
abbrev S32x4096 : Shape := ⟨2, ![32, 4096]⟩
abbrev S32x128 : Shape := ⟨2, ![32, 128]⟩
abbrev S8x128 : Shape := ⟨2, ![8, 128]⟩
abbrev S8x128x1 : Shape := ⟨3, ![8, 128, 1]⟩

abbrev nBuf : Space → Nat
  | .hbm => 10
  | .vmem => 12
  | .smem => 0
  | _ => 0

abbrev bufTy : (tb : Table) → Fin (tcTables nBuf tb) → BufTy
  | .hbm, ⟨0, _⟩ => ⟨S2048x2x8192, .fp8e4m3⟩
  | .hbm, ⟨1, _⟩ => ⟨S64x2x8192, .i8⟩
  | .hbm, ⟨2, _⟩ => ⟨S2048x2x8192, .fp8e4m3⟩
  | .hbm, ⟨3, _⟩ => ⟨S2048x2x256, .i8⟩
  | .hbm, ⟨4, _⟩ => ⟨S2048x16384, .fp8e4m3⟩
  | .hbm, ⟨5, _⟩ => ⟨S16x4x16384, .i8⟩
  | .hbm, ⟨6, _⟩ => ⟨S2048x16384, .fp8e4m3⟩
  | .hbm, ⟨7, _⟩ => ⟨S2048x512, .i8⟩
  | .hbm, ⟨8, _⟩ => ⟨S2048x16384, .bf16⟩
  | .hbm, ⟨9, _⟩ => ⟨S16384x2048, .bf16⟩
  | .local _ .vmem, ⟨0, _⟩ => ⟨S128x4096, .fp8e4m3⟩
  | .local _ .vmem, ⟨1, _⟩ => ⟨S128x4096, .fp8e4m3⟩
  | .local _ .vmem, ⟨2, _⟩ => ⟨S1x4x4096, .i8⟩
  | .local _ .vmem, ⟨3, _⟩ => ⟨S1x4x4096, .i8⟩
  | .local _ .vmem, ⟨4, _⟩ => ⟨S128x4096, .fp8e4m3⟩
  | .local _ .vmem, ⟨5, _⟩ => ⟨S128x4096, .fp8e4m3⟩
  | .local _ .vmem, ⟨6, _⟩ => ⟨S128x128, .i8⟩
  | .local _ .vmem, ⟨7, _⟩ => ⟨S128x128, .i8⟩
  | .local _ .vmem, ⟨8, _⟩ => ⟨S128x4096, .bf16⟩
  | .local _ .vmem, ⟨9, _⟩ => ⟨S128x4096, .bf16⟩
  | .local _ .vmem, ⟨10, _⟩ => ⟨S4096x128, .bf16⟩
  | .local _ .vmem, ⟨11, _⟩ => ⟨S4096x128, .bf16⟩
  | _, _ => ⟨S2048x2x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PrepGuRefIdeal.lean ====
abbrev S2048x2x8192 : Shape := ⟨3, ![2048, 2, 8192]⟩
abbrev S64x2x8192 : Shape := ⟨3, ![64, 2, 8192]⟩
abbrev S2048x2x256 : Shape := ⟨3, ![2048, 2, 256]⟩
abbrev S64x32x2x8192 : Shape := ⟨4, ![64, 32, 2, 8192]⟩
abbrev S64x1x2x8192 : Shape := ⟨4, ![64, 1, 2, 8192]⟩
abbrev S2048x16384 : Shape := ⟨2, ![2048, 16384]⟩
abbrev S2048x2x256x32 : Shape := ⟨4, ![2048, 2, 256, 32]⟩
abbrev S2048x2x256x1 : Shape := ⟨4, ![2048, 2, 256, 1]⟩
abbrev S16384x2048 : Shape := ⟨2, ![16384, 2048]⟩

abbrev nBuf : Space → Nat
  | .hbm => 19
  | .vmem => 8
  | .smem => 0
  | _ => 0

abbrev bufTy : (tb : Table) → Fin (tcTables nBuf tb) → BufTy
  | .hbm, ⟨0, _⟩ => ⟨S2048x2x8192, .fp8e4m3⟩
  | .hbm, ⟨1, _⟩ => ⟨S64x2x8192, .i8⟩
  | .hbm, ⟨2, _⟩ => ⟨S2048x2x8192, .fp8e4m3⟩
  | .hbm, ⟨3, _⟩ => ⟨S2048x2x256, .i8⟩
  | .hbm, ⟨4, _⟩ => ⟨S2048x2x8192, .bf16⟩
  | .hbm, ⟨5, _⟩ => ⟨S64x2x8192, .bf16⟩
  | .hbm, ⟨6, _⟩ => ⟨S2048x2x8192, .bf16⟩
  | .hbm, ⟨7, _⟩ => ⟨S2048x2x256, .bf16⟩
  | .hbm, ⟨8, _⟩ => ⟨S64x32x2x8192, .bf16⟩
  | .hbm, ⟨9, _⟩ => ⟨S64x1x2x8192, .bf16⟩
  | .hbm, ⟨10, _⟩ => ⟨S64x32x2x8192, .bf16⟩
  | .hbm, ⟨11, _⟩ => ⟨S64x32x2x8192, .bf16⟩
  | .hbm, ⟨12, _⟩ => ⟨S2048x16384, .bf16⟩
  | .hbm, ⟨13, _⟩ => ⟨S2048x2x256x32, .bf16⟩
  | .hbm, ⟨14, _⟩ => ⟨S2048x2x256x1, .bf16⟩
  | .hbm, ⟨15, _⟩ => ⟨S2048x2x256x32, .bf16⟩
  | .hbm, ⟨16, _⟩ => ⟨S2048x2x256x32, .bf16⟩
  | .hbm, ⟨17, _⟩ => ⟨S2048x16384, .bf16⟩
  | .hbm, ⟨18, _⟩ => ⟨S16384x2048, .bf16⟩
  | .local _ .vmem, ⟨0, _⟩ => ⟨S2048x2x8192, .fp8e4m3⟩
  | .local _ .vmem, ⟨1, _⟩ => ⟨S64x2x8192, .i8⟩
  | .local _ .vmem, ⟨2, _⟩ => ⟨S2048x2x8192, .fp8e4m3⟩
  | .local _ .vmem, ⟨3, _⟩ => ⟨S2048x2x256, .i8⟩
  | .local _ .vmem, ⟨4, _⟩ => ⟨S2048x2x8192, .bf16⟩
  | .local _ .vmem, ⟨5, _⟩ => ⟨S64x2x8192, .bf16⟩
  | .local _ .vmem, ⟨6, _⟩ => ⟨S2048x2x8192, .bf16⟩
  | .local _ .vmem, ⟨7, _⟩ => ⟨S2048x2x256, .bf16⟩
  | _, _ => ⟨S2048x2x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x2x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x2x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x2x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== PrepD.lean ====
abbrev S8192x2048 : Shape := ⟨2, ![8192, 2048]⟩
abbrev S8192x64 : Shape := ⟨2, ![8192, 64]⟩
abbrev S_ : Shape := ⟨0, ![]⟩
abbrev S8192x128 : Shape := ⟨2, ![8192, 128]⟩
abbrev S2048x8192 : Shape := ⟨2, ![2048, 8192]⟩
abbrev S256x2048 : Shape := ⟨2, ![256, 2048]⟩
abbrev S256x128 : Shape := ⟨2, ![256, 128]⟩
abbrev S2048x256 : Shape := ⟨2, ![2048, 256]⟩
abbrev S32x128 : Shape := ⟨2, ![32, 128]⟩
abbrev S8x128 : Shape := ⟨2, ![8, 128]⟩
abbrev S8x128x1 : Shape := ⟨3, ![8, 128, 1]⟩
abbrev S128x256 : Shape := ⟨2, ![128, 256]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .fp8e4m3⟩
  | .hbm, ⟨1, _⟩ => ⟨S8192x64, .i8⟩
  | .hbm, ⟨2, _⟩ => ⟨S_, .i32⟩
  | .hbm, ⟨3, _⟩ => ⟨S_, .i8⟩
  | .hbm, ⟨4, _⟩ => ⟨S8192x128, .i8⟩
  | .hbm, ⟨5, _⟩ => ⟨S2048x8192, .bf16⟩
  | .local _ .vmem, ⟨0, _⟩ => ⟨S256x2048, .fp8e4m3⟩
  | .local _ .vmem, ⟨1, _⟩ => ⟨S256x2048, .fp8e4m3⟩
  | .local _ .vmem, ⟨2, _⟩ => ⟨S256x128, .i8⟩
  | .local _ .vmem, ⟨3, _⟩ => ⟨S256x128, .i8⟩
  | .local _ .vmem, ⟨4, _⟩ => ⟨S2048x256, .bf16⟩
  | .local _ .vmem, ⟨5, _⟩ => ⟨S2048x256, .bf16⟩
  | _, _ => ⟨S8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrepDRefIdeal.lean ====
abbrev S8192x2048 : Shape := ⟨2, ![8192, 2048]⟩
abbrev S8192x64 : Shape := ⟨2, ![8192, 64]⟩
abbrev S8192x64x32 : Shape := ⟨3, ![8192, 64, 32]⟩
abbrev S8192x64x1 : Shape := ⟨3, ![8192, 64, 1]⟩
abbrev S2048x8192 : Shape := ⟨2, ![2048, 8192]⟩

abbrev nBuf : Space → Nat
  | .hbm => 10
  | .vmem => 4
  | .smem => 0
  | _ => 0

abbrev bufTy : (tb : Table) → Fin (tcTables nBuf tb) → BufTy
  | .hbm, ⟨0, _⟩ => ⟨S8192x2048, .fp8e4m3⟩
  | .hbm, ⟨1, _⟩ => ⟨S8192x64, .i8⟩
  | .hbm, ⟨2, _⟩ => ⟨S8192x2048, .bf16⟩
  | .hbm, ⟨3, _⟩ => ⟨S8192x64, .bf16⟩
  | .hbm, ⟨4, _⟩ => ⟨S8192x64x32, .bf16⟩
  | .hbm, ⟨5, _⟩ => ⟨S8192x64x1, .bf16⟩
  | .hbm, ⟨6, _⟩ => ⟨S8192x64x32, .bf16⟩
  | .hbm, ⟨7, _⟩ => ⟨S8192x64x32, .bf16⟩
  | .hbm, ⟨8, _⟩ => ⟨S8192x2048, .bf16⟩
  | .hbm, ⟨9, _⟩ => ⟨S2048x8192, .bf16⟩
  | .local _ .vmem, ⟨0, _⟩ => ⟨S8192x2048, .fp8e4m3⟩
  | .local _ .vmem, ⟨1, _⟩ => ⟨S8192x64, .i8⟩
  | .local _ .vmem, ⟨2, _⟩ => ⟨S8192x2048, .bf16⟩
  | .local _ .vmem, ⟨3, _⟩ => ⟨S8192x64, .bf16⟩
  | _, _ => ⟨S8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Gate.lean ====
/-
  The products and the gate of one block of columns: what each of the two halves of a block of hidden activations, of
  gate gradients and of up gradients holds, as sums over the model dimension.
-/
module

public import proofs.«01_k».proof.Proof.Gen.ActIdeal.Skeleton
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.Proof.Gate

open Cert.ActIdeal Cert.ActIdeal.Gen Idealize.ShloMosaic Idealize.ShloMosaic.TcCoe Idealize.SL.Sem

/-- The logistic function as the reference writes it. -/
abbrev sg (g : EReal) : EReal := FloatOps.logistic (F := Ideal) (φ := .f32) g
/-- The constant one as both sides print it. -/
abbrev one : EReal := FloatOps.ofBits (F := Ideal) .f32 0x3F800000#32
/-- The hidden activation of a gate and an up value. -/
def hidden (g u : EReal) : EReal := g * sg g * u
/-- The gradient of the gate value. -/
def dgate (g u h : EReal) : EReal := h * u * sg g * (one + g * (one - sg g))
/-- The gradient of the up value. -/
def dup (g h : EReal) : EReal := h * (g * sg g)

/-- A row of `x` against a column of `w`. -/
def rowcol (x : FVec Ideal S512x2048 .bf16) (w : FVec Ideal S2048x512 .bf16) (p q : Fin 512) : EReal :=
  ∑ k : Fin 2048, (x (ix2 p k) : EReal) * w (ix2 k q)

/-- A block of hidden activations. -/
def hbB (xs : FVec Ideal S512x2048 .bf16) (wg wu : FVec Ideal S2048x512 .bf16) : FVec Ideal S512x512 .bf16 := fun y =>
  hidden (rowcol xs wg (y 0) (y 1)) (rowcol xs wu (y 0) (y 1))
/-- A block of gate gradients. -/
def dgB (xs dys : FVec Ideal S512x2048 .bf16) (wg wu wd : FVec Ideal S2048x512 .bf16) : FVec Ideal S512x512 .bf16 := fun y =>
  dgate (rowcol xs wg (y 0) (y 1)) (rowcol xs wu (y 0) (y 1)) (rowcol dys wd (y 0) (y 1))
/-- A block of up gradients. -/
def duB (xs dys : FVec Ideal S512x2048 .bf16) (wg wd : FVec Ideal S2048x512 .bf16) : FVec Ideal S512x512 .bf16 := fun y =>
  dup (rowcol xs wg (y 0) (y 1)) (rowcol dys wd (y 0) (y 1))

/-- The columns of one half. -/
theorem half_emb (o : Nat) (inb : ∀ a, (![0, o] : Fin 2 → Nat) a + (![512, 256] : Fin 2 → Nat) a ≤ S512x512.size a) (p : Fin 512) (q : Fin 256)
    (h : o + q.val < 512) : (Rect.unit (s := S512x512) ![0, o] ![512, 256] inb).emb (ix2 p q) = ix2 p ⟨o + q.val, h⟩ := by
  funext a; apply Fin.ext
  match a with
  | ⟨0, _⟩ => show 0 + 1 * p.val = p.val; omega
  | ⟨1, _⟩ => show o + 1 * q.val = o + q.val; omega

/-- One product of a half: the same row against the column of the whole block. -/
theorem prod_half (o : Nat) (inb : ∀ a, (![0, o] : Fin 2 → Nat) a + S2048x256.size a ≤ S2048x512.size a)
    (m : Memref sig .tc .vmem S2048x512 .bf16) (hm : m.IsWhole) (v x : FVec Ideal S512x2048 .bf16) (hv : v = x) (w : FVec Ideal S2048x512 .bf16)
    (p : Fin 512) (q : Fin 256) (h : o + q.val < 512) :
    k0_pay189 (F := Ideal) v (m.view.readAt (Elt Ideal) (Rect.unit (s := S2048x512) ![0, o] S2048x256.size inb).toLoadRect (hm.unread w)) (ix2 p q) = rowcol x w p ⟨o + q.val, h⟩ := by
  subst hv
  rw [View.readAt_eq_ld, hm.read_unread]
  have hw : ∀ k : Fin 2048, View.ld (Val := Elt Ideal) (e' := .bf16) w (Rect.unit (s := S2048x512) ![0, o] S2048x256.size inb) (ix2 k q) = w (ix2 k ⟨o + q.val, h⟩) := fun k => by
    show w _ = w _
    congr 1; funext a; apply Fin.ext
    match a with
    | ⟨0, _⟩ => show 0 + 1 * k.val = k.val; omega
    | ⟨1, _⟩ => show o + 1 * q.val = o + q.val; omega
  generalize View.ld (Val := Elt Ideal) (e' := .bf16) w (Rect.unit (s := S2048x512) ![0, o] S2048x256.size inb) = z at hw ⊢
  have : k0_pay189 (F := Ideal) v z (ix2 p q) = ∑ k : Fin 2048, (v (ix2 p k) : EReal) * z (ix2 k q) := by
    unfold_payloads
    pointwise
  rw [this]
  exact Finset.sum_congr rfl fun k _ => congrArg _ (hw k)

/-- A printed half of the hidden activations. -/
theorem hb_piece (o : Nat) (ho : o + 256 ≤ 512) (inb : ∀ a, (![0, o] : Fin 2 → Nat) a + S2048x256.size a ≤ S2048x512.size a)
    (m9 : Memref sig .tc .vmem S2048x512 .bf16) (hm9 : m9.IsWhole) (w9 : FVec Ideal S2048x512 .bf16) (m10 : Memref sig .tc .vmem S2048x512 .bf16) (hm10 : m10.IsWhole) (w10 : FVec Ideal S2048x512 .bf16)
    (v x : FVec Ideal S512x2048 .bf16) (hv : v = x) (inb' : ∀ a, (![0, o] : Fin 2 → Nat) a + (![512, 256] : Fin 2 → Nat) a ≤ S512x512.size a)
    (pay : (Rect.unit (s := S512x512) ![0, o] ![512, 256] inb').shape.Idx → EReal)
    (hpay : pay = k0_pay194 (F := Ideal) v (m9.view.readAt (Elt Ideal) (Rect.unit (s := S2048x512) ![0, o] S2048x256.size inb).toLoadRect (hm9.unread w9)) v (m10.view.readAt (Elt Ideal) (Rect.unit (s := S2048x512) ![0, o] S2048x256.size inb).toLoadRect (hm10.unread w10))) (y : (Rect.unit (s := S512x512) ![0, o] ![512, 256] inb').shape.Idx) :
    pay y = hbB x w9 w10 ((Rect.unit (s := S512x512) ![0, o] ![512, 256] inb').emb y) := by
  rw [hpay]
  obtain ⟨p, q, rfl⟩ : ∃ (p : Fin 512) (q : Fin 256), y = ix2 p q := ⟨y 0, y 1, eq_ix2 y⟩
  have h : o + q.val < 512 := by have := q.isLt; omega
  rw [half_emb o inb' p q h]
  show hidden (k0_pay189 (F := Ideal) v (m9.view.readAt (Elt Ideal) (Rect.unit (s := S2048x512) ![0, o] S2048x256.size inb).toLoadRect (hm9.unread w9)) (ix2 p q)) (k0_pay189 (F := Ideal) v (m10.view.readAt (Elt Ideal) (Rect.unit (s := S2048x512) ![0, o] S2048x256.size inb).toLoadRect (hm10.unread w10)) (ix2 p q)) =
    hidden (rowcol x w9 p ⟨o + q.val, h⟩) (rowcol x w10 p ⟨o + q.val, h⟩)
  rw [prod_half o inb m9 hm9 v x hv w9 p q h, prod_half o inb m10 hm10 v x hv w10 p q h]

/-- A printed half of the gate gradients. -/
theorem dg_piece (o : Nat) (ho : o + 256 ≤ 512) (inb : ∀ a, (![0, o] : Fin 2 → Nat) a + S2048x256.size a ≤ S2048x512.size a)
    (m9 : Memref sig .tc .vmem S2048x512 .bf16) (hm9 : m9.IsWhole) (w9 : FVec Ideal S2048x512 .bf16) (m10 : Memref sig .tc .vmem S2048x512 .bf16) (hm10 : m10.IsWhole) (w10 : FVec Ideal S2048x512 .bf16) (m11 : Memref sig .tc .vmem S2048x512 .bf16) (hm11 : m11.IsWhole) (w11 : FVec Ideal S2048x512 .bf16)
    (v x : FVec Ideal S512x2048 .bf16) (hv : v = x) (v1 x1 : FVec Ideal S512x2048 .bf16) (hv1 : v1 = x1) (inb' : ∀ a, (![0, o] : Fin 2 → Nat) a + (![512, 256] : Fin 2 → Nat) a ≤ S512x512.size a)
    (pay : (Rect.unit (s := S512x512) ![0, o] ![512, 256] inb').shape.Idx → EReal)
    (hpay : pay = k0_pay197 (F := Ideal) (k0_pay189 v (m9.view.readAt (Elt Ideal) (Rect.unit (s := S2048x512) ![0, o] S2048x256.size inb).toLoadRect (hm9.unread w9))) (k0_pay192 v (m9.view.readAt (Elt Ideal) (Rect.unit (s := S2048x512) ![0, o] S2048x256.size inb).toLoadRect (hm9.unread w9))) (k0_pay195 v (m9.view.readAt (Elt Ideal) (Rect.unit (s := S2048x512) ![0, o] S2048x256.size inb).toLoadRect (hm9.unread w9)) v (m10.view.readAt (Elt Ideal) (Rect.unit (s := S2048x512) ![0, o] S2048x256.size inb).toLoadRect (hm10.unread w10)) v1 (m11.view.readAt (Elt Ideal) (Rect.unit (s := S2048x512) ![0, o] S2048x256.size inb).toLoadRect (hm11.unread w11))) k0_pay196) (y : (Rect.unit (s := S512x512) ![0, o] ![512, 256] inb').shape.Idx) :
    pay y = dgB x x1 w9 w10 w11 ((Rect.unit (s := S512x512) ![0, o] ![512, 256] inb').emb y) := by
  rw [hpay]
  obtain ⟨p, q, rfl⟩ : ∃ (p : Fin 512) (q : Fin 256), y = ix2 p q := ⟨y 0, y 1, eq_ix2 y⟩
  have h : o + q.val < 512 := by have := q.isLt; omega
  rw [half_emb o inb' p q h]
  show dgate (k0_pay189 (F := Ideal) v (m9.view.readAt (Elt Ideal) (Rect.unit (s := S2048x512) ![0, o] S2048x256.size inb).toLoadRect (hm9.unread w9)) (ix2 p q)) (k0_pay189 (F := Ideal) v (m10.view.readAt (Elt Ideal) (Rect.unit (s := S2048x512) ![0, o] S2048x256.size inb).toLoadRect (hm10.unread w10)) (ix2 p q)) (k0_pay189 (F := Ideal) v1 (m11.view.readAt (Elt Ideal) (Rect.unit (s := S2048x512) ![0, o] S2048x256.size inb).toLoadRect (hm11.unread w11)) (ix2 p q)) =
    dgate (rowcol x w9 p ⟨o + q.val, h⟩) (rowcol x w10 p ⟨o + q.val, h⟩) (rowcol x1 w11 p ⟨o + q.val, h⟩)
  rw [prod_half o inb m9 hm9 v x hv w9 p q h, prod_half o inb m10 hm10 v x hv w10 p q h, prod_half o inb m11 hm11 v1 x1 hv1 w11 p q h]

/-- A printed half of the up gradients. -/
theorem du_piece (o : Nat) (ho : o + 256 ≤ 512) (inb : ∀ a, (![0, o] : Fin 2 → Nat) a + S2048x256.size a ≤ S2048x512.size a)
    (m9 : Memref sig .tc .vmem S2048x512 .bf16) (hm9 : m9.IsWhole) (w9 : FVec Ideal S2048x512 .bf16) (m11 : Memref sig .tc .vmem S2048x512 .bf16) (hm11 : m11.IsWhole) (w11 : FVec Ideal S2048x512 .bf16)
    (v x : FVec Ideal S512x2048 .bf16) (hv : v = x) (v1 x1 : FVec Ideal S512x2048 .bf16) (hv1 : v1 = x1) (inb' : ∀ a, (![0, o] : Fin 2 → Nat) a + (![512, 256] : Fin 2 → Nat) a ≤ S512x512.size a)
    (pay : (Rect.unit (s := S512x512) ![0, o] ![512, 256] inb').shape.Idx → EReal)
    (hpay : pay = k0_pay198 (F := Ideal) (k0_pay191 v1 (m11.view.readAt (Elt Ideal) (Rect.unit (s := S2048x512) ![0, o] S2048x256.size inb).toLoadRect (hm11.unread w11))) (k0_pay193 v (m9.view.readAt (Elt Ideal) (Rect.unit (s := S2048x512) ![0, o] S2048x256.size inb).toLoadRect (hm9.unread w9)))) (y : (Rect.unit (s := S512x512) ![0, o] ![512, 256] inb').shape.Idx) :
    pay y = duB x x1 w9 w11 ((Rect.unit (s := S512x512) ![0, o] ![512, 256] inb').emb y) := by
  rw [hpay]
  obtain ⟨p, q, rfl⟩ : ∃ (p : Fin 512) (q : Fin 256), y = ix2 p q := ⟨y 0, y 1, eq_ix2 y⟩
  have h : o + q.val < 512 := by have := q.isLt; omega
  rw [half_emb o inb' p q h]
  show dup (k0_pay189 (F := Ideal) v (m9.view.readAt (Elt Ideal) (Rect.unit (s := S2048x512) ![0, o] S2048x256.size inb).toLoadRect (hm9.unread w9)) (ix2 p q)) (k0_pay189 (F := Ideal) v1 (m11.view.readAt (Elt Ideal) (Rect.unit (s := S2048x512) ![0, o] S2048x256.size inb).toLoadRect (hm11.unread w11)) (ix2 p q)) =
    dup (rowcol x w9 p ⟨o + q.val, h⟩) (rowcol x1 w11 p ⟨o + q.val, h⟩)
  rw [prod_half o inb m9 hm9 v x hv w9 p q h, prod_half o inb m11 hm11 v1 x1 hv1 w11 p q h]

end Cert.Proof.Gate

end
-- ==== Proof.Spec.lean ====
/-
  What the middle of the layer computes, over the extended reals: codes by the scales of their groups, the gated hidden
  activations, their gradients, and the gradient of the input.
-/
module

public import proofs.«01_k».proof.Proof.Gate

@[expose] public section

set_option maxRecDepth 16384

noncomputable section

namespace Cert.Proof.Spec

open Idealize.ShloMosaic Cert.Proof.Gate

/-- The batch entry and the position of a row. -/
abbrev bat (r : Fin 49152) : Fin 12 := ⟨r.val / 4096, by omega⟩
abbrev pos (r : Fin 49152) : Fin 4096 := ⟨r.val % 4096, by omega⟩

/-- Codes by the scale of their thirty-two columns. -/
def deq (sc : BitVec 8 → EReal) (x : Fin 12 → Fin 4096 → Fin 2048 → EReal) (e : Fin 12 → Fin 4096 → Fin 64 → BitVec 8) (r : Fin 49152) (k : Fin 2048) : EReal :=
  x (bat r) (pos r) k * sc (e (bat r) (pos r) ⟨k.val / 32, by omega⟩)
/-- Codes by the scale of their thirty-two rows. -/
def deqT (sc : BitVec 8 → EReal) (x : Fin 12 → Fin 4096 → Fin 2048 → EReal) (e : Fin 12 → Fin 128 → Fin 2048 → BitVec 8) (r : Fin 49152) (k : Fin 2048) : EReal :=
  x (bat r) (pos r) k * sc (e (bat r) ⟨r.val % 4096 / 32, by omega⟩ k)

abbrev Rows := Fin 49152 → Fin 2048 → EReal
abbrev Wide := Fin 49152 → Fin 8192 → EReal

/-- Columns `o`, `o + 1`, … of the product of the rows with a matrix. -/
def prod {N : Nat} (X : Rows) (W : Fin 2048 → Fin N → EReal) (o : Nat) (h : o + 8192 ≤ N) : Wide := fun r f =>
  ∑ k : Fin 2048, X r k * W k ⟨o + f.val, by omega⟩

/-- The gate and the up values, and the gradient of the hidden activations. -/
abbrev gate (X : Rows) (W : Fin 2048 → Fin 16384 → EReal) : Wide := prod X W 0 (by omega)
abbrev up (X : Rows) (W : Fin 2048 → Fin 16384 → EReal) : Wide := prod X W 8192 (by omega)
abbrev down (D : Rows) (W : Fin 2048 → Fin 8192 → EReal) : Wide := prod D W 0 (by omega)

def hb (X : Rows) (W : Fin 2048 → Fin 16384 → EReal) : Wide := fun r f => hidden (gate X W r f) (up X W r f)
def dg (X D : Rows) (W : Fin 2048 → Fin 16384 → EReal) (Wd : Fin 2048 → Fin 8192 → EReal) : Wide := fun r f =>
  dgate (gate X W r f) (up X W r f) (down D Wd r f)
def du (X D : Rows) (W : Fin 2048 → Fin 16384 → EReal) (Wd : Fin 2048 → Fin 8192 → EReal) : Wide := fun r f =>
  dup (gate X W r f) (down D Wd r f)

/-- The share of one block of hidden columns in the gradient of the input. -/
def share (G U : Wide) (T : Fin 16384 → Fin 2048 → EReal) (r : Fin 49152) (j : Fin 2048) (f : Fin 16) : EReal :=
  (∑ k : Fin 512, G r ⟨512 * f.val + k.val, by omega⟩ * T ⟨512 * f.val + k.val, by omega⟩ j)
    + ∑ k : Fin 512, U r ⟨512 * f.val + k.val, by omega⟩ * T ⟨8192 + (512 * f.val + k.val), by omega⟩ j

/-- The gradient of the input: the two halves of the gradients against the two halves of the matrix. -/
def dx (G U : Wide) (T : Fin 16384 → Fin 2048 → EReal) : Rows := fun r j =>
  (∑ k : Fin 8192, G r k * T ⟨k.val, by omega⟩ j) + ∑ k : Fin 8192, U r k * T ⟨8192 + k.val, by omega⟩ j

/-- A sum over the hidden columns, block by block. -/
theorem sum_blocks (f : Fin 8192 → EReal) : (∑ s : Fin 16, ∑ k : Fin 512, f ⟨512 * s.val + k.val, by omega⟩) = ∑ k : Fin 8192, f k := by
  rw [← Fintype.sum_prod_type']
  refine Fintype.sum_equiv (finProdFinEquiv (m := 16) (n := 512)) _ _ fun p => congrArg f (Fin.ext ?_)
  show 512 * p.1.val + p.2.val = p.2.val + 512 * p.1.val
  omega

/-- The shares of the blocks add up to the gradient of the input. -/
theorem sum_share (G U : Wide) (T : Fin 16384 → Fin 2048 → EReal) (r : Fin 49152) (j : Fin 2048) : ∑ f : Fin 16, share G U T r j f = dx G U T r j := by
  unfold share dx
  rw [Finset.sum_add_distrib, sum_blocks fun k => G r k * T ⟨k.val, by omega⟩ j, sum_blocks fun k => U r k * T ⟨8192 + k.val, by omega⟩ j]

end Cert.Proof.Spec

end
-- ==== Proof.Pow2.lean ====
/-
  The power of two a biased exponent stands for: read from the bits of a float it is the same number as the exponential
  of the exponent less its bias, for every exponent of a normal float.
-/
module

public import Idealize.ShloMosaic.Lib.Pointwise

@[expose] public section

noncomputable section

namespace Cert.Proof.Pow2

open Idealize.ShloMosaic

/-- The float whose exponent field is the byte and whose other bits are zero. -/
def scale (e : BitVec 8) : EReal := Ideal.ofBits .f32 (IntOp.shli .vector (e.setWidth 32) 23#32)

/-- Two to the exponent less its bias. -/
def power (e : BitVec 8) : EReal := Ideal.exp2 (((IntOp.subi (e.setWidth 32) 127#32).toInt : ℝ) : EReal)

/-- The two agree at the exponents of normal floats. -/
theorem scale_eq_power (e : BitVec 8) (h1 : 1 ≤ e.toNat) (h2 : e.toNat ≤ 254) : scale e = power e := by
  have hs : IntOp.shli .vector (e.setWidth 32) 23#32 = e.setWidth 32 <<< 23 := rfl
  have hb : ∀ e : BitVec 8, ((e.setWidth 32 <<< 23).extractLsb' 31 1 == 1#1) = false
      ∧ ((e.setWidth 32 <<< 23).extractLsb' 23 8) = e ∧ ((e.setWidth 32 <<< 23).extractLsb' 0 23) = 0#23 := by decide +kernel
  have hp : (IntOp.subi (e.setWidth 32) 127#32).toInt = (e.toNat : ℤ) - 127 := by
    have : ∀ e : BitVec 8, (IntOp.subi (e.setWidth 32) 127#32).toInt = (e.toNat : ℤ) - 127 := by decide +kernel
    exact this e
  obtain ⟨ha, hx, hf⟩ := hb e
  unfold scale power
  rw [hs, hp, Ideal.exp2_coe]
  show Ideal.ieee 8 23 (e.setWidth 32 <<< 23) = _
  unfold Ideal.ieee
  simp only [show (8 + 23 : Nat) = 31 from rfl, ha, hx, hf]
  rw [if_neg (by omega), if_neg (by omega)]
  congr 1
  have e2 : Real.rpow 2 (((e.toNat : ℤ) - 127 : ℤ) : ℝ) = (2 : ℝ) ^ ((e.toNat : ℤ) - 127) := Real.rpow_intCast 2 _
  rw [e2]
  have e3 : ((e.toNat : ℤ) - 127) = 23 + ((e.toNat : ℤ) - (2 ^ (8 - 1) - 1) - ((23 : ℕ) : ℤ)) := by push_cast; ring
  rw [e3, zpow_add₀ (by norm_num)]
  simp
  left; norm_num

end Cert.Proof.Pow2

end
-- ==== Proof.Lanes.lean ====
/-
  The scale of a code is found by spreading a tile's exponents over its columns: every thirty-two columns share one
  exponent. The exponents are moved four rows at a time, as words; this module reads the spread byte by byte.
-/
module

public import proofs.«01_k».proof.Proof.Gen.ActIdeal.Skeleton
public import proofs.«01_k».proof.Proof.Pow2
public import Idealize.ShloMosaic.Lib.Pointwise
public import Idealize.ShloMosaic.Lib.BitcastFour

@[expose] public section

set_option maxRecDepth 16384

noncomputable section

namespace Cert.Proof.Lanes

open Cert.ActIdeal Cert.ActIdeal.Gen Idealize.ShloMosaic

/-- The lane each column reads, the first lane of a group of four added. -/
def lane (first : BitVec 32) : IVec S8x128 32 :=
  let v478 : IVec S8x128 32 := iota .tc S8x128 32 [1] iota_S8x128_d1_w32
  let v479 : IVec S8x128 32 := broadcast S8x128 32#32
  let v480 : IVec S8x128 32 := divsi v478 v479
  let v481 : IVec S8x128 32 := broadcast S8x128 0#32
  let v482 : IVec S8x128 1 := cmpi .sgt v478 v481
  let v483 : IVec S8x128 32 := extui 32 v482 natLt_1_32
  let v484 : IVec S8x128 32 := broadcast S8x128 0#32
  let v485 : IVec S8x128 1 := cmpi .slt v478 v484
  let v486 : IVec S8x128 32 := extui 32 v485 natLt_1_32
  let v487 : IVec S8x128 32 := subi v483 v486
  let v488 : BitVec 1 := Scalar.cmpi .sgt 32#32 0#32
  let v489 : BitVec 32 := Scalar.extui v488
  let v490 : BitVec 1 := Scalar.cmpi .slt 32#32 0#32
  let v491 : BitVec 32 := Scalar.extui v490
  let v492 : BitVec 32 := Scalar.subi v489 v491
  let v493 : IVec S8x128 32 := broadcast S8x128 v492
  let v494 : IVec S8x128 1 := cmpi .ne v487 v493
  let v495 : IVec S8x128 32 := broadcast S8x128 32#32
  let v496 : IVec S8x128 32 := remsi v478 v495
  let v497 : IVec S8x128 32 := broadcast S8x128 0#32
  let v498 : IVec S8x128 1 := cmpi .ne v496 v497
  let v499 : IVec S8x128 1 := andi v494 v498
  let v500 : IVec S8x128 32 := broadcast S8x128 1#32
  let v501 : IVec S8x128 32 := subi v480 v500
  let v502 : IVec S8x128 32 := select v499 v501 v480
  let v503 : IVec S8x128 32 := broadcast S8x128 first
  let v504 : IVec S8x128 32 := addi v502 v503
  let v505 : IVec S8x128 32 := broadcast S8x128 0#32
  let v506 : IVec S8x128 1 := cmpi .slt v504 v505
  let v507 : IVec S8x128 32 := broadcast S8x128 128#32
  let v508 : IVec S8x128 32 := addi v504 v507
  select v506 v508 v504

/-- A tile's exponents spread over its columns. -/
def spread (first : BitVec 32) (e : IVec S32x128 8) : IVec S32x128 8 :=
  bitcast S32x128 8 (dynamicGather 1 (bitcast S8x128 32 e bitcasts_S32x128_w8_S8x128_w32)
    (shapeCast S8x128 (shapeCast S8x128x1 (lane first) shapeCasts_S8x128_S8x128x1) shapeCasts_S8x128x1_S8x128))
    bitcasts_S8x128_w32_S32x128_w8

/-- Column `l` of a tile whose first group is `4 j` reads lane `l / 32 + 4 j`. -/
theorem lane_apply (j : Fin 32) (r : Fin 8) (l : Fin 128) :
    (lane (BitVec.ofNat 32 (4 * j.val)) (ix2 r l)).toNat = l.val / 32 + 4 * j.val := by
  have h : ∀ (j : Fin 32) (l : Fin 128), (lane (BitVec.ofNat 32 (4 * j.val)) (ix2 0 l)).toNat = l.val / 32 + 4 * j.val := by
    decide +kernel
  exact (show lane (BitVec.ofNat 32 (4 * j.val)) (ix2 r l) = lane (BitVec.ofNat 32 (4 * j.val)) (ix2 0 l) from rfl) ▸ h j l

/-- The spread, byte by byte. -/
theorem spread_apply (j : Fin 32) (e : IVec S32x128 8) (p : Fin 32) (l : Fin 128) :
    spread (BitVec.ofNat 32 (4 * j.val)) e (ix2 p l) = e (ix2 p ⟨l.val / 32 + 4 * j.val, by omega⟩) := by
  apply BitVec.eq_of_getLsbD_eq
  intro q hq
  unfold spread
  rw [bitcast_getLsbD _ _ _ q hq (by decide)]
  have hrow : S32x128.row (ix2 p l) = p.val := rfl
  have hsrc : ∀ (n : Nat) (hn : n = p.val / 4) (hp), bitcasts_S8x128_w32_S32x128_w8.srcIdx (ix2 p l) n hp
      = (ix2 (⟨p.val / 4, by omega⟩ : Fin 8) l : S8x128.Idx) := by
    intro n hn hp
    funext c
    match c with
    | ⟨0, _⟩ => exact Fin.ext ((Shape.Bitcasts.srcIdx_row _ _ _ _ ⟨0, Nat.zero_lt_two⟩ rfl).trans hn)
    | ⟨1, _⟩ => exact Fin.ext (Shape.Bitcasts.srcIdx_other _ _ _ _ ⟨1, Nat.one_lt_two⟩ (by show ¬ 1 + 2 = 2; omega))
  rw [hsrc _ (by rw [hrow]; omega), hrow]
  have hg : dynamicGather 1 (bitcast S8x128 32 e bitcasts_S32x128_w8_S8x128_w32)
      (shapeCast S8x128 (shapeCast S8x128x1 (lane (BitVec.ofNat 32 (4 * j.val))) shapeCasts_S8x128_S8x128x1) shapeCasts_S8x128x1_S8x128)
      (ix2 (⟨p.val / 4, by omega⟩ : Fin 8) l)
      = bitcast S8x128 32 e bitcasts_S32x128_w8_S8x128_w32 (ix2 (⟨p.val / 4, by omega⟩ : Fin 8) (⟨l.val / 32 + 4 * j.val, by omega⟩ : Fin 128)) := by
    pointwise
    have := lane_apply j ⟨p.val / 4, by omega⟩ l
    exact congrArg (fun z => bitcast S8x128 32 e bitcasts_S32x128_w8_S8x128_w32 (ix2 _ z)) (Fin.ext (by dsimp only; omega))
  rw [hg]
  have := bitcast_8_32_getLsbD_ix2 e bitcasts_S32x128_w8_S8x128_w32 (⟨p.val / 4, by omega⟩ : Fin 8) (⟨l.val / 32 + 4 * j.val, by omega⟩ : Fin 128)
    ((p.val * 8 + q) % 32) (by omega) p (by dsimp only; omega)
  refine Eq.trans this ?_
  have : (p.val * 8 + q) % 32 % 8 = q := by omega
  rw [this]
  rfl

/-- A tile of codes of the first format by its spread scales. -/
def tile4 (first : BitVec 32) (e : Vec Ideal S32x128 .i8) (x : Vec Ideal S32x128 .fp8e4m3) : FVec Ideal S32x128 .bf16 :=
  shapeCast S32x128 (mulf (extf .bf16 (shapeCast S32x128 x shapeCasts_S32x128_S32x128) bitsLt_fp8e4m3_bf16)
    (truncf .bf16 (bitcastToFloat .f32 (shli (extui 32 (spread first (shapeCast S32x128 e shapeCasts_S32x128_S32x128)) natLt_8_32)
      (broadcast S32x128 23#32))) bitsLt_bf16_f32)) shapeCasts_S32x128_S32x128

/-- A tile of codes of the second format by its spread scales. -/
def tile5 (first : BitVec 32) (e : Vec Ideal S32x128 .i8) (x : Vec Ideal S32x128 .fp8e5m2) : FVec Ideal S32x128 .bf16 :=
  shapeCast S32x128 (mulf (extf .bf16 (shapeCast S32x128 x shapeCasts_S32x128_S32x128) bitsLt_fp8e5m2_bf16)
    (truncf .bf16 (bitcastToFloat .f32 (shli (extui 32 (spread first (shapeCast S32x128 e shapeCasts_S32x128_S32x128)) natLt_8_32)
      (broadcast S32x128 23#32))) bitsLt_bf16_f32)) shapeCasts_S32x128_S32x128

theorem tile4_apply (j : Fin 32) (e : Vec Ideal S32x128 .i8) (x : Vec Ideal S32x128 .fp8e4m3) (p : Fin 32) (l : Fin 128) :
    tile4 (BitVec.ofNat 32 (4 * j.val)) e x (ix2 p l)
      = (x : FVec Ideal S32x128 .fp8e4m3) (ix2 p l) * Pow2.scale ((e : IVec S32x128 8) (ix2 p ⟨l.val / 32 + 4 * j.val, by omega⟩)) := by
  unfold tile4
  simp only [shapeCast_self]
  pointwise
  exact congrArg (fun z => _ * Pow2.scale z) (spread_apply j e p l)

theorem tile5_apply (j : Fin 32) (e : Vec Ideal S32x128 .i8) (x : Vec Ideal S32x128 .fp8e5m2) (p : Fin 32) (l : Fin 128) :
    tile5 (BitVec.ofNat 32 (4 * j.val)) e x (ix2 p l)
      = (x : FVec Ideal S32x128 .fp8e5m2) (ix2 p l) * Pow2.scale ((e : IVec S32x128 8) (ix2 p ⟨l.val / 32 + 4 * j.val, by omega⟩)) := by
  unfold tile5
  simp only [shapeCast_self]
  pointwise
  exact congrArg (fun z => _ * Pow2.scale z) (spread_apply j e p l)

end Cert.Proof.Lanes

end
-- ==== Proof.Trip.lean ====
/-
  One trip of the loop over a block's rows writes the dequantised codes of thirty-two rows, one tile of columns after
  another: each tile holds the codes by the scales of their groups.
-/
module

public import proofs.«01_k».proof.Proof.Gen.ActIdeal.Loops
public import proofs.«01_k».proof.Proof.Lanes
public import Idealize.ShloMosaic.Lib.Pipeline.ValueKit.Tiles
public import Idealize.ShloMosaic.Lib.Pipeline.ReadBack

@[expose] public section

set_option maxRecDepth 16384

noncomputable section

namespace Cert.Proof.Trip

open Cert.ActIdeal Cert.ActIdeal.Gen Idealize.ShloMosaic Idealize.ShloMosaic.TcCoe Idealize.SL.Sem
open Cert.Proof.Lanes

/-- Codes of the first format by the scales of their groups. -/
def rows4 (x : Vec Ideal S512x2048 .fp8e4m3) (e : Vec Ideal S512x128 .i8) : FVec Ideal S512x2048 .bf16 := fun y =>
  (x : FVec Ideal S512x2048 .fp8e4m3) y * Pow2.scale ((e : IVec S512x128 8) (ix2 (y 0) ⟨(y 1).val / 32, by have : (y 1).val < 2048 := (y 1).isLt; omega⟩))

/-- Codes of the second format by the scales of their groups, which lie behind those of the first. -/
def rows5 (x : Vec Ideal S512x2048 .fp8e5m2) (e : Vec Ideal S512x128 .i8) : FVec Ideal S512x2048 .bf16 := fun y =>
  (x : FVec Ideal S512x2048 .fp8e5m2) y * Pow2.scale ((e : IVec S512x128 8) (ix2 (y 0) ⟨64 + (y 1).val / 32, by have : (y 1).val < 2048 := (y 1).isLt; omega⟩))

/-- A printed tile is a block of the rows' dequantised codes. -/
theorem piece4 (arg2 : Memref sig .tc .vmem S512x2048 .fp8e4m3) (harg2 : arg2.IsWhole) (arg4 : Memref sig .tc .vmem S512x128 .i8) (harg4 : arg4.IsWhole)
    (x0 : Vec Ideal S512x2048 .fp8e4m3) (x2 : Vec Ideal S512x128 .i8) (j : Fin 16) (k : Fin k0_t1_loop.trips) {off off1 : Fin 2 → Nat}
    (hoff : off = ![32 * k.val, 128 * j.val]) (hoff1 : off1 = ![32 * k.val, 0]) (inb : ∀ a, off a + S32x128.size a ≤ S512x2048.size a)
    (inb1 : ∀ a, off1 a + S32x128.size a ≤ S512x128.size a)
    (pay : (Rect.unit (s := S512x2048) off ![32, 128] inb).shape.Idx → EReal)
    (hpay : pay = tile4 (BitVec.ofNat 32 (4 * j.val)) (arg4.view.readAt (Elt Ideal) (Rect.unit (s := S512x128) off1 S32x128.size inb1).toLoadRect (harg4.unread x2))
      (arg2.view.readAt (Elt Ideal) (Rect.unit (s := S512x2048) off S32x128.size inb).toLoadRect (harg2.unread x0)))
    (x : (Rect.unit (s := S512x2048) off ![32, 128] inb).shape.Idx) : pay x = rows4 x0 x2 ((Rect.unit (s := S512x2048) off ![32, 128] inb).emb x) := by
  have hk : k.val < 16 := Nat.lt_of_lt_of_le k.isLt k0_t1_abs.2.1
  subst hoff hoff1
  rw [hpay]
  simp only [View.readAt_eq_ld, harg2.read_unread, harg4.read_unread]
  obtain ⟨p, l, rfl⟩ : ∃ (p : Fin 32) (l : Fin 128), x = ix2 p l := ⟨x 0, x 1, eq_ix2 x⟩
  have hj : j.val < 16 := j.isLt
  have hl : l.val < 128 := l.isLt
  refine (tile4_apply ⟨j.val, by omega⟩ _ _ p l).trans ?_
  unfold rows4
  refine congr_arg₂ (· * ·) rfl (congrArg Pow2.scale (congrArg (x2 : IVec S512x128 8) ?_))
  funext a
  apply Fin.ext
  match a with
  | ⟨0, _⟩ => rfl
  | ⟨1, _⟩ => show 0 + 1 * (l.val / 32 + 4 * j.val) = (128 * j.val + 1 * l.val) / 32; omega

/-- A printed tile is a block of the rows' dequantised codes. -/
theorem piece5 (arg3 : Memref sig .tc .vmem S512x2048 .fp8e5m2) (harg3 : arg3.IsWhole) (arg4 : Memref sig .tc .vmem S512x128 .i8) (harg4 : arg4.IsWhole)
    (x1 : Vec Ideal S512x2048 .fp8e5m2) (x2 : Vec Ideal S512x128 .i8) (j : Fin 16) (k : Fin k0_t1_loop.trips) {off off1 : Fin 2 → Nat}
    (hoff : off = ![32 * k.val, 128 * j.val]) (hoff1 : off1 = ![32 * k.val, 0]) (inb : ∀ a, off a + S32x128.size a ≤ S512x2048.size a)
    (inb1 : ∀ a, off1 a + S32x128.size a ≤ S512x128.size a)
    (pay : (Rect.unit (s := S512x2048) off ![32, 128] inb).shape.Idx → EReal)
    (hpay : pay = tile5 (BitVec.ofNat 32 (4 * (16 + j.val))) (arg4.view.readAt (Elt Ideal) (Rect.unit (s := S512x128) off1 S32x128.size inb1).toLoadRect (harg4.unread x2))
      (arg3.view.readAt (Elt Ideal) (Rect.unit (s := S512x2048) off S32x128.size inb).toLoadRect (harg3.unread x1)))
    (x : (Rect.unit (s := S512x2048) off ![32, 128] inb).shape.Idx) : pay x = rows5 x1 x2 ((Rect.unit (s := S512x2048) off ![32, 128] inb).emb x) := by
  have hk : k.val < 16 := Nat.lt_of_lt_of_le k.isLt k0_t1_abs.2.1
  subst hoff hoff1
  rw [hpay]
  simp only [View.readAt_eq_ld, harg3.read_unread, harg4.read_unread]
  obtain ⟨p, l, rfl⟩ : ∃ (p : Fin 32) (l : Fin 128), x = ix2 p l := ⟨x 0, x 1, eq_ix2 x⟩
  have hj : j.val < 16 := j.isLt
  have hl : l.val < 128 := l.isLt
  refine (tile5_apply ⟨(16 + j.val), by omega⟩ _ _ p l).trans ?_
  unfold rows5
  refine congr_arg₂ (· * ·) rfl (congrArg Pow2.scale (congrArg (x2 : IVec S512x128 8) ?_))
  funext a
  apply Fin.ext
  match a with
  | ⟨0, _⟩ => rfl
  | ⟨1, _⟩ => show 0 + 1 * (l.val / 32 + 4 * (16 + j.val)) = 64 + (128 * j.val + 1 * l.val) / 32; omega

theorem off1_eq : ∀ k : Fin k0_t1_loop.trips, k0_off1 k = ![32 * k.val, 0] := by decide +kernel
theorem inb1 (k : Fin k0_t1_loop.trips) : ∀ a, k0_off1 k a + S32x128.size a ≤ S512x128.size a := by
  have hk : k.val < 16 := Nat.lt_of_lt_of_le k.isLt k0_t1_abs.2.1
  rw [off1_eq k]
  intro a
  match a with
  | ⟨0, _⟩ => show 32 * k.val + 32 ≤ 512; omega
  | ⟨1, _⟩ => show 0 + 128 ≤ 128; omega

theorem off2_eq : ∀ k : Fin k0_t1_loop.trips, k0_off2 k = ![32 * k.val, 128 * ((0 : Fin 16) : Nat)] := by decide +kernel
theorem off3_eq : ∀ k : Fin k0_t1_loop.trips, k0_off3 k = ![32 * k.val, 128 * ((1 : Fin 16) : Nat)] := by decide +kernel
theorem off4_eq : ∀ k : Fin k0_t1_loop.trips, k0_off4 k = ![32 * k.val, 128 * ((2 : Fin 16) : Nat)] := by decide +kernel
theorem off5_eq : ∀ k : Fin k0_t1_loop.trips, k0_off5 k = ![32 * k.val, 128 * ((3 : Fin 16) : Nat)] := by decide +kernel
theorem off6_eq : ∀ k : Fin k0_t1_loop.trips, k0_off6 k = ![32 * k.val, 128 * ((4 : Fin 16) : Nat)] := by decide +kernel
theorem off7_eq : ∀ k : Fin k0_t1_loop.trips, k0_off7 k = ![32 * k.val, 128 * ((5 : Fin 16) : Nat)] := by decide +kernel
theorem off8_eq : ∀ k : Fin k0_t1_loop.trips, k0_off8 k = ![32 * k.val, 128 * ((6 : Fin 16) : Nat)] := by decide +kernel
theorem off9_eq : ∀ k : Fin k0_t1_loop.trips, k0_off9 k = ![32 * k.val, 128 * ((7 : Fin 16) : Nat)] := by decide +kernel
theorem off10_eq : ∀ k : Fin k0_t1_loop.trips, k0_off10 k = ![32 * k.val, 128 * ((8 : Fin 16) : Nat)] := by decide +kernel
theorem off11_eq : ∀ k : Fin k0_t1_loop.trips, k0_off11 k = ![32 * k.val, 128 * ((9 : Fin 16) : Nat)] := by decide +kernel
theorem off12_eq : ∀ k : Fin k0_t1_loop.trips, k0_off12 k = ![32 * k.val, 128 * ((10 : Fin 16) : Nat)] := by decide +kernel
theorem off13_eq : ∀ k : Fin k0_t1_loop.trips, k0_off13 k = ![32 * k.val, 128 * ((11 : Fin 16) : Nat)] := by decide +kernel
theorem off14_eq : ∀ k : Fin k0_t1_loop.trips, k0_off14 k = ![32 * k.val, 128 * ((12 : Fin 16) : Nat)] := by decide +kernel
theorem off15_eq : ∀ k : Fin k0_t1_loop.trips, k0_off15 k = ![32 * k.val, 128 * ((13 : Fin 16) : Nat)] := by decide +kernel
theorem off16_eq : ∀ k : Fin k0_t1_loop.trips, k0_off16 k = ![32 * k.val, 128 * ((14 : Fin 16) : Nat)] := by decide +kernel
theorem off17_eq : ∀ k : Fin k0_t1_loop.trips, k0_off17 k = ![32 * k.val, 128 * ((15 : Fin 16) : Nat)] := by decide +kernel

/-- Every tile one trip writes is a block of the dequantised codes. -/
theorem trip4 (𝒱 : Variants) (c : Dev nD) (bd : Option 𝒱.V) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (k0_h1 : k0_cond1 i = 1#1)  (x0 : Vec Ideal S512x2048 .fp8e4m3) (x1 : Vec Ideal S512x2048 .fp8e5m2) (x2 : Vec Ideal S512x128 .i8) (k : Fin k0_t1_loop.trips) :
    View.PiecesOf (Val := Elt Ideal) (e := .bf16) (rows4 x0 x2) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 (harg2.unread x0) (harg3.unread x1) (harg4.unread x2) k).1 := by
  dsimp only
  unfold trip_k0_t1
  dsimp only
  exact ⟨piece4 arg2 harg2 arg4 harg4 x0 x2 15 k (off17_eq k) (off1_eq k) _ (inb1 k) _ rfl, piece4 arg2 harg2 arg4 harg4 x0 x2 14 k (off16_eq k) (off1_eq k) _ (inb1 k) _ rfl, piece4 arg2 harg2 arg4 harg4 x0 x2 13 k (off15_eq k) (off1_eq k) _ (inb1 k) _ rfl, piece4 arg2 harg2 arg4 harg4 x0 x2 12 k (off14_eq k) (off1_eq k) _ (inb1 k) _ rfl, piece4 arg2 harg2 arg4 harg4 x0 x2 11 k (off13_eq k) (off1_eq k) _ (inb1 k) _ rfl, piece4 arg2 harg2 arg4 harg4 x0 x2 10 k (off12_eq k) (off1_eq k) _ (inb1 k) _ rfl, piece4 arg2 harg2 arg4 harg4 x0 x2 9 k (off11_eq k) (off1_eq k) _ (inb1 k) _ rfl, piece4 arg2 harg2 arg4 harg4 x0 x2 8 k (off10_eq k) (off1_eq k) _ (inb1 k) _ rfl, piece4 arg2 harg2 arg4 harg4 x0 x2 7 k (off9_eq k) (off1_eq k) _ (inb1 k) _ rfl, piece4 arg2 harg2 arg4 harg4 x0 x2 6 k (off8_eq k) (off1_eq k) _ (inb1 k) _ rfl, piece4 arg2 harg2 arg4 harg4 x0 x2 5 k (off7_eq k) (off1_eq k) _ (inb1 k) _ rfl, piece4 arg2 harg2 arg4 harg4 x0 x2 4 k (off6_eq k) (off1_eq k) _ (inb1 k) _ rfl, piece4 arg2 harg2 arg4 harg4 x0 x2 3 k (off5_eq k) (off1_eq k) _ (inb1 k) _ rfl, piece4 arg2 harg2 arg4 harg4 x0 x2 2 k (off4_eq k) (off1_eq k) _ (inb1 k) _ rfl, piece4 arg2 harg2 arg4 harg4 x0 x2 1 k (off3_eq k) (off1_eq k) _ (inb1 k) _ rfl, piece4 arg2 harg2 arg4 harg4 x0 x2 0 k (off2_eq k) (off1_eq k) _ (inb1 k) _ rfl, trivial⟩

/-- Every tile one trip writes is a block of the dequantised codes. -/
theorem trip5 (𝒱 : Variants) (c : Dev nD) (bd : Option 𝒱.V) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (k0_h1 : k0_cond1 i = 1#1)  (x0 : Vec Ideal S512x2048 .fp8e4m3) (x1 : Vec Ideal S512x2048 .fp8e5m2) (x2 : Vec Ideal S512x128 .i8) (k : Fin k0_t1_loop.trips) :
    View.PiecesOf (Val := Elt Ideal) (e := .bf16) (rows5 x1 x2) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 (harg2.unread x0) (harg3.unread x1) (harg4.unread x2) k).2 := by
  dsimp only
  unfold trip_k0_t1
  dsimp only
  exact ⟨piece5 arg3 harg3 arg4 harg4 x1 x2 15 k (off17_eq k) (off1_eq k) _ (inb1 k) _ rfl, piece5 arg3 harg3 arg4 harg4 x1 x2 14 k (off16_eq k) (off1_eq k) _ (inb1 k) _ rfl, piece5 arg3 harg3 arg4 harg4 x1 x2 13 k (off15_eq k) (off1_eq k) _ (inb1 k) _ rfl, piece5 arg3 harg3 arg4 harg4 x1 x2 12 k (off14_eq k) (off1_eq k) _ (inb1 k) _ rfl, piece5 arg3 harg3 arg4 harg4 x1 x2 11 k (off13_eq k) (off1_eq k) _ (inb1 k) _ rfl, piece5 arg3 harg3 arg4 harg4 x1 x2 10 k (off12_eq k) (off1_eq k) _ (inb1 k) _ rfl, piece5 arg3 harg3 arg4 harg4 x1 x2 9 k (off11_eq k) (off1_eq k) _ (inb1 k) _ rfl, piece5 arg3 harg3 arg4 harg4 x1 x2 8 k (off10_eq k) (off1_eq k) _ (inb1 k) _ rfl, piece5 arg3 harg3 arg4 harg4 x1 x2 7 k (off9_eq k) (off1_eq k) _ (inb1 k) _ rfl, piece5 arg3 harg3 arg4 harg4 x1 x2 6 k (off8_eq k) (off1_eq k) _ (inb1 k) _ rfl, piece5 arg3 harg3 arg4 harg4 x1 x2 5 k (off7_eq k) (off1_eq k) _ (inb1 k) _ rfl, piece5 arg3 harg3 arg4 harg4 x1 x2 4 k (off6_eq k) (off1_eq k) _ (inb1 k) _ rfl, piece5 arg3 harg3 arg4 harg4 x1 x2 3 k (off5_eq k) (off1_eq k) _ (inb1 k) _ rfl, piece5 arg3 harg3 arg4 harg4 x1 x2 2 k (off4_eq k) (off1_eq k) _ (inb1 k) _ rfl, piece5 arg3 harg3 arg4 harg4 x1 x2 1 k (off3_eq k) (off1_eq k) _ (inb1 k) _ rfl, piece5 arg3 harg3 arg4 harg4 x1 x2 0 k (off2_eq k) (off1_eq k) _ (inb1 k) _ rfl, trivial⟩

end Cert.Proof.Trip

end
-- ==== Proof.Columns.lean ====
/-
  The transposed copies of the codes, dequantised: sixteen tiles of thirty-two rows, each by its row of scales, one below
  another and transposed.
-/
module

public import proofs.«01_k».proof.Proof.Gen.ActIdeal.Skeleton
public import proofs.«01_k».proof.Proof.Pow2
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.Proof.Columns

open Cert.ActIdeal Cert.ActIdeal.Gen Idealize.ShloMosaic Idealize.ShloMosaic.TcCoe Idealize.SL.Sem

theorem inb32 (n : Fin 16) : ∀ a, (![32 * n.val, 0] : Fin 2 → Nat) a + S32x128.size a ≤ S512x128.size a := fun a => by
  have := n.isLt
  match a with
  | ⟨0, _⟩ => show 32 * n.val + 32 ≤ 512; omega
  | ⟨1, _⟩ => show 0 + 128 ≤ 128; omega
theorem inb16 (n : Fin 16) : ∀ a, (![n.val, 0] : Fin 2 → Nat) a + S1x128.size a ≤ S16x128.size a := fun a => by
  have := n.isLt
  match a with
  | ⟨0, _⟩ => show n.val + 1 ≤ 16; omega
  | ⟨1, _⟩ => show 0 + 128 ≤ 128; omega

/-- Sixteen tiles one below another. -/
def stack (f : Fin 16 → FVec Ideal S32x128 .bf16) : FVec Ideal S512x128 .bf16 :=
  concatenate S512x128 0 [⟨S32x128, f 0⟩, ⟨S32x128, f 1⟩, ⟨S32x128, f 2⟩, ⟨S32x128, f 3⟩, ⟨S32x128, f 4⟩, ⟨S32x128, f 5⟩, ⟨S32x128, f 6⟩, ⟨S32x128, f 7⟩, ⟨S32x128, f 8⟩, ⟨S32x128, f 9⟩, ⟨S32x128, f 10⟩, ⟨S32x128, f 11⟩, ⟨S32x128, f 12⟩, ⟨S32x128, f 13⟩, ⟨S32x128, f 14⟩, ⟨S32x128, f 15⟩]
    concatenates_S32x128_S32x128_S32x128_S32x128_S32x128_S32x128_S32x128_S32x128_S32x128_S32x128_S32x128_S32x128_S32x128_S32x128_S32x128_S32x128_S512x128_d0

theorem stack_apply (f : Fin 16 → FVec Ideal S32x128 .bf16) (r : Fin 512) (q : Fin 128) (n : Fin 16) (p : Fin 32) (hn : r.val / 32 = n.val) (hp : p.val = r.val % 32) :
    stack f (ix2 r q) = f n (ix2 p q) :=
  concatenate_ofFn_apply (α := EReal) (t := S512x128) (s₁ := S32x128) 0 (N := 16) f
    concatenates_S32x128_S32x128_S32x128_S32x128_S32x128_S32x128_S32x128_S32x128_S32x128_S32x128_S32x128_S32x128_S32x128_S32x128_S32x128_S32x128_S512x128_d0
    rfl 32 rfl (ix2 r q) n hn (ix2 p q) hp fun b hb => by
      match b with
      | ⟨0, _⟩ => exact absurd rfl hb
      | ⟨1, _⟩ => rfl

/-- Codes by the scale of the thirty-two rows they lie in, rows and columns exchanged. -/
def cols4 (x : Vec Ideal S512x128 .fp8e4m3) (e : Vec Ideal S16x128 .i8) : FVec Ideal S128x512 .bf16 := fun y =>
  (x : FVec Ideal S512x128 .fp8e4m3) (ix2 (y 1) (y 0)) * Pow2.scale ((e : IVec S16x128 8) (ix2 ⟨(y 1).val / 32, by have : (y 1).val < 512 := (y 1).isLt; omega⟩ (y 0)))

/-- Thirty-two rows of codes by their row of scales. -/
theorem tile4_apply (v : Vec Ideal S32x128 .fp8e4m3) (e : Vec Ideal S1x128 .i8) (p : Fin 32) (q : Fin 128) :
    k0_pay158 (F := Ideal) v e (ix2 p q) = (v : FVec Ideal S32x128 .fp8e4m3) (ix2 p q) * Pow2.scale ((e : IVec S1x128 8) (ix2 0 q)) := by
  unfold_payloads
  unfold Pow2.scale
  pointwise

/-- The sixteen tiles of a block. -/
def part4 (mc : Memref sig .tc .vmem S512x128 .fp8e4m3) (hmc : mc.IsWhole) (me : Memref sig .tc .vmem S16x128 .i8) (hme : me.IsWhole)
    (x : Vec Ideal S512x128 .fp8e4m3) (e : Vec Ideal S16x128 .i8) (n : Fin 16) : FVec Ideal S32x128 .bf16 :=
  k0_pay158 (F := Ideal) (mc.view.readAt (Elt Ideal) (Rect.unit (s := S512x128) ![32 * n.val, 0] S32x128.size (inb32 n)).toLoadRect (hmc.unread x))
    (me.view.readAt (Elt Ideal) (Rect.unit (s := S16x128) ![n.val, 0] S1x128.size (inb16 n)).toLoadRect (hme.unread e))

theorem part4_apply (mc : Memref sig .tc .vmem S512x128 .fp8e4m3) (hmc : mc.IsWhole) (me : Memref sig .tc .vmem S16x128 .i8) (hme : me.IsWhole)
    (x : Vec Ideal S512x128 .fp8e4m3) (e : Vec Ideal S16x128 .i8) (n : Fin 16) (p : Fin 32) (q : Fin 128) (r : Fin 512) (hr : r.val = 32 * n.val + p.val) :
    part4 mc hmc me hme x e n (ix2 p q) = (x : FVec Ideal S512x128 .fp8e4m3) (ix2 r q) * Pow2.scale ((e : IVec S16x128 8) (ix2 n q)) := by
  unfold part4
  rw [tile4_apply, View.readAt_eq_ld, View.readAt_eq_ld, hmc.read_unread, hme.read_unread]
  refine congr_arg₂ (· * ·) (congrArg (x : FVec Ideal S512x128 .fp8e4m3) ?_) (congrArg Pow2.scale (congrArg (e : IVec S16x128 8) ?_))
  · funext a; apply Fin.ext
    match a with
    | ⟨0, _⟩ => show 32 * n.val + 1 * p.val = r.val; omega
    | ⟨1, _⟩ => show 0 + 1 * q.val = q.val; omega
  · funext a; apply Fin.ext
    match a with
    | ⟨0, _⟩ => show n.val + 1 * 0 = n.val; omega
    | ⟨1, _⟩ => show 0 + 1 * q.val = q.val; omega

/-- The sixteen tiles one below another, rows and columns exchanged. -/
theorem stack4 (mc : Memref sig .tc .vmem S512x128 .fp8e4m3) (hmc : mc.IsWhole) (me : Memref sig .tc .vmem S16x128 .i8) (hme : me.IsWhole)
    (x : Vec Ideal S512x128 .fp8e4m3) (e : Vec Ideal S16x128 .i8) (pay : FVec Ideal S128x512 .bf16)
    (hpay : pay = transpose S128x512 [1, 0] (stack (part4 mc hmc me hme x e)) transposes_S512x128_p1_0_S128x512) :
    pay = cols4 x e := by
  rw [hpay]
  funext y
  obtain ⟨q, r, rfl⟩ : ∃ (q : Fin 128) (r : Fin 512), y = ix2 q r := ⟨y 0, y 1, eq_ix2 y⟩
  have hr := r.isLt
  have ht : transpose S128x512 [1, 0] (stack (part4 mc hmc me hme x e)) transposes_S512x128_p1_0_S128x512 (ix2 q r) = stack (part4 mc hmc me hme x e) (ix2 r q) := by
    generalize stack (part4 mc hmc me hme x e) = z
    pointwise
  rw [ht, stack_apply _ r q ⟨r.val / 32, by omega⟩ ⟨r.val % 32, by omega⟩ rfl rfl,
    part4_apply mc hmc me hme x e ⟨r.val / 32, by omega⟩ ⟨r.val % 32, by omega⟩ q r (by show r.val = 32 * (r.val / 32) + r.val % 32; omega)]
  rfl

/-- Codes by the scale of the thirty-two rows they lie in, rows and columns exchanged. -/
def cols5 (x : Vec Ideal S512x128 .fp8e5m2) (e : Vec Ideal S16x128 .i8) : FVec Ideal S128x512 .bf16 := fun y =>
  (x : FVec Ideal S512x128 .fp8e5m2) (ix2 (y 1) (y 0)) * Pow2.scale ((e : IVec S16x128 8) (ix2 ⟨(y 1).val / 32, by have : (y 1).val < 512 := (y 1).isLt; omega⟩ (y 0)))

/-- Thirty-two rows of codes by their row of scales. -/
theorem tile5_apply (v : Vec Ideal S32x128 .fp8e5m2) (e : Vec Ideal S1x128 .i8) (p : Fin 32) (q : Fin 128) :
    k0_pay179 (F := Ideal) v e (ix2 p q) = (v : FVec Ideal S32x128 .fp8e5m2) (ix2 p q) * Pow2.scale ((e : IVec S1x128 8) (ix2 0 q)) := by
  unfold_payloads
  unfold Pow2.scale
  pointwise

/-- The sixteen tiles of a block. -/
def part5 (mc : Memref sig .tc .vmem S512x128 .fp8e5m2) (hmc : mc.IsWhole) (me : Memref sig .tc .vmem S16x128 .i8) (hme : me.IsWhole)
    (x : Vec Ideal S512x128 .fp8e5m2) (e : Vec Ideal S16x128 .i8) (n : Fin 16) : FVec Ideal S32x128 .bf16 :=
  k0_pay179 (F := Ideal) (mc.view.readAt (Elt Ideal) (Rect.unit (s := S512x128) ![32 * n.val, 0] S32x128.size (inb32 n)).toLoadRect (hmc.unread x))
    (me.view.readAt (Elt Ideal) (Rect.unit (s := S16x128) ![n.val, 0] S1x128.size (inb16 n)).toLoadRect (hme.unread e))

theorem part5_apply (mc : Memref sig .tc .vmem S512x128 .fp8e5m2) (hmc : mc.IsWhole) (me : Memref sig .tc .vmem S16x128 .i8) (hme : me.IsWhole)
    (x : Vec Ideal S512x128 .fp8e5m2) (e : Vec Ideal S16x128 .i8) (n : Fin 16) (p : Fin 32) (q : Fin 128) (r : Fin 512) (hr : r.val = 32 * n.val + p.val) :
    part5 mc hmc me hme x e n (ix2 p q) = (x : FVec Ideal S512x128 .fp8e5m2) (ix2 r q) * Pow2.scale ((e : IVec S16x128 8) (ix2 n q)) := by
  unfold part5
  rw [tile5_apply, View.readAt_eq_ld, View.readAt_eq_ld, hmc.read_unread, hme.read_unread]
  refine congr_arg₂ (· * ·) (congrArg (x : FVec Ideal S512x128 .fp8e5m2) ?_) (congrArg Pow2.scale (congrArg (e : IVec S16x128 8) ?_))
  · funext a; apply Fin.ext
    match a with
    | ⟨0, _⟩ => show 32 * n.val + 1 * p.val = r.val; omega
    | ⟨1, _⟩ => show 0 + 1 * q.val = q.val; omega
  · funext a; apply Fin.ext
    match a with
    | ⟨0, _⟩ => show n.val + 1 * 0 = n.val; omega
    | ⟨1, _⟩ => show 0 + 1 * q.val = q.val; omega

/-- The sixteen tiles one below another, rows and columns exchanged. -/
theorem stack5 (mc : Memref sig .tc .vmem S512x128 .fp8e5m2) (hmc : mc.IsWhole) (me : Memref sig .tc .vmem S16x128 .i8) (hme : me.IsWhole)
    (x : Vec Ideal S512x128 .fp8e5m2) (e : Vec Ideal S16x128 .i8) (pay : FVec Ideal S128x512 .bf16)
    (hpay : pay = transpose S128x512 [1, 0] (stack (part5 mc hmc me hme x e)) transposes_S512x128_p1_0_S128x512) :
    pay = cols5 x e := by
  rw [hpay]
  funext y
  obtain ⟨q, r, rfl⟩ : ∃ (q : Fin 128) (r : Fin 512), y = ix2 q r := ⟨y 0, y 1, eq_ix2 y⟩
  have hr := r.isLt
  have ht : transpose S128x512 [1, 0] (stack (part5 mc hmc me hme x e)) transposes_S512x128_p1_0_S128x512 (ix2 q r) = stack (part5 mc hmc me hme x e) (ix2 r q) := by
    generalize stack (part5 mc hmc me hme x e) = z
    pointwise
  rw [ht, stack_apply _ r q ⟨r.val / 32, by omega⟩ ⟨r.val % 32, by omega⟩ rfl rfl,
    part5_apply mc hmc me hme x e ⟨r.val / 32, by omega⟩ ⟨r.val % 32, by omega⟩ q r (by show r.val = 32 * (r.val / 32) + r.val % 32; omega)]
  rfl

end Cert.Proof.Columns

end
-- ==== Proof.Args.lean ====
/-
  The blocks a grid point works on, as parts of the arguments.
-/
module

public import proofs.«01_k».proof.Proof.Gen.ActIdeal.Frame.Runs
public import proofs.«01_k».proof.Proof.Spec
public import Idealize.ShloMosaic.Lib.Claim
public import Idealize.ShloMosaic.Lib.StableHlo.Run
public import proofs.«01_k».proof.Proof.Trip
public import proofs.«01_k».proof.Proof.Columns

@[expose] public section

set_option maxRecDepth 16384

noncomputable section

namespace Cert.Proof.Args

open Cert.ActIdeal Cert.ActIdeal.Gen Idealize.ShloMosaic Idealize.ShloMosaic.TcCoe Idealize.ShloMosaic.Tactic Idealize.SL.Sem
open Cert.Proof.Spec

variable (m : (ℓ : Loc nD τ sig) → Buf (Elt Ideal) ℓ) (c : Dev nD)

abbrev a0 : FVec Ideal S12x4096x2048 .fp8e4m3 := m ((c : Thread nD τ).loc main_arg0)
abbrev a1 : IVec S12x4096x64 8 := m ((c : Thread nD τ).loc main_arg1)
abbrev a2 : FVec Ideal S12x4096x2048 .fp8e4m3 := m ((c : Thread nD τ).loc main_arg2)
abbrev a3 : IVec S12x128x2048 8 := m ((c : Thread nD τ).loc main_arg3)
abbrev a4 : FVec Ideal S12x4096x2048 .fp8e5m2 := m ((c : Thread nD τ).loc main_arg4)
abbrev a5 : IVec S12x4096x64 8 := m ((c : Thread nD τ).loc main_arg5)
abbrev a6 : FVec Ideal S12x4096x2048 .fp8e5m2 := m ((c : Thread nD τ).loc main_arg6)
abbrev a7 : IVec S12x128x2048 8 := m ((c : Thread nD τ).loc main_arg7)
abbrev a8 : FVec Ideal S2048x16384 .bf16 := m ((c : Thread nD τ).loc main_arg8)
abbrev a9 : FVec Ideal S16384x2048 .bf16 := m ((c : Thread nD τ).loc main_arg9)
abbrev a10 : FVec Ideal S2048x8192 .bf16 := m ((c : Thread nD τ).loc main_arg10)

/-- The rows of the inputs and of the output gradients, dequantised. -/
abbrev X : Rows := deq Pow2.scale (fun b s k => a0 m c (ix3 b s k)) (fun b s k => a1 m c (ix3 b s k))
abbrev D : Rows := deq Pow2.scale (fun b s k => a4 m c (ix3 b s k)) (fun b s k => a5 m c (ix3 b s k))
/-- The copies quantised along the positions, dequantised. -/
abbrev XT : Rows := deqT Pow2.scale (fun b s k => a2 m c (ix3 b s k)) (fun b s k => a3 m c (ix3 b s k))
abbrev DT : Rows := deqT Pow2.scale (fun b s k => a6 m c (ix3 b s k)) (fun b s k => a7 m c (ix3 b s k))
abbrev W : Fin 2048 → Fin 16384 → EReal := fun k f => a8 m c (ix2 k f)
abbrev Wt : Fin 16384 → Fin 2048 → EReal := fun k f => a9 m c (ix2 k f)
abbrev Wd : Fin 2048 → Fin 8192 → EReal := fun k f => a10 m c (ix2 k f)

theorem V0 : (V m c main_v0 : FVec Ideal S49152x2048 .fp8e4m3) = shapeCast S49152x2048 (a0 m c) shapeCasts_S12x4096x2048_S49152x2048 := by
  unfold_abbrev_sides; after_results; rfl
theorem V1 : (V m c main_v1 : FVec Ideal S49152x2048 .fp8e5m2) = shapeCast S49152x2048 (a4 m c) shapeCasts_S12x4096x2048_S49152x2048 := by
  unfold_abbrev_sides; after_results; rfl
theorem V2 : (V m c main_v2 : FVec Ideal S49152x2048 .fp8e4m3) = shapeCast S49152x2048 (a2 m c) shapeCasts_S12x4096x2048_S49152x2048 := by
  unfold_abbrev_sides; after_results; rfl
theorem V3 : (V m c main_v3 : FVec Ideal S49152x2048 .fp8e5m2) = shapeCast S49152x2048 (a6 m c) shapeCasts_S12x4096x2048_S49152x2048 := by
  unfold_abbrev_sides; after_results; rfl
theorem V4 : (V m c main_v4 : IVec S1536x2048 8) = shapeCast S1536x2048 (a3 m c) shapeCasts_S12x128x2048_S1536x2048 := by
  unfold_abbrev_sides; after_results; rfl
theorem V5 : (V m c main_v5 : IVec S1536x2048 8) = shapeCast S1536x2048 (a7 m c) shapeCasts_S12x128x2048_S1536x2048 := by
  unfold_abbrev_sides; after_results; rfl
theorem V8 : (V m c main_v8 : IVec S49152x128 8) = concatenate S49152x128 1 [⟨S49152x64, shapeCast S49152x64 (a1 m c) shapeCasts_S12x4096x64_S49152x64⟩,
    ⟨S49152x64, shapeCast S49152x64 (a5 m c) shapeCasts_S12x4096x64_S49152x64⟩] concatenates_S49152x64_S49152x64_S49152x128_d1 := by
  unfold_abbrev_sides; after_results; rfl

theorem cast_rows {α : Type} (x : S12x4096x2048.Idx → α) (r : Fin 49152) (k : Fin 2048) :
    shapeCast S49152x2048 x shapeCasts_S12x4096x2048_S49152x2048 (ix2 r k) = x (ix3 (bat r) (pos r) k) :=
  shapeCast_apply x shapeCasts_S12x4096x2048_S49152x2048 (ix2 r k) (ix3 (bat r) (pos r) k) (by
    rewrite [Shape.rowMajor_val_three, Shape.rowMajor_val_two]
    show (r.val / 4096 * 4096 + r.val % 4096) * 2048 + k.val = r.val * 2048 + k.val
    omega)
theorem cast_lanes {α : Type} (x : S12x4096x64.Idx → α) (r : Fin 49152) (k : Fin 64) :
    shapeCast S49152x64 x shapeCasts_S12x4096x64_S49152x64 (ix2 r k) = x (ix3 (bat r) (pos r) k) :=
  shapeCast_apply x shapeCasts_S12x4096x64_S49152x64 (ix2 r k) (ix3 (bat r) (pos r) k) (by
    rewrite [Shape.rowMajor_val_three, Shape.rowMajor_val_two]
    show (r.val / 4096 * 4096 + r.val % 4096) * 64 + k.val = r.val * 64 + k.val
    omega)
theorem cast_groups {α : Type} (x : S12x128x2048.Idx → α) (r : Fin 1536) (k : Fin 2048) :
    shapeCast S1536x2048 x shapeCasts_S12x128x2048_S1536x2048 (ix2 r k) = x (ix3 ⟨r.val / 128, by omega⟩ ⟨r.val % 128, by omega⟩ k) :=
  shapeCast_apply x shapeCasts_S12x128x2048_S1536x2048 (ix2 r k) (ix3 ⟨r.val / 128, by omega⟩ ⟨r.val % 128, by omega⟩ k) (by
    rewrite [Shape.rowMajor_val_three, Shape.rowMajor_val_two]
    show (r.val / 128 * 128 + r.val % 128) * 2048 + k.val = r.val * 2048 + k.val
    omega)
theorem cat_left {α : Type} (x y : S49152x64.Idx → α) (r : Fin 49152) (k : Fin 128) (h : k.val < 64) :
    concatenate S49152x128 1 [⟨S49152x64, x⟩, ⟨S49152x64, y⟩] concatenates_S49152x64_S49152x64_S49152x128_d1 (ix2 r k) = x (ix2 r ⟨k.val, h⟩) := by
  pointwise
  exact dif_pos h
theorem cat_right {α : Type} (x y : S49152x64.Idx → α) (r : Fin 49152) (k : Fin 128) (h : 64 ≤ k.val) :
    concatenate S49152x128 1 [⟨S49152x64, x⟩, ⟨S49152x64, y⟩] concatenates_S49152x64_S49152x64_S49152x128_d1 (ix2 r k) = y (ix2 r ⟨k.val - 64, by omega⟩) := by
  pointwise
  exact dif_neg (by omega)

theorem index0 : ∀ t : Fin cfg0.N, win0_0.index t (0 : Fin 2) = t.val / 16 ∧ win0_0.index t (1 : Fin 2) = 0 := (by decide +kernel : ∀ t : Fin grid0.N, _)
theorem index1 : ∀ t : Fin cfg0.N, win0_1.index t (0 : Fin 2) = t.val / 16 ∧ win0_1.index t (1 : Fin 2) = 0 := (by decide +kernel : ∀ t : Fin grid0.N, _)
theorem index2 : ∀ t : Fin cfg0.N, win0_2.index t (0 : Fin 2) = t.val / 16 ∧ win0_2.index t (1 : Fin 2) = 0 := (by decide +kernel : ∀ t : Fin grid0.N, _)
theorem index3 : ∀ t : Fin cfg0.N, win0_3.index t (0 : Fin 2) = t.val / 16 ∧ win0_3.index t (1 : Fin 2) = t.val % 16 := (by decide +kernel : ∀ t : Fin grid0.N, _)
theorem index4 : ∀ t : Fin cfg0.N, win0_4.index t (0 : Fin 2) = t.val / 16 ∧ win0_4.index t (1 : Fin 2) = t.val % 16 := (by decide +kernel : ∀ t : Fin grid0.N, _)
theorem index5 : ∀ t : Fin cfg0.N, win0_5.index t (0 : Fin 2) = t.val / 16 ∧ win0_5.index t (1 : Fin 2) = t.val % 16 := (by decide +kernel : ∀ t : Fin grid0.N, _)
theorem index6 : ∀ t : Fin cfg0.N, win0_6.index t (0 : Fin 2) = t.val / 16 ∧ win0_6.index t (1 : Fin 2) = t.val % 16 := (by decide +kernel : ∀ t : Fin grid0.N, _)
theorem index7 : ∀ t : Fin cfg0.N, win0_7.index t (0 : Fin 2) = 0 ∧ win0_7.index t (1 : Fin 2) = t.val % 16 := (by decide +kernel : ∀ t : Fin grid0.N, _)
theorem index8 : ∀ t : Fin cfg0.N, win0_8.index t (0 : Fin 2) = 0 ∧ win0_8.index t (1 : Fin 2) = t.val % 16 + 16 := (by decide +kernel : ∀ t : Fin grid0.N, _)
theorem index9 : ∀ t : Fin cfg0.N, win0_9.index t (0 : Fin 2) = 0 ∧ win0_9.index t (1 : Fin 2) = t.val % 16 := (by decide +kernel : ∀ t : Fin grid0.N, _)
theorem index10 : ∀ t : Fin cfg0.N, win0_10.index t (0 : Fin 2) = t.val % 16 ∧ win0_10.index t (1 : Fin 2) = 0 := (by decide +kernel : ∀ t : Fin grid0.N, _)
theorem index11 : ∀ t : Fin cfg0.N, win0_11.index t (0 : Fin 2) = t.val % 16 + 16 ∧ win0_11.index t (1 : Fin 2) = 0 := (by decide +kernel : ∀ t : Fin grid0.N, _)

/-- A point's row, global. -/
abbrev row (t : Fin cfg0.N) (p : Fin 512) : Fin 49152 := ⟨512 * (t.val / 16) + p.val, by have := t.isLt; have h : cfg0.N = 1536 := N_0; omega⟩
/-- A point's column of the hidden dimension, global. -/
abbrev col (t : Fin cfg0.N) (q : Fin 512) : Fin 8192 := ⟨512 * (t.val % 16) + q.val, by omega⟩
/-- A point's column of the transposed copies, global. -/
abbrev tcol (t : Fin cfg0.N) (q : Fin 128) : Fin 2048 := ⟨128 * (t.val % 16) + q.val, by omega⟩

theorem blk0 (t : Fin cfg0.N) (p : Fin 512) (q : Fin 2048) (r : Fin 49152) (k : Fin 2048) (hr : r.val = 512 * (t.val / 16) + p.val) (hk : k.val = q.val) :
    (iblk m c 0 t : FVec Ideal S512x2048 .fp8e4m3) (ix2 p q) = (V m c main_v0 : FVec Ideal S49152x2048 .fp8e4m3) (ix2 r k) := by
  show (V m c main_v0 : FVec Ideal S49152x2048 .fp8e4m3) _ = (V m c main_v0 : FVec Ideal S49152x2048 .fp8e4m3) _
  refine congrArg (V m c main_v0 : FVec Ideal S49152x2048 .fp8e4m3) (funext fun a => Fin.ext ?_)
  obtain ⟨h0, h1⟩ := index0 t
  match a with
  | ⟨0, _⟩ => show win0_0.index t (0 : Fin 2) * 512 + 1 * p.val = r.val; rw [h0, hr]; omega
  | ⟨1, _⟩ => show win0_0.index t (1 : Fin 2) * 2048 + 1 * q.val = k.val; rw [h1, hk]; omega

theorem blk1 (t : Fin cfg0.N) (p : Fin 512) (q : Fin 2048) (r : Fin 49152) (k : Fin 2048) (hr : r.val = 512 * (t.val / 16) + p.val) (hk : k.val = q.val) :
    (iblk m c 1 t : FVec Ideal S512x2048 .fp8e5m2) (ix2 p q) = (V m c main_v1 : FVec Ideal S49152x2048 .fp8e5m2) (ix2 r k) := by
  show (V m c main_v1 : FVec Ideal S49152x2048 .fp8e5m2) _ = (V m c main_v1 : FVec Ideal S49152x2048 .fp8e5m2) _
  refine congrArg (V m c main_v1 : FVec Ideal S49152x2048 .fp8e5m2) (funext fun a => Fin.ext ?_)
  obtain ⟨h0, h1⟩ := index1 t
  match a with
  | ⟨0, _⟩ => show win0_1.index t (0 : Fin 2) * 512 + 1 * p.val = r.val; rw [h0, hr]; omega
  | ⟨1, _⟩ => show win0_1.index t (1 : Fin 2) * 2048 + 1 * q.val = k.val; rw [h1, hk]; omega

theorem blk2 (t : Fin cfg0.N) (p : Fin 512) (q : Fin 128) (r : Fin 49152) (k : Fin 128) (hr : r.val = 512 * (t.val / 16) + p.val) (hk : k.val = q.val) :
    (iblk m c 2 t : IVec S512x128 8) (ix2 p q) = (V m c main_v8 : IVec S49152x128 8) (ix2 r k) := by
  show (V m c main_v8 : IVec S49152x128 8) _ = (V m c main_v8 : IVec S49152x128 8) _
  refine congrArg (V m c main_v8 : IVec S49152x128 8) (funext fun a => Fin.ext ?_)
  obtain ⟨h0, h1⟩ := index2 t
  match a with
  | ⟨0, _⟩ => show win0_2.index t (0 : Fin 2) * 512 + 1 * p.val = r.val; rw [h0, hr]; omega
  | ⟨1, _⟩ => show win0_2.index t (1 : Fin 2) * 128 + 1 * q.val = k.val; rw [h1, hk]; omega

theorem blk3 (t : Fin cfg0.N) (p : Fin 512) (q : Fin 128) (r : Fin 49152) (k : Fin 2048) (hr : r.val = 512 * (t.val / 16) + p.val) (hk : k.val = 128 * (t.val % 16) + q.val) :
    (iblk m c 3 t : FVec Ideal S512x128 .fp8e4m3) (ix2 p q) = (V m c main_v2 : FVec Ideal S49152x2048 .fp8e4m3) (ix2 r k) := by
  show (V m c main_v2 : FVec Ideal S49152x2048 .fp8e4m3) _ = (V m c main_v2 : FVec Ideal S49152x2048 .fp8e4m3) _
  refine congrArg (V m c main_v2 : FVec Ideal S49152x2048 .fp8e4m3) (funext fun a => Fin.ext ?_)
  obtain ⟨h0, h1⟩ := index3 t
  match a with
  | ⟨0, _⟩ => show win0_3.index t (0 : Fin 2) * 512 + 1 * p.val = r.val; rw [h0, hr]; omega
  | ⟨1, _⟩ => show win0_3.index t (1 : Fin 2) * 128 + 1 * q.val = k.val; rw [h1, hk]; omega

theorem blk4 (t : Fin cfg0.N) (p : Fin 16) (q : Fin 128) (r : Fin 1536) (k : Fin 2048) (hr : r.val = 16 * (t.val / 16) + p.val) (hk : k.val = 128 * (t.val % 16) + q.val) :
    (iblk m c 4 t : IVec S16x128 8) (ix2 p q) = (V m c main_v4 : IVec S1536x2048 8) (ix2 r k) := by
  show (V m c main_v4 : IVec S1536x2048 8) _ = (V m c main_v4 : IVec S1536x2048 8) _
  refine congrArg (V m c main_v4 : IVec S1536x2048 8) (funext fun a => Fin.ext ?_)
  obtain ⟨h0, h1⟩ := index4 t
  match a with
  | ⟨0, _⟩ => show win0_4.index t (0 : Fin 2) * 16 + 1 * p.val = r.val; rw [h0, hr]; omega
  | ⟨1, _⟩ => show win0_4.index t (1 : Fin 2) * 128 + 1 * q.val = k.val; rw [h1, hk]; omega

theorem blk5 (t : Fin cfg0.N) (p : Fin 512) (q : Fin 128) (r : Fin 49152) (k : Fin 2048) (hr : r.val = 512 * (t.val / 16) + p.val) (hk : k.val = 128 * (t.val % 16) + q.val) :
    (iblk m c 5 t : FVec Ideal S512x128 .fp8e5m2) (ix2 p q) = (V m c main_v3 : FVec Ideal S49152x2048 .fp8e5m2) (ix2 r k) := by
  show (V m c main_v3 : FVec Ideal S49152x2048 .fp8e5m2) _ = (V m c main_v3 : FVec Ideal S49152x2048 .fp8e5m2) _
  refine congrArg (V m c main_v3 : FVec Ideal S49152x2048 .fp8e5m2) (funext fun a => Fin.ext ?_)
  obtain ⟨h0, h1⟩ := index5 t
  match a with
  | ⟨0, _⟩ => show win0_5.index t (0 : Fin 2) * 512 + 1 * p.val = r.val; rw [h0, hr]; omega
  | ⟨1, _⟩ => show win0_5.index t (1 : Fin 2) * 128 + 1 * q.val = k.val; rw [h1, hk]; omega

theorem blk6 (t : Fin cfg0.N) (p : Fin 16) (q : Fin 128) (r : Fin 1536) (k : Fin 2048) (hr : r.val = 16 * (t.val / 16) + p.val) (hk : k.val = 128 * (t.val % 16) + q.val) :
    (iblk m c 6 t : IVec S16x128 8) (ix2 p q) = (V m c main_v5 : IVec S1536x2048 8) (ix2 r k) := by
  show (V m c main_v5 : IVec S1536x2048 8) _ = (V m c main_v5 : IVec S1536x2048 8) _
  refine congrArg (V m c main_v5 : IVec S1536x2048 8) (funext fun a => Fin.ext ?_)
  obtain ⟨h0, h1⟩ := index6 t
  match a with
  | ⟨0, _⟩ => show win0_6.index t (0 : Fin 2) * 16 + 1 * p.val = r.val; rw [h0, hr]; omega
  | ⟨1, _⟩ => show win0_6.index t (1 : Fin 2) * 128 + 1 * q.val = k.val; rw [h1, hk]; omega

theorem blk7 (t : Fin cfg0.N) (p : Fin 2048) (q : Fin 512) (r : Fin 2048) (k : Fin 16384) (hr : r.val = p.val) (hk : k.val = 512 * (t.val % 16) + q.val) :
    (iblk m c 7 t : FVec Ideal S2048x512 .bf16) (ix2 p q) = (V m c main_arg8 : FVec Ideal S2048x16384 .bf16) (ix2 r k) := by
  show (V m c main_arg8 : FVec Ideal S2048x16384 .bf16) _ = (V m c main_arg8 : FVec Ideal S2048x16384 .bf16) _
  refine congrArg (V m c main_arg8 : FVec Ideal S2048x16384 .bf16) (funext fun a => Fin.ext ?_)
  obtain ⟨h0, h1⟩ := index7 t
  match a with
  | ⟨0, _⟩ => show win0_7.index t (0 : Fin 2) * 2048 + 1 * p.val = r.val; rw [h0, hr]; omega
  | ⟨1, _⟩ => show win0_7.index t (1 : Fin 2) * 512 + 1 * q.val = k.val; rw [h1, hk]; omega

theorem blk8 (t : Fin cfg0.N) (p : Fin 2048) (q : Fin 512) (r : Fin 2048) (k : Fin 16384) (hr : r.val = p.val) (hk : k.val = 8192 + (512 * (t.val % 16) + q.val)) :
    (iblk m c 8 t : FVec Ideal S2048x512 .bf16) (ix2 p q) = (V m c main_arg8 : FVec Ideal S2048x16384 .bf16) (ix2 r k) := by
  show (V m c main_arg8 : FVec Ideal S2048x16384 .bf16) _ = (V m c main_arg8 : FVec Ideal S2048x16384 .bf16) _
  refine congrArg (V m c main_arg8 : FVec Ideal S2048x16384 .bf16) (funext fun a => Fin.ext ?_)
  obtain ⟨h0, h1⟩ := index8 t
  match a with
  | ⟨0, _⟩ => show win0_8.index t (0 : Fin 2) * 2048 + 1 * p.val = r.val; rw [h0, hr]; omega
  | ⟨1, _⟩ => show win0_8.index t (1 : Fin 2) * 512 + 1 * q.val = k.val; rw [h1, hk]; omega

theorem blk9 (t : Fin cfg0.N) (p : Fin 2048) (q : Fin 512) (r : Fin 2048) (k : Fin 8192) (hr : r.val = p.val) (hk : k.val = 512 * (t.val % 16) + q.val) :
    (iblk m c 9 t : FVec Ideal S2048x512 .bf16) (ix2 p q) = (V m c main_arg10 : FVec Ideal S2048x8192 .bf16) (ix2 r k) := by
  show (V m c main_arg10 : FVec Ideal S2048x8192 .bf16) _ = (V m c main_arg10 : FVec Ideal S2048x8192 .bf16) _
  refine congrArg (V m c main_arg10 : FVec Ideal S2048x8192 .bf16) (funext fun a => Fin.ext ?_)
  obtain ⟨h0, h1⟩ := index9 t
  match a with
  | ⟨0, _⟩ => show win0_9.index t (0 : Fin 2) * 2048 + 1 * p.val = r.val; rw [h0, hr]; omega
  | ⟨1, _⟩ => show win0_9.index t (1 : Fin 2) * 512 + 1 * q.val = k.val; rw [h1, hk]; omega

theorem blk10 (t : Fin cfg0.N) (p : Fin 512) (q : Fin 2048) (r : Fin 16384) (k : Fin 2048) (hr : r.val = 512 * (t.val % 16) + p.val) (hk : k.val = q.val) :
    (iblk m c 10 t : FVec Ideal S512x2048 .bf16) (ix2 p q) = (V m c main_arg9 : FVec Ideal S16384x2048 .bf16) (ix2 r k) := by
  show (V m c main_arg9 : FVec Ideal S16384x2048 .bf16) _ = (V m c main_arg9 : FVec Ideal S16384x2048 .bf16) _
  refine congrArg (V m c main_arg9 : FVec Ideal S16384x2048 .bf16) (funext fun a => Fin.ext ?_)
  obtain ⟨h0, h1⟩ := index10 t
  match a with
  | ⟨0, _⟩ => show win0_10.index t (0 : Fin 2) * 512 + 1 * p.val = r.val; rw [h0, hr]; omega
  | ⟨1, _⟩ => show win0_10.index t (1 : Fin 2) * 2048 + 1 * q.val = k.val; rw [h1, hk]; omega

theorem blk11 (t : Fin cfg0.N) (p : Fin 512) (q : Fin 2048) (r : Fin 16384) (k : Fin 2048) (hr : r.val = 8192 + (512 * (t.val % 16) + p.val)) (hk : k.val = q.val) :
    (iblk m c 11 t : FVec Ideal S512x2048 .bf16) (ix2 p q) = (V m c main_arg9 : FVec Ideal S16384x2048 .bf16) (ix2 r k) := by
  show (V m c main_arg9 : FVec Ideal S16384x2048 .bf16) _ = (V m c main_arg9 : FVec Ideal S16384x2048 .bf16) _
  refine congrArg (V m c main_arg9 : FVec Ideal S16384x2048 .bf16) (funext fun a => Fin.ext ?_)
  obtain ⟨h0, h1⟩ := index11 t
  match a with
  | ⟨0, _⟩ => show win0_11.index t (0 : Fin 2) * 512 + 1 * p.val = r.val; rw [h0, hr]; omega
  | ⟨1, _⟩ => show win0_11.index t (1 : Fin 2) * 2048 + 1 * q.val = k.val; rw [h1, hk]; omega

end Cert.Proof.Args

end
-- ==== Proof.Widen.lean ====
/-
  The arrays the reference's first step leaves: the codes as they are, and two to the exponents less their bias.
-/
module

public import proofs.«01_k».proof.Proof.Pow2
public import proofs.«01_k».proof.Proof.Gen.ActRefIdeal.Run
public import Idealize.ShloMosaic.Lib.Pipeline.Value
public import Idealize.ShloMosaic.Lib.Affine

@[expose] public section

set_option maxRecDepth 16384

noncomputable section

namespace Cert.Proof.Wide

open Cert.ActRefIdeal Cert.ActRefIdeal.Gen Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The one grid point. -/
def t₀ : Fin cfg0.N := ⟨0, by decide⟩

theorem hz : (![0, 0, 0] : Fin 3 → Nat) = fun _ => 0 := funext fun a => by fin_cases a <;> rfl

theorem final0 : ((cfg0.win (8 : Fin 16)).blk t₀).view.read (Elt Ideal) ((dats (F := Ideal) m 0 c).arrAt (8 : Fin 16) cfg0.N) = (dats (F := Ideal) m 0 c).flushed (8 : Fin 16) t₀ := by
  rw [show cfg0.N = (t₀ : Fin cfg0.N).val + 1 from rfl, (dats (F := Ideal) m 0 c).arrAt_succ (8 : Fin 16) t₀]
  rw [show (cfg0.win (8 : Fin 16)).flush t₀ = true from by decide, if_pos rfl]
  exact View.read_write_univ _ _
theorem value0 : Cert.ActRefIdeal.Value.reg_main_v0_0 m c = k0_pay4 (F := Ideal) (m ((c : Thread nD τ).loc main_arg0)) := by
  have ho := final0 m c
  have hzo : (fun a => (win0_8.index t₀) a * main_v0_0.ty.shape.size a) = fun _ => 0 := funext fun a => by fin_cases a <;> decide
  have hro := fun f => Memref.read_access_unit_zero (Elt Ideal) main_v0_0 hzo (fun a => by fin_cases a <;> decide) f
  have hzi : (fun a => (win0_0.index t₀) a * main_arg0.ty.shape.size a) = fun _ => 0 := funext fun a => by fin_cases a <;> decide
  have hri := fun f => Memref.read_access_unit_zero (Elt Ideal) main_arg0 hzi (fun a => by fin_cases a <;> decide) f
  rw [hro] at ho
  unfold Cert.ActRefIdeal.Value.reg_main_v0_0
  rw [ho]
  show (cfg0.win 8).cut _ ((dats (F := Ideal) m 0 c).after 8 t₀) = _
  rw [after0_8]
  unfold out0_8
  rw [View.canon_unit_zero hz, View.ld_unit_zero hz]
  unfold iblk
  rw [hri]
  rfl
theorem r0_at (i : S12x4096x2048.Idx) : ((Cert.ActRefIdeal.Value.reg_main_v0_0 m c : FVec Ideal S12x4096x2048 .bf16) i : EReal) = (m ((c : Thread nD τ).loc main_arg0) : FVec Ideal S12x4096x2048 .fp8e4m3) i := by
  rw [value0]; rfl

theorem final1 : ((cfg0.win (9 : Fin 16)).blk t₀).view.read (Elt Ideal) ((dats (F := Ideal) m 0 c).arrAt (9 : Fin 16) cfg0.N) = (dats (F := Ideal) m 0 c).flushed (9 : Fin 16) t₀ := by
  rw [show cfg0.N = (t₀ : Fin cfg0.N).val + 1 from rfl, (dats (F := Ideal) m 0 c).arrAt_succ (9 : Fin 16) t₀]
  rw [show (cfg0.win (9 : Fin 16)).flush t₀ = true from by decide, if_pos rfl]
  exact View.read_write_univ _ _
theorem value1 : Cert.ActRefIdeal.Value.reg_main_v0_1 m c = k0_pay5 (F := Ideal) (m ((c : Thread nD τ).loc main_arg4)) := by
  have ho := final1 m c
  have hzo : (fun a => (win0_9.index t₀) a * main_v0_1.ty.shape.size a) = fun _ => 0 := funext fun a => by fin_cases a <;> decide
  have hro := fun f => Memref.read_access_unit_zero (Elt Ideal) main_v0_1 hzo (fun a => by fin_cases a <;> decide) f
  have hzi : (fun a => (win0_1.index t₀) a * main_arg4.ty.shape.size a) = fun _ => 0 := funext fun a => by fin_cases a <;> decide
  have hri := fun f => Memref.read_access_unit_zero (Elt Ideal) main_arg4 hzi (fun a => by fin_cases a <;> decide) f
  rw [hro] at ho
  unfold Cert.ActRefIdeal.Value.reg_main_v0_1
  rw [ho]
  show (cfg0.win 9).cut _ ((dats (F := Ideal) m 0 c).after 9 t₀) = _
  rw [after0_9]
  unfold out0_9
  rw [View.canon_unit_zero hz, View.ld_unit_zero hz]
  unfold iblk
  rw [hri]
  rfl
theorem r1_at (i : S12x4096x2048.Idx) : ((Cert.ActRefIdeal.Value.reg_main_v0_1 m c : FVec Ideal S12x4096x2048 .bf16) i : EReal) = (m ((c : Thread nD τ).loc main_arg4) : FVec Ideal S12x4096x2048 .fp8e5m2) i := by
  rw [value1]; rfl

theorem final2 : ((cfg0.win (10 : Fin 16)).blk t₀).view.read (Elt Ideal) ((dats (F := Ideal) m 0 c).arrAt (10 : Fin 16) cfg0.N) = (dats (F := Ideal) m 0 c).flushed (10 : Fin 16) t₀ := by
  rw [show cfg0.N = (t₀ : Fin cfg0.N).val + 1 from rfl, (dats (F := Ideal) m 0 c).arrAt_succ (10 : Fin 16) t₀]
  rw [show (cfg0.win (10 : Fin 16)).flush t₀ = true from by decide, if_pos rfl]
  exact View.read_write_univ _ _
theorem value2 : Cert.ActRefIdeal.Value.reg_main_v0_2 m c = k0_pay6 (F := Ideal) (m ((c : Thread nD τ).loc main_arg2)) := by
  have ho := final2 m c
  have hzo : (fun a => (win0_10.index t₀) a * main_v0_2.ty.shape.size a) = fun _ => 0 := funext fun a => by fin_cases a <;> decide
  have hro := fun f => Memref.read_access_unit_zero (Elt Ideal) main_v0_2 hzo (fun a => by fin_cases a <;> decide) f
  have hzi : (fun a => (win0_2.index t₀) a * main_arg2.ty.shape.size a) = fun _ => 0 := funext fun a => by fin_cases a <;> decide
  have hri := fun f => Memref.read_access_unit_zero (Elt Ideal) main_arg2 hzi (fun a => by fin_cases a <;> decide) f
  rw [hro] at ho
  unfold Cert.ActRefIdeal.Value.reg_main_v0_2
  rw [ho]
  show (cfg0.win 10).cut _ ((dats (F := Ideal) m 0 c).after 10 t₀) = _
  rw [after0_10]
  unfold out0_10
  rw [View.canon_unit_zero hz, View.ld_unit_zero hz]
  unfold iblk
  rw [hri]
  rfl
theorem r2_at (i : S12x4096x2048.Idx) : ((Cert.ActRefIdeal.Value.reg_main_v0_2 m c : FVec Ideal S12x4096x2048 .bf16) i : EReal) = (m ((c : Thread nD τ).loc main_arg2) : FVec Ideal S12x4096x2048 .fp8e4m3) i := by
  rw [value2]; rfl

theorem final3 : ((cfg0.win (11 : Fin 16)).blk t₀).view.read (Elt Ideal) ((dats (F := Ideal) m 0 c).arrAt (11 : Fin 16) cfg0.N) = (dats (F := Ideal) m 0 c).flushed (11 : Fin 16) t₀ := by
  rw [show cfg0.N = (t₀ : Fin cfg0.N).val + 1 from rfl, (dats (F := Ideal) m 0 c).arrAt_succ (11 : Fin 16) t₀]
  rw [show (cfg0.win (11 : Fin 16)).flush t₀ = true from by decide, if_pos rfl]
  exact View.read_write_univ _ _
theorem value3 : Cert.ActRefIdeal.Value.reg_main_v0_3 m c = k0_pay7 (F := Ideal) (m ((c : Thread nD τ).loc main_arg6)) := by
  have ho := final3 m c
  have hzo : (fun a => (win0_11.index t₀) a * main_v0_3.ty.shape.size a) = fun _ => 0 := funext fun a => by fin_cases a <;> decide
  have hro := fun f => Memref.read_access_unit_zero (Elt Ideal) main_v0_3 hzo (fun a => by fin_cases a <;> decide) f
  have hzi : (fun a => (win0_3.index t₀) a * main_arg6.ty.shape.size a) = fun _ => 0 := funext fun a => by fin_cases a <;> decide
  have hri := fun f => Memref.read_access_unit_zero (Elt Ideal) main_arg6 hzi (fun a => by fin_cases a <;> decide) f
  rw [hro] at ho
  unfold Cert.ActRefIdeal.Value.reg_main_v0_3
  rw [ho]
  show (cfg0.win 11).cut _ ((dats (F := Ideal) m 0 c).after 11 t₀) = _
  rw [after0_11]
  unfold out0_11
  rw [View.canon_unit_zero hz, View.ld_unit_zero hz]
  unfold iblk
  rw [hri]
  rfl
theorem r3_at (i : S12x4096x2048.Idx) : ((Cert.ActRefIdeal.Value.reg_main_v0_3 m c : FVec Ideal S12x4096x2048 .bf16) i : EReal) = (m ((c : Thread nD τ).loc main_arg6) : FVec Ideal S12x4096x2048 .fp8e5m2) i := by
  rw [value3]; rfl

theorem final4 : ((cfg0.win (12 : Fin 16)).blk t₀).view.read (Elt Ideal) ((dats (F := Ideal) m 0 c).arrAt (12 : Fin 16) cfg0.N) = (dats (F := Ideal) m 0 c).flushed (12 : Fin 16) t₀ := by
  rw [show cfg0.N = (t₀ : Fin cfg0.N).val + 1 from rfl, (dats (F := Ideal) m 0 c).arrAt_succ (12 : Fin 16) t₀]
  rw [show (cfg0.win (12 : Fin 16)).flush t₀ = true from by decide, if_pos rfl]
  exact View.read_write_univ _ _
theorem value4 : Cert.ActRefIdeal.Value.reg_main_v0_4 m c = k0_pay8 (F := Ideal) (m ((c : Thread nD τ).loc main_arg1)) := by
  have ho := final4 m c
  have hzo : (fun a => (win0_12.index t₀) a * main_v0_4.ty.shape.size a) = fun _ => 0 := funext fun a => by fin_cases a <;> decide
  have hro := fun f => Memref.read_access_unit_zero (Elt Ideal) main_v0_4 hzo (fun a => by fin_cases a <;> decide) f
  have hzi : (fun a => (win0_4.index t₀) a * main_arg1.ty.shape.size a) = fun _ => 0 := funext fun a => by fin_cases a <;> decide
  have hri := fun f => Memref.read_access_unit_zero (Elt Ideal) main_arg1 hzi (fun a => by fin_cases a <;> decide) f
  rw [hro] at ho
  unfold Cert.ActRefIdeal.Value.reg_main_v0_4
  rw [ho]
  show (cfg0.win 12).cut _ ((dats (F := Ideal) m 0 c).after 12 t₀) = _
  rw [after0_12]
  unfold out0_12
  rw [View.canon_unit_zero hz, View.ld_unit_zero hz]
  unfold iblk
  rw [hri]
  rfl
theorem r4_at (i : S12x4096x64.Idx) : ((Cert.ActRefIdeal.Value.reg_main_v0_4 m c : FVec Ideal S12x4096x64 .bf16) i : EReal) = Pow2.power ((m ((c : Thread nD τ).loc main_arg1) : IVec S12x4096x64 8) i) := by
  rw [value4]; rfl

theorem final5 : ((cfg0.win (13 : Fin 16)).blk t₀).view.read (Elt Ideal) ((dats (F := Ideal) m 0 c).arrAt (13 : Fin 16) cfg0.N) = (dats (F := Ideal) m 0 c).flushed (13 : Fin 16) t₀ := by
  rw [show cfg0.N = (t₀ : Fin cfg0.N).val + 1 from rfl, (dats (F := Ideal) m 0 c).arrAt_succ (13 : Fin 16) t₀]
  rw [show (cfg0.win (13 : Fin 16)).flush t₀ = true from by decide, if_pos rfl]
  exact View.read_write_univ _ _
theorem value5 : Cert.ActRefIdeal.Value.reg_main_v0_5 m c = k0_pay1 (F := Ideal) (m ((c : Thread nD τ).loc main_arg5)) := by
  have ho := final5 m c
  have hzo : (fun a => (win0_13.index t₀) a * main_v0_5.ty.shape.size a) = fun _ => 0 := funext fun a => by fin_cases a <;> decide
  have hro := fun f => Memref.read_access_unit_zero (Elt Ideal) main_v0_5 hzo (fun a => by fin_cases a <;> decide) f
  have hzi : (fun a => (win0_5.index t₀) a * main_arg5.ty.shape.size a) = fun _ => 0 := funext fun a => by fin_cases a <;> decide
  have hri := fun f => Memref.read_access_unit_zero (Elt Ideal) main_arg5 hzi (fun a => by fin_cases a <;> decide) f
  rw [hro] at ho
  unfold Cert.ActRefIdeal.Value.reg_main_v0_5
  rw [ho]
  show (cfg0.win 13).cut _ ((dats (F := Ideal) m 0 c).after 13 t₀) = _
  rw [after0_13]
  unfold out0_13
  rw [View.canon_unit_zero hz, View.ld_unit_zero hz]
  unfold iblk
  rw [hri]
  rfl
theorem r5_at (i : S12x4096x64.Idx) : ((Cert.ActRefIdeal.Value.reg_main_v0_5 m c : FVec Ideal S12x4096x64 .bf16) i : EReal) = Pow2.power ((m ((c : Thread nD τ).loc main_arg5) : IVec S12x4096x64 8) i) := by
  rw [value5]; rfl

theorem final6 : ((cfg0.win (14 : Fin 16)).blk t₀).view.read (Elt Ideal) ((dats (F := Ideal) m 0 c).arrAt (14 : Fin 16) cfg0.N) = (dats (F := Ideal) m 0 c).flushed (14 : Fin 16) t₀ := by
  rw [show cfg0.N = (t₀ : Fin cfg0.N).val + 1 from rfl, (dats (F := Ideal) m 0 c).arrAt_succ (14 : Fin 16) t₀]
  rw [show (cfg0.win (14 : Fin 16)).flush t₀ = true from by decide, if_pos rfl]
  exact View.read_write_univ _ _
theorem value6 : Cert.ActRefIdeal.Value.reg_main_v0_6 m c = k0_pay2 (F := Ideal) (m ((c : Thread nD τ).loc main_arg3)) := by
  have ho := final6 m c
  have hzo : (fun a => (win0_14.index t₀) a * main_v0_6.ty.shape.size a) = fun _ => 0 := funext fun a => by fin_cases a <;> decide
  have hro := fun f => Memref.read_access_unit_zero (Elt Ideal) main_v0_6 hzo (fun a => by fin_cases a <;> decide) f
  have hzi : (fun a => (win0_6.index t₀) a * main_arg3.ty.shape.size a) = fun _ => 0 := funext fun a => by fin_cases a <;> decide
  have hri := fun f => Memref.read_access_unit_zero (Elt Ideal) main_arg3 hzi (fun a => by fin_cases a <;> decide) f
  rw [hro] at ho
  unfold Cert.ActRefIdeal.Value.reg_main_v0_6
  rw [ho]
  show (cfg0.win 14).cut _ ((dats (F := Ideal) m 0 c).after 14 t₀) = _
  rw [after0_14]
  unfold out0_14
  rw [View.canon_unit_zero hz, View.ld_unit_zero hz]
  unfold iblk
  rw [hri]
  rfl
theorem r6_at (i : S12x128x2048.Idx) : ((Cert.ActRefIdeal.Value.reg_main_v0_6 m c : FVec Ideal S12x128x2048 .bf16) i : EReal) = Pow2.power ((m ((c : Thread nD τ).loc main_arg3) : IVec S12x128x2048 8) i) := by
  rw [value6]; rfl

theorem final7 : ((cfg0.win (15 : Fin 16)).blk t₀).view.read (Elt Ideal) ((dats (F := Ideal) m 0 c).arrAt (15 : Fin 16) cfg0.N) = (dats (F := Ideal) m 0 c).flushed (15 : Fin 16) t₀ := by
  rw [show cfg0.N = (t₀ : Fin cfg0.N).val + 1 from rfl, (dats (F := Ideal) m 0 c).arrAt_succ (15 : Fin 16) t₀]
  rw [show (cfg0.win (15 : Fin 16)).flush t₀ = true from by decide, if_pos rfl]
  exact View.read_write_univ _ _
theorem value7 : Cert.ActRefIdeal.Value.reg_main_v0_7 m c = k0_pay3 (F := Ideal) (m ((c : Thread nD τ).loc main_arg7)) := by
  have ho := final7 m c
  have hzo : (fun a => (win0_15.index t₀) a * main_v0_7.ty.shape.size a) = fun _ => 0 := funext fun a => by fin_cases a <;> decide
  have hro := fun f => Memref.read_access_unit_zero (Elt Ideal) main_v0_7 hzo (fun a => by fin_cases a <;> decide) f
  have hzi : (fun a => (win0_7.index t₀) a * main_arg7.ty.shape.size a) = fun _ => 0 := funext fun a => by fin_cases a <;> decide
  have hri := fun f => Memref.read_access_unit_zero (Elt Ideal) main_arg7 hzi (fun a => by fin_cases a <;> decide) f
  rw [hro] at ho
  unfold Cert.ActRefIdeal.Value.reg_main_v0_7
  rw [ho]
  show (cfg0.win 15).cut _ ((dats (F := Ideal) m 0 c).after 15 t₀) = _
  rw [after0_15]
  unfold out0_15
  rw [View.canon_unit_zero hz, View.ld_unit_zero hz]
  unfold iblk
  rw [hri]
  rfl
theorem r7_at (i : S12x128x2048.Idx) : ((Cert.ActRefIdeal.Value.reg_main_v0_7 m c : FVec Ideal S12x128x2048 .bf16) i : EReal) = Pow2.power ((m ((c : Thread nD τ).loc main_arg7) : IVec S12x128x2048 8) i) := by
  rw [value7]; rfl

end Cert.Proof.Wide

end
-- ==== Proof.Ref.lean ====
/-
  The reference, read at an index: the same functions of the arguments, with the scales as powers of two.
-/
module

public import proofs.«01_k».proof.Proof.Widen
public import proofs.«01_k».proof.Proof.Spec
public import proofs.«01_k».proof.Proof.Gen.ActRefIdeal.Read
public import Idealize.ShloMosaic.Lib.Pointwise

@[expose] public section

set_option maxRecDepth 16384

noncomputable section

namespace Cert.Proof.Ref

open Cert.ActRefIdeal Cert.ActRefIdeal.Gen Cert.ActRefIdeal.Value Cert.ActRefIdeal.Read Idealize.ShloMosaic Idealize.ShloMosaic.TcCoe Idealize.SL.Sem
open Cert.Proof.Spec Cert.Proof.Gate

variable (m : (ℓ : Loc nD τ sig) → Buf (Elt Ideal) ℓ) (c : Dev nD)

abbrev a0 : FVec Ideal S12x4096x2048 .fp8e4m3 := m ((c : Thread nD τ).loc main_arg0)
abbrev a1 : IVec S12x4096x64 8 := m ((c : Thread nD τ).loc main_arg1)
abbrev a2 : FVec Ideal S12x4096x2048 .fp8e4m3 := m ((c : Thread nD τ).loc main_arg2)
abbrev a3 : IVec S12x128x2048 8 := m ((c : Thread nD τ).loc main_arg3)
abbrev a4 : FVec Ideal S12x4096x2048 .fp8e5m2 := m ((c : Thread nD τ).loc main_arg4)
abbrev a5 : IVec S12x4096x64 8 := m ((c : Thread nD τ).loc main_arg5)
abbrev a6 : FVec Ideal S12x4096x2048 .fp8e5m2 := m ((c : Thread nD τ).loc main_arg6)
abbrev a7 : IVec S12x128x2048 8 := m ((c : Thread nD τ).loc main_arg7)
abbrev a8 : FVec Ideal S2048x16384 .bf16 := m ((c : Thread nD τ).loc main_arg8)
abbrev a9 : FVec Ideal S16384x2048 .bf16 := m ((c : Thread nD τ).loc main_arg9)
abbrev a10 : FVec Ideal S2048x8192 .bf16 := m ((c : Thread nD τ).loc main_arg10)

/-- The rows of the inputs and of the output gradients, dequantised. -/
abbrev X : Rows := deq Pow2.power (fun b s k => a0 m c (ix3 b s k)) (fun b s k => a1 m c (ix3 b s k))
abbrev D : Rows := deq Pow2.power (fun b s k => a4 m c (ix3 b s k)) (fun b s k => a5 m c (ix3 b s k))
/-- The copies quantised along the positions, dequantised. -/
abbrev XT : Rows := deqT Pow2.power (fun b s k => a2 m c (ix3 b s k)) (fun b s k => a3 m c (ix3 b s k))
abbrev DT : Rows := deqT Pow2.power (fun b s k => a6 m c (ix3 b s k)) (fun b s k => a7 m c (ix3 b s k))
abbrev W : Fin 2048 → Fin 16384 → EReal := fun k f => a8 m c (ix2 k f)
abbrev Wt : Fin 16384 → Fin 2048 → EReal := fun k f => a9 m c (ix2 k f)
abbrev Wd : Fin 2048 → Fin 8192 → EReal := fun k f => a10 m c (ix2 k f)

/-- The arrays the first step leaves. -/
abbrev r0 : FVec Ideal S12x4096x2048 .bf16 := reg_main_v0_0 m c
abbrev r1 : FVec Ideal S12x4096x2048 .bf16 := reg_main_v0_1 m c
abbrev r2 : FVec Ideal S12x4096x2048 .bf16 := reg_main_v0_2 m c
abbrev r3 : FVec Ideal S12x4096x2048 .bf16 := reg_main_v0_3 m c
abbrev r4 : FVec Ideal S12x4096x64 .bf16 := reg_main_v0_4 m c
abbrev r5 : FVec Ideal S12x4096x64 .bf16 := reg_main_v0_5 m c
abbrev r6 : FVec Ideal S12x128x2048 .bf16 := reg_main_v0_6 m c
abbrev r7 : FVec Ideal S12x128x2048 .bf16 := reg_main_v0_7 m c

theorem x_at (r : Fin 49152) (k : Fin 2048) : (val_main_v5 (F := Ideal) (r0 m c) (r4 m c) (ix2 r k) : EReal) = X m c r k := by
  rw [val_main_v5_apply, val_main_v4_apply, val_main_v1_apply, val_main_v3_apply, val_main_v2_apply]
  have h1 : idx_main_v1 (idx_main_v5 (ix2 r k)) = ix3 (bat r) (pos r) k := by
    funext a
    match a with
    | ⟨0, _⟩ => exact Fin.ext (by show ((((r.val * 2048 + k.val) / 8388608 * 4096 + (r.val * 2048 + k.val) / 2048 % 4096) * 64 + (r.val * 2048 + k.val) / 32 % 64) * 32 + (r.val * 2048 + k.val) % 32) / 8388608 = r.val / 4096; omega)
    | ⟨1, _⟩ => exact Fin.ext (by show ((((r.val * 2048 + k.val) / 8388608 * 4096 + (r.val * 2048 + k.val) / 2048 % 4096) * 64 + (r.val * 2048 + k.val) / 32 % 64) * 32 + (r.val * 2048 + k.val) % 32) / 2048 % 4096 = r.val % 4096; omega)
    | ⟨2, _⟩ => exact Fin.ext (by show ((((r.val * 2048 + k.val) / 8388608 * 4096 + (r.val * 2048 + k.val) / 2048 % 4096) * 64 + (r.val * 2048 + k.val) / 32 % 64) * 32 + (r.val * 2048 + k.val) % 32) % 2048 = k.val; omega)
  have h2 : idx_main_v2 (idx_main_v3 (idx_main_v5 (ix2 r k))) = ix3 (bat r) (pos r) ⟨k.val / 32, by omega⟩ := by
    funext a
    match a with
    | ⟨0, _⟩ => exact Fin.ext (by show (r.val * 2048 + k.val) / 8388608 = r.val / 4096; omega)
    | ⟨1, _⟩ => exact Fin.ext (by show (r.val * 2048 + k.val) / 2048 % 4096 = r.val % 4096; omega)
    | ⟨2, _⟩ => exact Fin.ext (by show (r.val * 2048 + k.val) / 32 % 64 = k.val / 32; omega)
  rw [h1, h2]
  exact congrArg₂ (fun a b : EReal => a * b) (Wide.r0_at m c _) (Wide.r4_at m c _)
theorem d_at (r : Fin 49152) (k : Fin 2048) : (val_main_v10 (F := Ideal) (r1 m c) (r5 m c) (ix2 r k) : EReal) = D m c r k := by
  rw [val_main_v10_apply, val_main_v9_apply, val_main_v6_apply, val_main_v8_apply, val_main_v7_apply]
  have h1 : idx_main_v6 (idx_main_v10 (ix2 r k)) = ix3 (bat r) (pos r) k := by
    funext a
    match a with
    | ⟨0, _⟩ => exact Fin.ext (by show ((((r.val * 2048 + k.val) / 8388608 * 4096 + (r.val * 2048 + k.val) / 2048 % 4096) * 64 + (r.val * 2048 + k.val) / 32 % 64) * 32 + (r.val * 2048 + k.val) % 32) / 8388608 = r.val / 4096; omega)
    | ⟨1, _⟩ => exact Fin.ext (by show ((((r.val * 2048 + k.val) / 8388608 * 4096 + (r.val * 2048 + k.val) / 2048 % 4096) * 64 + (r.val * 2048 + k.val) / 32 % 64) * 32 + (r.val * 2048 + k.val) % 32) / 2048 % 4096 = r.val % 4096; omega)
    | ⟨2, _⟩ => exact Fin.ext (by show ((((r.val * 2048 + k.val) / 8388608 * 4096 + (r.val * 2048 + k.val) / 2048 % 4096) * 64 + (r.val * 2048 + k.val) / 32 % 64) * 32 + (r.val * 2048 + k.val) % 32) % 2048 = k.val; omega)
  have h2 : idx_main_v7 (idx_main_v8 (idx_main_v10 (ix2 r k))) = ix3 (bat r) (pos r) ⟨k.val / 32, by omega⟩ := by
    funext a
    match a with
    | ⟨0, _⟩ => exact Fin.ext (by show (r.val * 2048 + k.val) / 8388608 = r.val / 4096; omega)
    | ⟨1, _⟩ => exact Fin.ext (by show (r.val * 2048 + k.val) / 2048 % 4096 = r.val % 4096; omega)
    | ⟨2, _⟩ => exact Fin.ext (by show (r.val * 2048 + k.val) / 32 % 64 = k.val / 32; omega)
  rw [h1, h2]
  exact congrArg₂ (fun a b : EReal => a * b) (Wide.r1_at m c _) (Wide.r5_at m c _)
theorem xt_at (r : Fin 49152) (k : Fin 2048) : (val_main_v15 (F := Ideal) (r2 m c) (r6 m c) (ix2 r k) : EReal) = XT m c r k := by
  rw [val_main_v15_apply, val_main_v14_apply, val_main_v11_apply, val_main_v13_apply, val_main_v12_apply]
  have h1 : idx_main_v11 (idx_main_v15 (ix2 r k)) = ix3 (bat r) (pos r) k := by
    funext a
    match a with
    | ⟨0, _⟩ => exact Fin.ext (by show ((((r.val * 2048 + k.val) / 8388608 * 128 + (r.val * 2048 + k.val) / 65536 % 128) * 32 + (r.val * 2048 + k.val) / 2048 % 32) * 2048 + (r.val * 2048 + k.val) % 2048) / 8388608 = r.val / 4096; omega)
    | ⟨1, _⟩ => exact Fin.ext (by show ((((r.val * 2048 + k.val) / 8388608 * 128 + (r.val * 2048 + k.val) / 65536 % 128) * 32 + (r.val * 2048 + k.val) / 2048 % 32) * 2048 + (r.val * 2048 + k.val) % 2048) / 2048 % 4096 = r.val % 4096; omega)
    | ⟨2, _⟩ => exact Fin.ext (by show ((((r.val * 2048 + k.val) / 8388608 * 128 + (r.val * 2048 + k.val) / 65536 % 128) * 32 + (r.val * 2048 + k.val) / 2048 % 32) * 2048 + (r.val * 2048 + k.val) % 2048) % 2048 = k.val; omega)
  have h2 : idx_main_v12 (idx_main_v13 (idx_main_v15 (ix2 r k))) = ix3 (bat r) ⟨r.val % 4096 / 32, by omega⟩ k := by
    funext a
    match a with
    | ⟨0, _⟩ => exact Fin.ext (by show (r.val * 2048 + k.val) / 8388608 = r.val / 4096; omega)
    | ⟨1, _⟩ => exact Fin.ext (by show (r.val * 2048 + k.val) / 65536 % 128 = r.val % 4096 / 32; omega)
    | ⟨2, _⟩ => exact Fin.ext (by show (r.val * 2048 + k.val) % 2048 = k.val; omega)
  rw [h1, h2]
  exact congrArg₂ (fun a b : EReal => a * b) (Wide.r2_at m c _) (Wide.r6_at m c _)
theorem dt_at (r : Fin 49152) (k : Fin 2048) : (val_main_v20 (F := Ideal) (r3 m c) (r7 m c) (ix2 r k) : EReal) = DT m c r k := by
  rw [val_main_v20_apply, val_main_v19_apply, val_main_v16_apply, val_main_v18_apply, val_main_v17_apply]
  have h1 : idx_main_v16 (idx_main_v20 (ix2 r k)) = ix3 (bat r) (pos r) k := by
    funext a
    match a with
    | ⟨0, _⟩ => exact Fin.ext (by show ((((r.val * 2048 + k.val) / 8388608 * 128 + (r.val * 2048 + k.val) / 65536 % 128) * 32 + (r.val * 2048 + k.val) / 2048 % 32) * 2048 + (r.val * 2048 + k.val) % 2048) / 8388608 = r.val / 4096; omega)
    | ⟨1, _⟩ => exact Fin.ext (by show ((((r.val * 2048 + k.val) / 8388608 * 128 + (r.val * 2048 + k.val) / 65536 % 128) * 32 + (r.val * 2048 + k.val) / 2048 % 32) * 2048 + (r.val * 2048 + k.val) % 2048) / 2048 % 4096 = r.val % 4096; omega)
    | ⟨2, _⟩ => exact Fin.ext (by show ((((r.val * 2048 + k.val) / 8388608 * 128 + (r.val * 2048 + k.val) / 65536 % 128) * 32 + (r.val * 2048 + k.val) / 2048 % 32) * 2048 + (r.val * 2048 + k.val) % 2048) % 2048 = k.val; omega)
  have h2 : idx_main_v17 (idx_main_v18 (idx_main_v20 (ix2 r k))) = ix3 (bat r) ⟨r.val % 4096 / 32, by omega⟩ k := by
    funext a
    match a with
    | ⟨0, _⟩ => exact Fin.ext (by show (r.val * 2048 + k.val) / 8388608 = r.val / 4096; omega)
    | ⟨1, _⟩ => exact Fin.ext (by show (r.val * 2048 + k.val) / 65536 % 128 = r.val % 4096 / 32; omega)
    | ⟨2, _⟩ => exact Fin.ext (by show (r.val * 2048 + k.val) % 2048 = k.val; omega)
  rw [h1, h2]
  exact congrArg₂ (fun a b : EReal => a * b) (Wide.r3_at m c _) (Wide.r7_at m c _)
theorem gate_at (r : Fin 49152) (f : Fin 8192) : (val_main_v22 (F := Ideal) (a8 m c) (r0 m c) (r4 m c) (ix2 r f) : EReal) = gate (X m c) (W m c) r f := by
  rw [val_main_v22_apply]
  refine Finset.sum_congr rfl fun k _ => congrArg₂ (fun a b : EReal => a * b) ?_ ?_
  · have : lidx_main_v22 (ix2 r f) k = ix2 r k := by
      funext a
      match a with
      | ⟨0, _⟩ => rfl
      | ⟨1, _⟩ => rfl
    rw [this]
    exact x_at m c r k
  · rw [val_main_v21_apply]
    refine congrArg (a8 m c) (funext fun a => ?_)
    match a with
    | ⟨0, _⟩ => rfl
    | ⟨1, _⟩ => exact Fin.ext (by show f.val = 0 + f.val; omega)
theorem up_at (r : Fin 49152) (f : Fin 8192) : (val_main_v24 (F := Ideal) (a8 m c) (r0 m c) (r4 m c) (ix2 r f) : EReal) = up (X m c) (W m c) r f := by
  rw [val_main_v24_apply]
  refine Finset.sum_congr rfl fun k _ => congrArg₂ (fun a b : EReal => a * b) ?_ ?_
  · have : lidx_main_v24 (ix2 r f) k = ix2 r k := by
      funext a
      match a with
      | ⟨0, _⟩ => rfl
      | ⟨1, _⟩ => rfl
    rw [this]
    exact x_at m c r k
  · rw [val_main_v23_apply]
    refine congrArg (a8 m c) (funext fun a => ?_)
    match a with
    | ⟨0, _⟩ => rfl
    | ⟨1, _⟩ => exact Fin.ext (by show 8192 + f.val = 8192 + f.val; omega)
theorem down_at (r : Fin 49152) (f : Fin 8192) : (val_main_v34 (F := Ideal) (a10 m c) (r1 m c) (r5 m c) (ix2 r f) : EReal) = down (D m c) (Wd m c) r f := by
  rw [val_main_v34_apply]
  refine Finset.sum_congr rfl fun k _ => congrArg₂ (fun a b : EReal => a * b) ?_ ?_
  · have : lidx_main_v34 (ix2 r f) k = ix2 r k := by
      funext a
      match a with
      | ⟨0, _⟩ => rfl
      | ⟨1, _⟩ => rfl
    rw [this]
    exact d_at m c r k
  · refine congrArg (a10 m c) (funext fun a => ?_)
    match a with
    | ⟨0, _⟩ => rfl
    | ⟨1, _⟩ => exact Fin.ext (by show f.val = 0 + f.val; omega)

/-- The printed logistic function is the logistic function. -/
theorem sig_at (i : S49152x8192.Idx) : (val_main_v30 (F := Ideal) (a8 m c) (r0 m c) (r4 m c) i : EReal) = sg (val_main_v22 (F := Ideal) (a8 m c) (r0 m c) (r4 m c) i) := by
  rw [val_main_v30_apply, val_main_v29_apply, val_main_v28_apply, val_main_v27_apply, val_main_v26_apply, val_main_v25_apply]
  generalize (val_main_v22 (F := Ideal) (a8 m c) (r0 m c) (r4 m c) i) = g
  have h1 : (FloatOps.ofBits (F := Ideal) .f32 0x3F800000#32 : EReal) = 1 := by pointwise
  show Ideal.div (FloatOps.ofBits (F := Ideal) .f32 0x3F800000#32 : EReal) ((FloatOps.ofBits (F := Ideal) .f32 0x3F800000#32 : EReal) + _) = _
  rw [h1]
  rfl

theorem hb_at (r : Fin 49152) (f : Fin 8192) : (val_main_v33 (F := Ideal) (a8 m c) (r0 m c) (r4 m c) (ix2 r f) : EReal) = hb (X m c) (W m c) r f := by
  rw [val_main_v33_apply, val_main_v32_apply, val_main_v31_apply, sig_at, gate_at, up_at]
  rfl
theorem dg_at (r : Fin 49152) (f : Fin 8192) : (val_main_v43 (F := Ideal) (a8 m c) (a10 m c) (r0 m c) (r1 m c) (r4 m c) (r5 m c) (ix2 r f) : EReal) = dg (X m c) (D m c) (W m c) (Wd m c) r f := by
  rw [val_main_v43_apply, val_main_v42_apply, val_main_v36_apply, val_main_v35_apply, val_main_v41_apply, val_main_v39_apply, val_main_v38_apply, sig_at, gate_at, up_at, down_at]
  rfl
theorem du_at (r : Fin 49152) (f : Fin 8192) : (val_main_v45 (F := Ideal) (a8 m c) (a10 m c) (r0 m c) (r1 m c) (r4 m c) (r5 m c) (ix2 r f) : EReal) = du (X m c) (D m c) (W m c) (Wd m c) r f := by
  rw [val_main_v45_apply, val_main_v44_apply, val_main_v31_apply, sig_at, gate_at, down_at]
  rfl

/-- The joined gradients. -/
theorem join_left {α : Type} (x y : S49152x8192.Idx → α) (r : Fin 49152) (k : Fin 16384) (h : k.val < 8192) :
    concatenate S49152x16384 1 [⟨S49152x8192, x⟩, ⟨S49152x8192, y⟩] concatenates_S49152x8192_S49152x8192_S49152x16384_d1 (ix2 r k) = x (ix2 r ⟨k.val, h⟩) := by
  pointwise
  exact dif_pos h
theorem join_right {α : Type} (x y : S49152x8192.Idx → α) (r : Fin 49152) (k : Fin 16384) (h : 8192 ≤ k.val) :
    concatenate S49152x16384 1 [⟨S49152x8192, x⟩, ⟨S49152x8192, y⟩] concatenates_S49152x8192_S49152x8192_S49152x16384_d1 (ix2 r k) = y (ix2 r ⟨k.val - 8192, by omega⟩) := by
  pointwise
  exact dif_neg (by omega)

theorem dx_at (r : Fin 49152) (j : Fin 2048) : (val_main_v48 (F := Ideal) (a8 m c) (a9 m c) (a10 m c) (r0 m c) (r1 m c) (r4 m c) (r5 m c) (ix2 r j) : EReal)
    = dx (dg (X m c) (D m c) (W m c) (Wd m c)) (du (X m c) (D m c) (W m c) (Wd m c)) (Wt m c) r j := by
  rw [val_main_v48_apply]
  show (val_main_v47 (F := Ideal) (a8 m c) (a9 m c) (a10 m c) (r0 m c) (r1 m c) (r4 m c) (r5 m c) (ix2 r j) : EReal) = _
  rw [val_main_v47_apply]
  have hl : ∀ k : Fin 16384, lidx_main_v47 (ix2 r j) k = ix2 r k := fun k => by
    funext a
    match a with
    | ⟨0, _⟩ => rfl
    | ⟨1, _⟩ => rfl
  have hr : ∀ k : Fin 16384, ridx_main_v47 (ix2 r j) k = ix2 k j := fun k => by
    funext a
    match a with
    | ⟨0, _⟩ => rfl
    | ⟨1, _⟩ => rfl
  simp only [hl, hr]
  refine (Fin.sum_univ_add (fun k : Fin (8192 + 8192) => (val_main_v46 (F := Ideal) (a8 m c) (a10 m c) (r0 m c) (r1 m c) (r4 m c) (r5 m c) (ix2 r k) : EReal) * a9 m c (ix2 k j))).trans ?_
  unfold dx
  refine congrArg₂ (fun a b : EReal => a + b) (Finset.sum_congr rfl fun k _ => ?_) (Finset.sum_congr rfl fun k _ => ?_)
  · refine congrArg₂ (fun a b : EReal => a * b) ?_ (congrArg (fun t => a9 m c (ix2 t j)) (Fin.ext rfl))
    unfold val_main_v46
    refine (join_left _ _ r _ (by show k.val < 8192; exact k.isLt)).trans (dg_at m c r k)
  · refine congrArg₂ (fun a b : EReal => a * b) ?_ (congrArg (fun t => a9 m c (ix2 t j)) (Fin.ext rfl))
    unfold val_main_v46
    refine (join_right _ _ r _ (by show 8192 ≤ 8192 + k.val; omega)).trans ?_
    exact (congrArg (fun t => (val_main_v45 (F := Ideal) (a8 m c) (a10 m c) (r0 m c) (r1 m c) (r4 m c) (r5 m c) (ix2 r t) : EReal)) (Fin.ext (by show 8192 + k.val - 8192 = k.val; omega))).trans (du_at m c r k)

theorem xT_at (k : Fin 2048) (r : Fin 49152) : (val_main_v49 (F := Ideal) (r2 m c) (r6 m c) (ix2 k r) : EReal) = XT m c r k := by
  rw [val_main_v49_apply]
  exact (congrArg (val_main_v15 (F := Ideal) (r2 m c) (r6 m c)) (funext fun a => by
    match a with
    | ⟨0, _⟩ => rfl
    | ⟨1, _⟩ => rfl)).trans (xt_at m c r k)
theorem dyT_at (k : Fin 2048) (r : Fin 49152) : (val_main_v50 (F := Ideal) (r3 m c) (r7 m c) (ix2 k r) : EReal) = DT m c r k := by
  rw [val_main_v50_apply]
  exact (congrArg (val_main_v20 (F := Ideal) (r3 m c) (r7 m c)) (funext fun a => by
    match a with
    | ⟨0, _⟩ => rfl
    | ⟨1, _⟩ => rfl)).trans (dt_at m c r k)

end Cert.Proof.Ref

end
-- ==== Proof.Normal.lean ====
/-
  What the precondition says: every exponent is that of a normal float, so the two readings of a scale agree and the
  dequantised rows of the kernel are those of the reference.
-/
module

public import proofs.«01_k».proof.Defs
public import proofs.«01_k».proof.Proof.Gen.Pre_exponents_normal
public import proofs.«01_k».proof.Proof.Args
public import proofs.«01_k».proof.Proof.Ref

@[expose] public section

set_option maxRecDepth 16384

noncomputable section

namespace Cert.Proof.Normal

open Idealize.ShloMosaic Idealize.ShloMosaic.TcCoe Idealize.SL.Sem Cert.Proof.Spec

/-- The two comparisons and their conjunction say that the byte lies between them. -/
theorem bounds (e : BitVec 8) (h : IntOp.andi (IntOp.cmpi .uge e 1#8) (IntOp.cmpi .ule e 254#8) = 1#1) : 1 ≤ e.toNat ∧ e.toNat ≤ 254 := by
  have : ∀ e : BitVec 8, IntOp.andi (IntOp.cmpi .uge e 1#8) (IntOp.cmpi .ule e 254#8) = 1#1 → 1 ≤ e.toNat ∧ e.toNat ≤ 254 := by decide +kernel
  exact this e h

variable (m : (ℓ : Loc Cert.ActIdeal.nD Cert.ActIdeal.τ Cert.ActIdeal.sig) → Buf (Elt Ideal) ℓ) (c : Dev Cert.ActIdeal.nD)

theorem scale1 (h : Cert.Pre_ActIdeal_exponents_normal m) (i : Cert.ActIdeal.S12x4096x64.Idx) : Pow2.scale (Args.a1 m c i) = Pow2.power (Args.a1 m c i) := by
  obtain ⟨h1, h2⟩ := bounds (Args.a1 m c i) (congrFun (h c).1 i)
  exact Pow2.scale_eq_power _ h1 h2
theorem scale5 (h : Cert.Pre_ActIdeal_exponents_normal m) (i : Cert.ActIdeal.S12x4096x64.Idx) : Pow2.scale (Args.a5 m c i) = Pow2.power (Args.a5 m c i) := by
  obtain ⟨h1, h2⟩ := bounds (Args.a5 m c i) (congrFun (h c).2.1 i)
  exact Pow2.scale_eq_power _ h1 h2
theorem scale3 (h : Cert.Pre_ActIdeal_exponents_normal m) (i : Cert.ActIdeal.S12x128x2048.Idx) : Pow2.scale (Args.a3 m c i) = Pow2.power (Args.a3 m c i) := by
  obtain ⟨h1, h2⟩ := bounds (Args.a3 m c i) (congrFun (h c).2.2.1 i)
  exact Pow2.scale_eq_power _ h1 h2
theorem scale7 (h : Cert.Pre_ActIdeal_exponents_normal m) (i : Cert.ActIdeal.S12x128x2048.Idx) : Pow2.scale (Args.a7 m c i) = Pow2.power (Args.a7 m c i) := by
  obtain ⟨h1, h2⟩ := bounds (Args.a7 m c i) (congrFun (h c).2.2.2 i)
  exact Pow2.scale_eq_power _ h1 h2

/-- The rows the kernel dequantises, with powers of two for scales. -/
theorem x_eq (h : Cert.Pre_ActIdeal_exponents_normal m) : Args.X m c = deq Pow2.power (fun b s k => Args.a0 m c (ix3 b s k)) (fun b s k => Args.a1 m c (ix3 b s k)) := by
  funext r k
  exact congrArg (fun t : EReal => (Args.a0 m c (ix3 (bat r) (pos r) k) : EReal) * t) (scale1 m c h _)
theorem d_eq (h : Cert.Pre_ActIdeal_exponents_normal m) : Args.D m c = deq Pow2.power (fun b s k => Args.a4 m c (ix3 b s k)) (fun b s k => Args.a5 m c (ix3 b s k)) := by
  funext r k
  exact congrArg (fun t : EReal => (Args.a4 m c (ix3 (bat r) (pos r) k) : EReal) * t) (scale5 m c h _)
theorem xt_eq (h : Cert.Pre_ActIdeal_exponents_normal m) : Args.XT m c = deqT Pow2.power (fun b s k => Args.a2 m c (ix3 b s k)) (fun b s k => Args.a3 m c (ix3 b s k)) := by
  funext r k
  exact congrArg (fun t : EReal => (Args.a2 m c (ix3 (bat r) (pos r) k) : EReal) * t) (scale3 m c h _)
theorem dt_eq (h : Cert.Pre_ActIdeal_exponents_normal m) : Args.DT m c = deqT Pow2.power (fun b s k => Args.a6 m c (ix3 b s k)) (fun b s k => Args.a7 m c (ix3 b s k)) := by
  funext r k
  exact congrArg (fun t : EReal => (Args.a6 m c (ix3 (bat r) (pos r) k) : EReal) * t) (scale7 m c h _)

end Cert.Proof.Normal

end
-- ==== Proof.Blocks.lean ====
/-
  What a grid point computes from its blocks, in terms of the arguments.
-/
module

public import proofs.«01_k».proof.Proof.Args

@[expose] public section

set_option maxRecDepth 16384

noncomputable section

namespace Cert.Proof.Blocks

open Cert.ActIdeal Cert.ActIdeal.Gen Idealize.ShloMosaic Idealize.ShloMosaic.TcCoe Idealize.SL.Sem
open Cert.Proof.Spec Cert.Proof.Args Cert.Proof.Gate Cert.Proof.Trip Cert.Proof.Columns

variable (m : (ℓ : Loc nD τ sig) → Buf (Elt Ideal) ℓ) (c : Dev nD)

theorem rows4_at (t : Fin cfg0.N) (p : Fin 512) (k : Fin 2048) : rows4 (iblk m c 0 t) (iblk m c 2 t) (ix2 p k) = X m c (row t p) k := by
  have h1 := blk0 m c t p k (row t p) k rfl rfl
  rw [V0 m c, cast_rows] at h1
  have h2 := blk2 m c t p ⟨k.val / 32, by omega⟩ (row t p) ⟨k.val / 32, by omega⟩ rfl rfl
  rw [V8 m c, cat_left _ _ _ _ (by show k.val / 32 < 64; omega), cast_lanes] at h2
  exact congrArg₂ (fun (a : EReal) (b : BitVec 8) => a * Pow2.scale b) h1 h2

theorem rows5_at (t : Fin cfg0.N) (p : Fin 512) (k : Fin 2048) : rows5 (iblk m c 1 t) (iblk m c 2 t) (ix2 p k) = D m c (row t p) k := by
  have h1 := blk1 m c t p k (row t p) k rfl rfl
  rw [V1 m c, cast_rows] at h1
  have h2 := blk2 m c t p ⟨64 + k.val / 32, by omega⟩ (row t p) ⟨64 + k.val / 32, by omega⟩ rfl rfl
  rw [V8 m c, cat_right _ _ _ _ (by show 64 ≤ 64 + k.val / 32; omega), cast_lanes] at h2
  have e : (⟨64 + k.val / 32 - 64, by omega⟩ : Fin 64) = ⟨k.val / 32, by omega⟩ := Fin.ext (by show 64 + k.val / 32 - 64 = k.val / 32; omega)
  rw [e] at h2
  exact congrArg₂ (fun (a : EReal) (b : BitVec 8) => a * Pow2.scale b) h1 h2

/-- The row of scales of a group of thirty-two positions. -/
theorem group (t : Fin cfg0.N) (p : Fin 512) (r : Fin 1536) (hr : r.val = 16 * (t.val / 16) + p.val / 32) :
    (⟨r.val / 128, by omega⟩ : Fin 12) = bat (row t p) ∧ (⟨r.val % 128, by omega⟩ : Fin 128) = ⟨(row t p).val % 4096 / 32, by omega⟩ := by
  constructor
  · apply Fin.ext; show r.val / 128 = (512 * (t.val / 16) + p.val) / 4096; omega
  · apply Fin.ext; show r.val % 128 = (512 * (t.val / 16) + p.val) % 4096 / 32; omega

theorem cols4_at (t : Fin cfg0.N) (q : Fin 128) (p : Fin 512) : cols4 (iblk m c 3 t) (iblk m c 4 t) (ix2 q p) = XT m c (row t p) (tcol t q) := by
  have h1 := blk3 m c t p q (row t p) (tcol t q) rfl rfl
  rw [V2 m c, cast_rows] at h1
  have hN : t.val < 1536 := lt_of_lt_of_eq t.isLt (show cfg0.N = 1536 from N_0)
  have h2 := blk4 m c t ⟨p.val / 32, by omega⟩ q ⟨16 * (t.val / 16) + p.val / 32, by omega⟩ (tcol t q) rfl rfl
  rw [V4 m c, cast_groups, (group t p _ rfl).1, (group t p _ rfl).2] at h2
  exact congrArg₂ (fun (a : EReal) (b : BitVec 8) => a * Pow2.scale b) h1 h2

theorem cols5_at (t : Fin cfg0.N) (q : Fin 128) (p : Fin 512) : cols5 (iblk m c 5 t) (iblk m c 6 t) (ix2 q p) = DT m c (row t p) (tcol t q) := by
  have h1 := blk5 m c t p q (row t p) (tcol t q) rfl rfl
  rw [V3 m c, cast_rows] at h1
  have hN : t.val < 1536 := lt_of_lt_of_eq t.isLt (show cfg0.N = 1536 from N_0)
  have h2 := blk6 m c t ⟨p.val / 32, by omega⟩ q ⟨16 * (t.val / 16) + p.val / 32, by omega⟩ (tcol t q) rfl rfl
  rw [V5 m c, cast_groups, (group t p _ rfl).1, (group t p _ rfl).2] at h2
  exact congrArg₂ (fun (a : EReal) (b : BitVec 8) => a * Pow2.scale b) h1 h2

/-- The dequantised rows of a block. -/
def xB (i : Fin 96) : FVec Ideal S512x2048 .bf16 := fun y => X m c ⟨512 * i.val + (y 0).val, by have : (y 0).val < 512 := (y 0).isLt; omega⟩ (y 1)
def dB (i : Fin 96) : FVec Ideal S512x2048 .bf16 := fun y => D m c ⟨512 * i.val + (y 0).val, by have : (y 0).val < 512 := (y 0).isLt; omega⟩ (y 1)

/-- The block of rows of a point. -/
abbrev big (t : Fin cfg0.N) : Fin 96 := ⟨t.val / 16, by have hN : t.val < 1536 := lt_of_lt_of_eq t.isLt (show cfg0.N = 1536 from N_0); omega⟩

theorem rows4_eq (t : Fin cfg0.N) : rows4 (iblk m c 0 t) (iblk m c 2 t) = xB m c (big t) := by
  funext y; rw [eq_ix2 y]; exact rows4_at m c t (y 0) (y 1)
theorem rows5_eq (t : Fin cfg0.N) : rows5 (iblk m c 1 t) (iblk m c 2 t) = dB m c (big t) := by
  funext y; rw [eq_ix2 y]; exact rows5_at m c t (y 0) (y 1)

theorem gate_at (t : Fin cfg0.N) (p q : Fin 512) : rowcol (xB m c (big t)) (iblk m c 7 t) p q = gate (X m c) (W m c) (row t p) (col t q) := by
  refine Finset.sum_congr rfl fun k _ => congrArg (X m c (row t p) k * ·) ?_
  rw [blk7 m c t k q k ⟨0 + (512 * (t.val % 16) + q.val), by omega⟩ rfl (by show 0 + (512 * (t.val % 16) + q.val) = _; omega), V_main_arg8 m c]
theorem up_at (t : Fin cfg0.N) (p q : Fin 512) : rowcol (xB m c (big t)) (iblk m c 8 t) p q = up (X m c) (W m c) (row t p) (col t q) := by
  refine Finset.sum_congr rfl fun k _ => congrArg (X m c (row t p) k * ·) ?_
  rw [blk8 m c t k q k ⟨8192 + (512 * (t.val % 16) + q.val), by omega⟩ rfl rfl, V_main_arg8 m c]
theorem down_at (t : Fin cfg0.N) (p q : Fin 512) : rowcol (dB m c (big t)) (iblk m c 9 t) p q = down (D m c) (Wd m c) (row t p) (col t q) := by
  refine Finset.sum_congr rfl fun k _ => congrArg (D m c (row t p) k * ·) ?_
  rw [blk9 m c t k q k ⟨0 + (512 * (t.val % 16) + q.val), by omega⟩ rfl (by show 0 + (512 * (t.val % 16) + q.val) = _; omega), V_main_arg10 m c]

/-- The hidden activations and the two gradients of a point. -/
theorem hb_at (t : Fin cfg0.N) (p q : Fin 512) : hbB (xB m c (big t)) (iblk m c 7 t) (iblk m c 8 t) (ix2 p q) = hb (X m c) (W m c) (row t p) (col t q) := by
  show hidden (rowcol _ _ p q) (rowcol _ _ p q) = hidden _ _
  rw [gate_at m c t p q, up_at m c t p q]
theorem dg_at (t : Fin cfg0.N) (p q : Fin 512) : dgB (xB m c (big t)) (dB m c (big t)) (iblk m c 7 t) (iblk m c 8 t) (iblk m c 9 t) (ix2 p q) = dg (X m c) (D m c) (W m c) (Wd m c) (row t p) (col t q) := by
  show dgate (rowcol _ _ p q) (rowcol _ _ p q) (rowcol _ _ p q) = dgate _ _ _
  rw [gate_at m c t p q, up_at m c t p q, down_at m c t p q]
theorem du_at (t : Fin cfg0.N) (p q : Fin 512) : duB (xB m c (big t)) (dB m c (big t)) (iblk m c 7 t) (iblk m c 9 t) (ix2 p q) = du (X m c) (D m c) (W m c) (Wd m c) (row t p) (col t q) := by
  show dup (rowcol _ _ p q) (rowcol _ _ p q) = dup _ _
  rw [gate_at m c t p q, down_at m c t p q]

/-- The accumulator after a point: what it held and the two products. -/
theorem pay2_apply (acc : FVec Ideal S512x2048 .f32) (a : FVec Ideal S512x512 .bf16) (w : FVec Ideal S512x2048 .bf16) (b : FVec Ideal S512x512 .bf16) (u : FVec Ideal S512x2048 .bf16) (p : Fin 512) (j : Fin 2048) :
    k0_pay2 (F := Ideal) acc a w b u (ix2 p j) = (acc (ix2 p j) : EReal) + ((∑ k : Fin 512, (a (ix2 p k) : EReal) * w (ix2 k j)) + ∑ k : Fin 512, (b (ix2 p k) : EReal) * u (ix2 k j)) := by
  unfold_payloads
  pointwise
theorem pay147_apply (p : Fin 512) (j : Fin 2048) : (k0_pay147 (F := Ideal) (ix2 p j) : EReal) = 0 := by
  unfold_payloads
  pointwise

/-- The products of the gradients of a point are its share. -/
theorem share_at (t : Fin cfg0.N) (acc : FVec Ideal S512x2048 .f32) (p : Fin 512) (j : Fin 2048) :
    k0_pay2 (F := Ideal) acc (dgB (xB m c (big t)) (dB m c (big t)) (iblk m c 7 t) (iblk m c 8 t) (iblk m c 9 t)) (iblk m c 10 t)
        (duB (xB m c (big t)) (dB m c (big t)) (iblk m c 7 t) (iblk m c 9 t)) (iblk m c 11 t) (ix2 p j)
      = (acc (ix2 p j) : EReal) + share (dg (X m c) (D m c) (W m c) (Wd m c)) (du (X m c) (D m c) (W m c) (Wd m c)) (Wt m c) (row t p) j ⟨t.val % 16, by omega⟩ := by
  rw [pay2_apply]
  unfold share
  refine congrArg _ (congrArg₂ (· + ·) (Finset.sum_congr rfl fun k _ => ?_) (Finset.sum_congr rfl fun k _ => ?_))
  · rw [dg_at m c t p k, blk10 m c t k j ⟨512 * (t.val % 16) + k.val, by omega⟩ j rfl rfl, V_main_arg9 m c]
  · rw [du_at m c t p k, blk11 m c t k j ⟨8192 + (512 * (t.val % 16) + k.val), by omega⟩ j rfl rfl, V_main_arg9 m c]

end Cert.Proof.Blocks

end
-- ==== Proof.Load.lean ====
/-
  The block of rows after the loop, and the loads and stores of whole blocks.
-/
module

public import proofs.«01_k».proof.Proof.Gen.ActIdeal.Frame
public import proofs.«01_k».proof.Proof.Trip
public import proofs.«01_k».proof.Proof.Gate
public import proofs.«01_k».proof.Proof.Columns

@[expose] public section

set_option maxRecDepth 16384

noncomputable section

namespace Cert.Proof.Load

open Cert.ActIdeal Cert.ActIdeal.Gen Idealize.ShloMosaic Idealize.ShloMosaic.TcCoe Idealize.SL.Sem
open Cert.Proof.Trip Cert.Proof.Gate Cert.Proof.Columns

theorem hz : (![0, 0] : Fin 2 → Nat) = fun _ => 0 := funext fun a => by fin_cases a <;> rfl

/-- A load of a whole array that its pieces cover. -/
theorem load_full {S : Shape} {e : EltTy} {κ : Kind} {sp : Space} (v : View sig κ sp S e) (L : List (View.Piece (Elt Ideal) S e)) (G : S.Idx → Elt Ideal e)
    (h : ∀ y, ∃ p ∈ L, y ∈ p.1.set) (hG : View.canon L = G) {off : Fin S.rank → Nat} (ho : off = fun _ => 0) (inb : ∀ a, off a + S.size a ≤ S.size a) :
    v.readCov L (Rect.unit off S.size inb).toLoadRect = G := by
  rw [View.readCov_eq_canon_ld v L _ h, hG, View.ld_unit_zero ho]

/-- A load of a whole array that nothing has been stored into. -/
theorem load_kept {S : Shape} {e : EltTy} (m : Memref sig .tc .vmem S e) (hm : m.IsWhole) (X : Vec Ideal S e) {off : Fin S.rank → Nat} (ho : off = fun _ => 0)
    (inb : ∀ a, off a + S.size a ≤ S.size a) : m.view.readAt (Elt Ideal) (Rect.unit off S.size inb).toLoadRect (hm.unread X) = X := by
  rw [View.readAt_eq_ld, hm.read_unread, View.ld_unit_zero ho]

/-- An array stored in two pieces. -/
theorem two {S : Shape} {e : EltTy} {G : S.Idx → Elt Ideal e} {p q : View.Piece (Elt Ideal) S e} (hp : ∀ y : p.1.shape.Idx, p.2 y = G (p.1.emb y))
    (hq : ∀ y : q.1.shape.Idx, q.2 y = G (q.1.emb y)) : View.PiecesOf G [p, q] := ⟨hp, hq, trivial⟩

theorem pay2_congr {a a' : Vec Ideal S512x2048 .f32} {b b' : Vec Ideal S512x512 .bf16} {c c' : Vec Ideal S512x2048 .bf16} {d d' : Vec Ideal S512x512 .bf16}
    {e e' : Vec Ideal S512x2048 .bf16} (ha : a = a') (hb : b = b') (hc : c = c') (hd : d = d') (he : e = e') :
    k0_pay2 (F := Ideal) a b c d e = k0_pay2 (F := Ideal) a' b' c' d' e' := by subst ha hb hc hd he; rfl

/-- Every tile the trips write is a block of the dequantised codes. -/
theorem trips4 (𝒱 : Variants) (bd : Option 𝒱.V) (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole)  (k0_h1 : k0_cond1 i = 1#1)
    (x0 : Vec Ideal S512x2048 .fp8e4m3) (x1 : Vec Ideal S512x2048 .fp8e5m2) (x2 : Vec Ideal S512x128 .i8) (N : Nat) (hN : N ≤ k0_t1_loop.trips) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 (harg2.unread x0) (harg3.unread x1) (harg4.unread x2) N).1,
      ∀ y : p.1.shape.Idx, p.2 y = rows4 x0 x2 (p.1.emb y) := by
  induction N with
  | zero => intro p hp; exact absurd hp List.not_mem_nil
  | succ N ih =>
    intro p hp
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 _ _ _ ⟨N, hN⟩] at hp
    rcases List.mem_append.mp hp with hp | hp
    · exact (trip4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 x0 x1 x2 ⟨N, hN⟩).mem p hp
    · exact ih (by omega) p hp

/-- Every tile the trips write is a block of the dequantised codes. -/
theorem trips5 (𝒱 : Variants) (bd : Option 𝒱.V) (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole)  (k0_h1 : k0_cond1 i = 1#1)
    (x0 : Vec Ideal S512x2048 .fp8e4m3) (x1 : Vec Ideal S512x2048 .fp8e5m2) (x2 : Vec Ideal S512x128 .i8) (N : Nat) (hN : N ≤ k0_t1_loop.trips) :
    ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 (harg2.unread x0) (harg3.unread x1) (harg4.unread x2) N).2,
      ∀ y : p.1.shape.Idx, p.2 y = rows5 x1 x2 (p.1.emb y) := by
  induction N with
  | zero => intro p hp; exact absurd hp List.not_mem_nil
  | succ N ih =>
    intro p hp
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 _ _ _ ⟨N, hN⟩] at hp
    rcases List.mem_append.mp hp with hp | hp
    · exact (trip5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 x0 x1 x2 ⟨N, hN⟩).mem p hp
    · exact ih (by omega) p hp

end Cert.Proof.Load

end
-- ==== Proof.CaseA.lean ====
/-
  What a grid point leaves at the first block of hidden columns: the block of rows is dequantised and the accumulator starts from zero.
-/
module

public import proofs.«01_k».proof.Proof.Load

@[expose] public section

set_option maxRecDepth 16384

noncomputable section

namespace Cert.Proof.CaseA

open Cert.ActIdeal Cert.ActIdeal.Gen Idealize.ShloMosaic Idealize.ShloMosaic.TcCoe Idealize.SL.Sem
open Cert.Proof.Trip Cert.Proof.Gate Cert.Proof.Columns

open Cert.Proof.Load

theorem canonS0 (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11).2.2.2.2.2.2.1 = rows4 x0 x2 := by
  funext y
  exact View.canon_apply_of_pieces _ _ (trips4 Variants.none none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 _ le_rfl) y (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 y)

theorem sout0 (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 = rows4 x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11), canonS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11]

theorem canonS1 (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11).2.2.2.2.2.2.2.1 = rows5 x1 x2 := by
  funext y
  exact View.canon_apply_of_pieces _ _ (trips5 Variants.none none c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 _ le_rfl) y (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 y)

theorem sout1 (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 = rows5 x1 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11), canonS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11]

theorem hb_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11).2.1 = hbB (rows4 x0 x2) x7 x8 := by
  funext y
  refine View.canon_apply_of_pieces _ _ (View.PiecesOf.mem ?_) y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 y)
  unfold kernelRun0_A
  dsimp only
  exact two (hb_piece 256 (by decide) _ arg9 harg9 x7 arg10 harg10 x8 _ _ (load_full _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) (by decide) _ rfl) (hb_piece 0 (by decide) _ arg9 harg9 x7 arg10 harg10 x8 _ _ (load_full _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) (by decide) _ rfl)

theorem hb_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 = hbB (rows4 x0 x2) x7 x8 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11), hb_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11]

theorem dg_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11).2.2.1 = dgB (rows4 x0 x2) (rows5 x1 x2) x7 x8 x9 := by
  funext y
  refine View.canon_apply_of_pieces _ _ (View.PiecesOf.mem ?_) y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 y)
  unfold kernelRun0_A
  dsimp only
  exact two (dg_piece 256 (by decide) _ arg9 harg9 x7 arg10 harg10 x8 arg11 harg11 x9 _ _ (load_full _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) _ _ (load_full _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) (by decide) _ rfl) (dg_piece 0 (by decide) _ arg9 harg9 x7 arg10 harg10 x8 arg11 harg11 x9 _ _ (load_full _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) _ _ (load_full _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) (by decide) _ rfl)

theorem dg_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 = dgB (rows4 x0 x2) (rows5 x1 x2) x7 x8 x9 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11), dg_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11]

theorem du_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11).2.2.2.1 = duB (rows4 x0 x2) (rows5 x1 x2) x7 x9 := by
  funext y
  refine View.canon_apply_of_pieces _ _ (View.PiecesOf.mem ?_) y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 y)
  unfold kernelRun0_A
  dsimp only
  exact two (du_piece 256 (by decide) _ arg9 harg9 x7 arg11 harg11 x9 _ _ (load_full _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) _ _ (load_full _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) (by decide) _ rfl) (du_piece 0 (by decide) _ arg9 harg9 x7 arg11 harg11 x9 _ _ (load_full _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) _ _ (load_full _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (canonS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) (by decide) _ rfl)

theorem du_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 = duB (rows4 x0 x2) (rows5 x1 x2) x7 x9 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11), du_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11]

theorem xT_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 = cols4 x3 x4 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11)]
  unfold kernelRun0_A
  dsimp only
  refine (View.canon_unit_zero (S := S128x512) hz _ _).trans ?_
  exact stack4 arg5 harg5 arg6 harg6 x3 x4 _ rfl

theorem dyT_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 = cols5 x5 x6 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11)]
  unfold kernelRun0_A
  dsimp only
  refine (View.canon_unit_zero (S := S128x512) hz _ _).trans ?_
  exact stack5 arg7 harg7 arg8 harg8 x5 x6 _ rfl

theorem acc_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11).2.2.2.2.2.2.2.2.1 = k0_pay2 (F := Ideal) (k0_pay147 (F := Ideal)) (dgB (rows4 x0 x2) (rows5 x1 x2) x7 x8 x9) x10 (duB (rows4 x0 x2) (rows5 x1 x2) x7 x9) x11 := by
  unfold kernelRun0_A
  dsimp only
  refine (View.canon_cons_unit_zero (S := S512x2048) hz _ _ _).trans ?_
  exact pay2_congr (View.readCov_unit_zero (S := S512x2048) _ hz _ _) (load_full _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (dg_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) (load_kept arg12 harg12 x10 hz _)
    (load_full _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) (du_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11) hz _) (load_kept arg13 harg13 x11 hz _)

theorem sout2 (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 = k0_pay2 (F := Ideal) (k0_pay147 (F := Ideal)) (dgB (rows4 x0 x2) (rows5 x1 x2) x7 x8 x9) x10 (duB (rows4 x0 x2) (rows5 x1 x2) x7 x9) x11 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11), acc_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11]

end Cert.Proof.CaseA

end
-- ==== Proof.CaseB.lean ====
/-
  What a grid point leaves at a block of hidden columns in the middle.
-/
module

public import proofs.«01_k».proof.Proof.Load

@[expose] public section

set_option maxRecDepth 16384

noncomputable section

namespace Cert.Proof.CaseB

open Cert.ActIdeal Cert.ActIdeal.Gen Idealize.ShloMosaic Idealize.ShloMosaic.TcCoe Idealize.SL.Sem
open Cert.Proof.Trip Cert.Proof.Gate Cert.Proof.Columns

open Cert.Proof.Load

theorem hb_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2).2.1 = hbB xs0 x7 x8 := by
  funext y
  refine View.canon_apply_of_pieces _ _ (View.PiecesOf.mem ?_) y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 y)
  unfold kernelRun0_B
  dsimp only
  exact two (hb_piece 256 (by decide) _ arg9 harg9 x7 arg10 harg10 x8 _ _ (load_kept arg20 harg20 xs0 hz _) (by decide) _ rfl) (hb_piece 0 (by decide) _ arg9 harg9 x7 arg10 harg10 x8 _ _ (load_kept arg20 harg20 xs0 hz _) (by decide) _ rfl)

theorem hb_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = hbB xs0 x7 x8 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2), hb_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2]

theorem dg_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2).2.2.1 = dgB xs0 xs1 x7 x8 x9 := by
  funext y
  refine View.canon_apply_of_pieces _ _ (View.PiecesOf.mem ?_) y (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 y)
  unfold kernelRun0_B
  dsimp only
  exact two (dg_piece 256 (by decide) _ arg9 harg9 x7 arg10 harg10 x8 arg11 harg11 x9 _ _ (load_kept arg20 harg20 xs0 hz _) _ _ (load_kept arg21 harg21 xs1 hz _) (by decide) _ rfl) (dg_piece 0 (by decide) _ arg9 harg9 x7 arg10 harg10 x8 arg11 harg11 x9 _ _ (load_kept arg20 harg20 xs0 hz _) _ _ (load_kept arg21 harg21 xs1 hz _) (by decide) _ rfl)

theorem dg_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = dgB xs0 xs1 x7 x8 x9 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2), dg_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2]

theorem du_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2).2.2.2.1 = duB xs0 xs1 x7 x9 := by
  funext y
  refine View.canon_apply_of_pieces _ _ (View.PiecesOf.mem ?_) y (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 y)
  unfold kernelRun0_B
  dsimp only
  exact two (du_piece 256 (by decide) _ arg9 harg9 x7 arg11 harg11 x9 _ _ (load_kept arg20 harg20 xs0 hz _) _ _ (load_kept arg21 harg21 xs1 hz _) (by decide) _ rfl) (du_piece 0 (by decide) _ arg9 harg9 x7 arg11 harg11 x9 _ _ (load_kept arg20 harg20 xs0 hz _) _ _ (load_kept arg21 harg21 xs1 hz _) (by decide) _ rfl)

theorem du_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = duB xs0 xs1 x7 x9 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2), du_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2]

theorem xT_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = cols4 x3 x4 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2)]
  unfold kernelRun0_B
  dsimp only
  refine (View.canon_unit_zero (S := S128x512) hz _ _).trans ?_
  exact stack4 arg5 harg5 arg6 harg6 x3 x4 _ rfl

theorem dyT_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = cols5 x5 x6 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2)]
  unfold kernelRun0_B
  dsimp only
  refine (View.canon_unit_zero (S := S128x512) hz _ _).trans ?_
  exact stack5 arg7 harg7 arg8 harg8 x5 x6 _ rfl

theorem acc_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2).2.2.2.2.2.2.2.2.1 = k0_pay2 (F := Ideal) xs2 (dgB xs0 xs1 x7 x8 x9) x10 (duB xs0 xs1 x7 x9) x11 := by
  unfold kernelRun0_B
  dsimp only
  refine (View.canon_cons_unit_zero (S := S512x2048) hz _ _ _).trans ?_
  exact pay2_congr (load_kept arg22 harg22 xs2 hz _) (load_full _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) (dg_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) hz _) (load_kept arg12 harg12 x10 hz _)
    (load_full _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) (du_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) hz _) (load_kept arg13 harg13 x11 hz _)

theorem sout2 (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : ¬cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = k0_pay2 (F := Ideal) xs2 (dgB xs0 xs1 x7 x8 x9) x10 (duB xs0 xs1 x7 x9) x11 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2), acc_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2]

end Cert.Proof.CaseB

end
-- ==== Proof.CaseC.lean ====
/-
  What a grid point leaves at the last block of hidden columns: the accumulated product is stored.
-/
module

public import proofs.«01_k».proof.Proof.Load

@[expose] public section

set_option maxRecDepth 16384

noncomputable section

namespace Cert.Proof.CaseC

open Cert.ActIdeal Cert.ActIdeal.Gen Idealize.ShloMosaic Idealize.ShloMosaic.TcCoe Idealize.SL.Sem
open Cert.Proof.Trip Cert.Proof.Gate Cert.Proof.Columns

open Cert.Proof.Load

theorem hb_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2).2.1 = hbB xs0 x7 x8 := by
  funext y
  refine View.canon_apply_of_pieces _ _ (View.PiecesOf.mem ?_) y (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 y)
  unfold kernelRun0_C
  dsimp only
  exact two (hb_piece 256 (by decide) _ arg9 harg9 x7 arg10 harg10 x8 _ _ (load_kept arg20 harg20 xs0 hz _) (by decide) _ rfl) (hb_piece 0 (by decide) _ arg9 harg9 x7 arg10 harg10 x8 _ _ (load_kept arg20 harg20 xs0 hz _) (by decide) _ rfl)

theorem hb_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = hbB xs0 x7 x8 := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2), hb_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2]

theorem dg_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2).2.2.1 = dgB xs0 xs1 x7 x8 x9 := by
  funext y
  refine View.canon_apply_of_pieces _ _ (View.PiecesOf.mem ?_) y (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 y)
  unfold kernelRun0_C
  dsimp only
  exact two (dg_piece 256 (by decide) _ arg9 harg9 x7 arg10 harg10 x8 arg11 harg11 x9 _ _ (load_kept arg20 harg20 xs0 hz _) _ _ (load_kept arg21 harg21 xs1 hz _) (by decide) _ rfl) (dg_piece 0 (by decide) _ arg9 harg9 x7 arg10 harg10 x8 arg11 harg11 x9 _ _ (load_kept arg20 harg20 xs0 hz _) _ _ (load_kept arg21 harg21 xs1 hz _) (by decide) _ rfl)

theorem dg_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = dgB xs0 xs1 x7 x8 x9 := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2), dg_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2]

theorem du_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2).2.2.2.1 = duB xs0 xs1 x7 x9 := by
  funext y
  refine View.canon_apply_of_pieces _ _ (View.PiecesOf.mem ?_) y (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 y)
  unfold kernelRun0_C
  dsimp only
  exact two (du_piece 256 (by decide) _ arg9 harg9 x7 arg11 harg11 x9 _ _ (load_kept arg20 harg20 xs0 hz _) _ _ (load_kept arg21 harg21 xs1 hz _) (by decide) _ rfl) (du_piece 0 (by decide) _ arg9 harg9 x7 arg11 harg11 x9 _ _ (load_kept arg20 harg20 xs0 hz _) _ _ (load_kept arg21 harg21 xs1 hz _) (by decide) _ rfl)

theorem du_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = duB xs0 xs1 x7 x9 := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2), du_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2]

theorem xT_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_C_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = cols4 x3 x4 := by
  unfold out0_C_16
  rw [View.read_writes_eq_canon _ _ _ (cover0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2)]
  unfold kernelRun0_C
  dsimp only
  refine (View.canon_unit_zero (S := S128x512) hz _ _).trans ?_
  exact stack4 arg5 harg5 arg6 harg6 x3 x4 _ rfl

theorem dyT_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_C_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = cols5 x5 x6 := by
  unfold out0_C_17
  rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2)]
  unfold kernelRun0_C
  dsimp only
  refine (View.canon_unit_zero (S := S128x512) hz _ _).trans ?_
  exact stack5 arg7 harg7 arg8 harg8 x5 x6 _ rfl

theorem acc_canon (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2).2.2.2.2.2.2.2.2.1 = k0_pay2 (F := Ideal) xs2 (dgB xs0 xs1 x7 x8 x9) x10 (duB xs0 xs1 x7 x9) x11 := by
  unfold kernelRun0_C
  dsimp only
  refine (View.canon_cons_unit_zero (S := S512x2048) hz _ _ _).trans ?_
  exact pay2_congr (load_kept arg22 harg22 xs2 hz _) (load_full _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) (dg_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) hz _) (load_kept arg12 harg12 x10 hz _)
    (load_full _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) (du_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) hz _) (load_kept arg13 harg13 x11 hz _)

theorem sout2 (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = k0_pay2 (F := Ideal) xs2 (dgB xs0 xs1 x7 x8 x9) x10 (duB xs0 xs1 x7 x9) x11 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2), acc_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2]

theorem dx_eq (c : Dev nD) (i : grid0.Coords) (arg2 : Memref sig .tc .vmem S512x2048 .fp8e4m3) (harg2 : arg2.IsWhole) (arg3 : Memref sig .tc .vmem S512x2048 .fp8e5m2) (harg3 : arg3.IsWhole) (arg4 : Memref sig .tc .vmem S512x128 .i8) (harg4 : arg4.IsWhole) (arg5 : Memref sig .tc .vmem S512x128 .fp8e4m3) (harg5 : arg5.IsWhole) (arg6 : Memref sig .tc .vmem S16x128 .i8) (harg6 : arg6.IsWhole) (arg7 : Memref sig .tc .vmem S512x128 .fp8e5m2) (harg7 : arg7.IsWhole) (arg8 : Memref sig .tc .vmem S16x128 .i8) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S128x512 .bf16) (harg18 : arg18.IsWhole) (arg19 : Memref sig .tc .vmem S128x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) (hc0 : ¬cond0_0 i) (hc1 : cond0_1 i)
    (x0 : Vec Ideal S512x2048 .fp8e4m3) (x1 : Vec Ideal S512x2048 .fp8e5m2) (x2 : Vec Ideal S512x128 .i8) (x3 : Vec Ideal S512x128 .fp8e4m3) (x4 : Vec Ideal S16x128 .i8) (x5 : Vec Ideal S512x128 .fp8e5m2) (x6 : Vec Ideal S16x128 .i8) (x7 : Vec Ideal S2048x512 .bf16) (x8 : Vec Ideal S2048x512 .bf16) (x9 : Vec Ideal S2048x512 .bf16) (x10 : Vec Ideal S512x2048 .bf16) (x11 : Vec Ideal S512x2048 .bf16) (xs0 : Vec Ideal S512x2048 .bf16) (xs1 : Vec Ideal S512x2048 .bf16) (xs2 : Vec Ideal S512x2048 .f32) : out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2 = k0_pay3 (F := Ideal) (k0_pay2 (F := Ideal) xs2 (dgB xs0 xs1 x7 x8 x9) x10 (duB xs0 xs1 x7 x9) x11) := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2)]
  unfold kernelRun0_C
  dsimp only
  refine (View.canon_unit_zero (S := S512x2048) hz _ _).trans ?_
  exact congrArg (k0_pay3 (F := Ideal)) (load_full _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) (acc_canon c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 xs0 xs1 xs2) hz _)

end Cert.Proof.CaseC

end
-- ==== Proof.Points.lean ====
/-
  What every grid point leaves: the dequantised rows, the hidden activations and the gradients of its block, the sum of
  the shares of the hidden columns met so far, and the six result arrays these make up.
-/
module

public import proofs.«01_k».proof.Proof.Blocks
public import proofs.«01_k».proof.Proof.CaseA
public import proofs.«01_k».proof.Proof.CaseB
public import proofs.«01_k».proof.Proof.CaseC
public import proofs.«01_k».proof.Proof.Gen.ActIdeal.Value

@[expose] public section

set_option maxRecDepth 16384

noncomputable section

namespace Cert.Proof.Points

open Cert.ActIdeal Cert.ActIdeal.Gen Cert.ActIdeal.Value Idealize.ShloMosaic Idealize.ShloMosaic.TcCoe Idealize.SL.Sem
open Cert.Proof.Spec Cert.Proof.Args Cert.Proof.Gate Cert.Proof.Trip Cert.Proof.Columns Cert.Proof.Blocks

variable (m : (ℓ : Loc nD τ sig) → Buf (Elt Ideal) ℓ) (c : Dev nD)

theorem NN (t : Fin cfg0.N) : t.val < 1536 := lt_of_lt_of_eq t.isLt (show cfg0.N = 1536 from N_0)

/-- The point before. -/
abbrev before (t : Fin cfg0.N) : Fin cfg0.N := ⟨t.val - 1, Nat.lt_of_le_of_lt (Nat.sub_le _ _) t.isLt⟩
theorem big_before (t : Fin cfg0.N) (h0 : ¬t.val % 16 = 0) : big (before t) = big t := Fin.ext (by show (t.val - 1) / 16 = t.val / 16; omega)
theorem row_before (t : Fin cfg0.N) (h0 : ¬t.val % 16 = 0) (p : Fin 512) : row (before t) p = row t p :=
  Fin.ext (by show 512 * ((t.val - 1) / 16) + p.val = 512 * (t.val / 16) + p.val; omega)

/-- The scratch rows after a point are those of its block of rows. -/
theorem xs_all (n : Nat) : ∀ hn : n < cfg0.N, (outsAt0 m c n hn).2.2.2.2.2.2.1 = xB m c (big ⟨n, hn⟩) := by
  induction n with
  | zero =>
    intro hn
    exact (congrArg (fun r => r.2.2.2.2.2.2.1) (outsAt0_A m c ⟨0, hn⟩ (by rfl) (by show ¬0 % 16 = 15; decide))).trans ((CaseA.sout0 ..).trans (rows4_eq m c ⟨0, hn⟩))
  | succ n ih =>
    intro hn
    by_cases h0 : (n + 1) % 16 = 0
    · exact (congrArg (fun r => r.2.2.2.2.2.2.1) (outsAt0_A m c ⟨n + 1, hn⟩ h0 (by show ¬(n + 1) % 16 = 15; omega))).trans ((CaseA.sout0 ..).trans (rows4_eq m c ⟨n + 1, hn⟩))
    · have hp := ih (Nat.lt_of_succ_lt hn)
      have hb := big_before ⟨n + 1, hn⟩ h0
      have hs : (outsAt0 m c (n + 1) hn).2.2.2.2.2.2.1 = (outsAt0 m c n (Nat.lt_of_succ_lt hn)).2.2.2.2.2.2.1 := by
        by_cases h1 : (n + 1) % 16 = 15
        · exact congrArg (fun r => r.2.2.2.2.2.2.1) (outsAt0_C m c ⟨n + 1, hn⟩ h0 h1)
        · exact congrArg (fun r => r.2.2.2.2.2.2.1) (outsAt0_B m c ⟨n + 1, hn⟩ h0 h1)
      exact hs.trans (hp.trans (congrArg (xB m c) hb))
theorem xs_pt (t : Fin cfg0.N) : (outsAt0 m c t.val t.isLt).2.2.2.2.2.2.1 = xB m c (big t) := xs_all m c t.val t.isLt
theorem xs_before (t : Fin cfg0.N) (h0 : ¬t.val % 16 = 0) : (outsAt0 m c (t.val - 1) (Nat.lt_of_le_of_lt (Nat.sub_le _ _) t.isLt)).2.2.2.2.2.2.1 = xB m c (big t) :=
  (xs_pt m c (before t)).trans (congrArg (xB m c) (big_before t h0))

/-- The scratch rows after a point are those of its block of rows. -/
theorem dys_all (n : Nat) : ∀ hn : n < cfg0.N, (outsAt0 m c n hn).2.2.2.2.2.2.2.1 = dB m c (big ⟨n, hn⟩) := by
  induction n with
  | zero =>
    intro hn
    exact (congrArg (fun r => r.2.2.2.2.2.2.2.1) (outsAt0_A m c ⟨0, hn⟩ (by rfl) (by show ¬0 % 16 = 15; decide))).trans ((CaseA.sout1 ..).trans (rows5_eq m c ⟨0, hn⟩))
  | succ n ih =>
    intro hn
    by_cases h0 : (n + 1) % 16 = 0
    · exact (congrArg (fun r => r.2.2.2.2.2.2.2.1) (outsAt0_A m c ⟨n + 1, hn⟩ h0 (by show ¬(n + 1) % 16 = 15; omega))).trans ((CaseA.sout1 ..).trans (rows5_eq m c ⟨n + 1, hn⟩))
    · have hp := ih (Nat.lt_of_succ_lt hn)
      have hb := big_before ⟨n + 1, hn⟩ h0
      have hs : (outsAt0 m c (n + 1) hn).2.2.2.2.2.2.2.1 = (outsAt0 m c n (Nat.lt_of_succ_lt hn)).2.2.2.2.2.2.2.1 := by
        by_cases h1 : (n + 1) % 16 = 15
        · exact congrArg (fun r => r.2.2.2.2.2.2.2.1) (outsAt0_C m c ⟨n + 1, hn⟩ h0 h1)
        · exact congrArg (fun r => r.2.2.2.2.2.2.2.1) (outsAt0_B m c ⟨n + 1, hn⟩ h0 h1)
      exact hs.trans (hp.trans (congrArg (dB m c) hb))
theorem dys_pt (t : Fin cfg0.N) : (outsAt0 m c t.val t.isLt).2.2.2.2.2.2.2.1 = dB m c (big t) := dys_all m c t.val t.isLt
theorem dys_before (t : Fin cfg0.N) (h0 : ¬t.val % 16 = 0) : (outsAt0 m c (t.val - 1) (Nat.lt_of_le_of_lt (Nat.sub_le _ _) t.isLt)).2.2.2.2.2.2.2.1 = dB m c (big t) :=
  (dys_pt m c (before t)).trans (congrArg (dB m c) (big_before t h0))

theorem hb_pt (t : Fin cfg0.N) : (outsAt0 m c t.val t.isLt).2.1 = hbB (xB m c (big t)) (iblk m c 7 t) (iblk m c 8 t) := by
  by_cases h0 : t.val % 16 = 0
  · refine (congrArg (fun r => r.2.1) (outsAt0_A m c t h0 (by omega))).trans ?_
    dsimp only
    rw [CaseA.hb_eq, rows4_eq m c t]
  · by_cases h1 : t.val % 16 = 15
    · refine (congrArg (fun r => r.2.1) (outsAt0_C m c t h0 h1)).trans ?_
      dsimp only
      rw [CaseC.hb_eq, xs_before m c t h0]
    · refine (congrArg (fun r => r.2.1) (outsAt0_B m c t h0 h1)).trans ?_
      dsimp only
      rw [CaseB.hb_eq, xs_before m c t h0]
theorem dg_pt (t : Fin cfg0.N) : (outsAt0 m c t.val t.isLt).2.2.1 = dgB (xB m c (big t)) (dB m c (big t)) (iblk m c 7 t) (iblk m c 8 t) (iblk m c 9 t) := by
  by_cases h0 : t.val % 16 = 0
  · refine (congrArg (fun r => r.2.2.1) (outsAt0_A m c t h0 (by omega))).trans ?_
    dsimp only
    rw [CaseA.dg_eq, rows4_eq m c t, rows5_eq m c t]
  · by_cases h1 : t.val % 16 = 15
    · refine (congrArg (fun r => r.2.2.1) (outsAt0_C m c t h0 h1)).trans ?_
      dsimp only
      rw [CaseC.dg_eq, xs_before m c t h0, dys_before m c t h0]
    · refine (congrArg (fun r => r.2.2.1) (outsAt0_B m c t h0 h1)).trans ?_
      dsimp only
      rw [CaseB.dg_eq, xs_before m c t h0, dys_before m c t h0]
theorem du_pt (t : Fin cfg0.N) : (outsAt0 m c t.val t.isLt).2.2.2.1 = duB (xB m c (big t)) (dB m c (big t)) (iblk m c 7 t) (iblk m c 9 t) := by
  by_cases h0 : t.val % 16 = 0
  · refine (congrArg (fun r => r.2.2.2.1) (outsAt0_A m c t h0 (by omega))).trans ?_
    dsimp only
    rw [CaseA.du_eq, rows4_eq m c t, rows5_eq m c t]
  · by_cases h1 : t.val % 16 = 15
    · refine (congrArg (fun r => r.2.2.2.1) (outsAt0_C m c t h0 h1)).trans ?_
      dsimp only
      rw [CaseC.du_eq, xs_before m c t h0, dys_before m c t h0]
    · refine (congrArg (fun r => r.2.2.2.1) (outsAt0_B m c t h0 h1)).trans ?_
      dsimp only
      rw [CaseB.du_eq, xs_before m c t h0, dys_before m c t h0]
theorem xT_pt (t : Fin cfg0.N) : (outsAt0 m c t.val t.isLt).2.2.2.2.1 = cols4 (iblk m c 3 t) (iblk m c 4 t) := by
  by_cases h0 : t.val % 16 = 0
  · refine (congrArg (fun r => r.2.2.2.2.1) (outsAt0_A m c t h0 (by omega))).trans ?_
    dsimp only
    rw [CaseA.xT_eq]
  · by_cases h1 : t.val % 16 = 15
    · refine (congrArg (fun r => r.2.2.2.2.1) (outsAt0_C m c t h0 h1)).trans ?_
      dsimp only
      rw [CaseC.xT_eq]
    · refine (congrArg (fun r => r.2.2.2.2.1) (outsAt0_B m c t h0 h1)).trans ?_
      dsimp only
      rw [CaseB.xT_eq]
theorem dyT_pt (t : Fin cfg0.N) : (outsAt0 m c t.val t.isLt).2.2.2.2.2.1 = cols5 (iblk m c 5 t) (iblk m c 6 t) := by
  by_cases h0 : t.val % 16 = 0
  · refine (congrArg (fun r => r.2.2.2.2.2.1) (outsAt0_A m c t h0 (by omega))).trans ?_
    dsimp only
    rw [CaseA.dyT_eq]
  · by_cases h1 : t.val % 16 = 15
    · refine (congrArg (fun r => r.2.2.2.2.2.1) (outsAt0_C m c t h0 h1)).trans ?_
      dsimp only
      rw [CaseC.dyT_eq]
    · refine (congrArg (fun r => r.2.2.2.2.2.1) (outsAt0_B m c t h0 h1)).trans ?_
      dsimp only
      rw [CaseB.dyT_eq]

/-- The gradients of the gate and up values, of the arguments. -/
abbrev DG : Wide := dg (X m c) (D m c) (W m c) (Wd m c)
abbrev DU : Wide := du (X m c) (D m c) (W m c) (Wd m c)

/-- The share of the block of hidden columns of that number. -/
def sh (r : Fin 49152) (j : Fin 2048) (s : Nat) : EReal := if h : s < 16 then share (DG m c) (DU m c) (Wt m c) r j ⟨s, h⟩ else 0
theorem sh_at (t : Fin cfg0.N) (r : Fin 49152) (j : Fin 2048) : share (DG m c) (DU m c) (Wt m c) r j ⟨t.val % 16, by omega⟩ = sh m c r j (t.val % 16) := by
  unfold sh; rw [dif_pos (show t.val % 16 < 16 by omega)]

/-- What a point adds to: what the one before left. -/
theorem acc_step (t : Fin cfg0.N) (h0 : ¬t.val % 16 = 0) : (outsAt0 m c t.val t.isLt).2.2.2.2.2.2.2.2
    = k0_pay2 (F := Ideal) (outsAt0 m c (t.val - 1) (Nat.lt_of_le_of_lt (Nat.sub_le _ _) t.isLt)).2.2.2.2.2.2.2.2 (dgB (xB m c (big t)) (dB m c (big t)) (iblk m c 7 t) (iblk m c 8 t) (iblk m c 9 t)) (iblk m c 10 t) (duB (xB m c (big t)) (dB m c (big t)) (iblk m c 7 t) (iblk m c 9 t)) (iblk m c 11 t) := by
  by_cases h1 : t.val % 16 = 15
  · refine (congrArg (fun r => r.2.2.2.2.2.2.2.2) (outsAt0_C m c t h0 h1)).trans ?_
    dsimp only
    rw [CaseC.sout2, xs_before m c t h0, dys_before m c t h0]
  · refine (congrArg (fun r => r.2.2.2.2.2.2.2.2) (outsAt0_B m c t h0 h1)).trans ?_
    dsimp only
    rw [CaseB.sout2, xs_before m c t h0, dys_before m c t h0]
theorem acc_first (t : Fin cfg0.N) (h0 : t.val % 16 = 0) : (outsAt0 m c t.val t.isLt).2.2.2.2.2.2.2.2
    = k0_pay2 (F := Ideal) (k0_pay147 (F := Ideal)) (dgB (xB m c (big t)) (dB m c (big t)) (iblk m c 7 t) (iblk m c 8 t) (iblk m c 9 t)) (iblk m c 10 t) (duB (xB m c (big t)) (dB m c (big t)) (iblk m c 7 t) (iblk m c 9 t)) (iblk m c 11 t) := by
  refine (congrArg (fun r => r.2.2.2.2.2.2.2.2) (outsAt0_A m c t h0 (by omega))).trans ?_
  dsimp only
  rw [CaseA.sout2, rows4_eq m c t, rows5_eq m c t]

/-- The accumulator after a point: the shares of the blocks of hidden columns up to its own. -/
theorem acc_all (n : Nat) : ∀ (hn : n < cfg0.N) (p : Fin 512) (j : Fin 2048),
    (((outsAt0 m c n hn).2.2.2.2.2.2.2.2 : FVec Ideal S512x2048 .f32) (ix2 p j) : EReal) = ∑ s ∈ Finset.range (n % 16 + 1), sh m c (row ⟨n, hn⟩ p) j s := by
  have first : ∀ (t : Fin cfg0.N) (h0 : t.val % 16 = 0) (p : Fin 512) (j : Fin 2048),
      (((outsAt0 m c t.val t.isLt).2.2.2.2.2.2.2.2 : FVec Ideal S512x2048 .f32) (ix2 p j) : EReal) = ∑ s ∈ Finset.range (t.val % 16 + 1), sh m c (row t p) j s := by
    intro t h0 p j
    rw [acc_first m c t h0, share_at, pay147_apply, zero_add, sh_at, h0, Finset.sum_range_one]
  induction n with
  | zero => intro hn p j; exact first ⟨0, hn⟩ rfl p j
  | succ n ih =>
    intro hn p j
    by_cases h0 : (n + 1) % 16 = 0
    · exact first ⟨n + 1, hn⟩ h0 p j
    · have hp := ih (Nat.lt_of_succ_lt hn) p j
      have hr := row_before ⟨n + 1, hn⟩ h0 p
      have e1 : n % 16 + 1 = (n + 1) % 16 := by omega
      refine (congrFun (acc_step m c ⟨n + 1, hn⟩ h0) (ix2 p j)).trans ?_
      rw [share_at, sh_at, Finset.sum_range_succ]
      refine congrArg₂ (· + ·) (hp.trans ?_) rfl
      rw [e1]
      exact Finset.sum_congr rfl fun s _ => congrArg (fun r => sh m c r j s) hr

theorem pay3_apply (v : FVec Ideal S512x2048 .f32) (p : Fin 512) (j : Fin 2048) : (k0_pay3 (F := Ideal) v (ix2 p j) : EReal) = v (ix2 p j) := rfl

/-- At the last block of hidden columns the gradient of the input is whole. -/
theorem dx_pt (t : Fin cfg0.N) (h1 : t.val % 16 = 15) (p : Fin 512) (j : Fin 2048) :
    (((outsAt0 m c t.val t.isLt).1 : FVec Ideal S512x2048 .bf16) (ix2 p j) : EReal) = dx (DG m c) (DU m c) (Wt m c) (row t p) j := by
  have h0 : ¬t.val % 16 = 0 := by omega
  have e : (outsAt0 m c t.val t.isLt).1 = k0_pay3 (F := Ideal) (outsAt0 m c t.val t.isLt).2.2.2.2.2.2.2.2 := by
    rw [acc_step m c t h0]
    refine (congrArg (fun r => r.1) (outsAt0_C m c t h0 h1)).trans ?_
    dsimp only
    rw [CaseC.dx_eq, xs_before m c t h0, dys_before m c t h0]
  rw [e, pay3_apply, acc_all m c t.val t.isLt p j, h1, ← sum_share, Finset.sum_range]
  exact Finset.sum_congr rfl fun s _ => dif_pos s.isLt

theorem G12_at (r : Fin 49152) (j : Fin 2048) : ((G12 m c : FVec Ideal S49152x2048 .bf16) (ix2 r j) : EReal) = dx (DG m c) (DU m c) (Wt m c) r j := by
  have hn : pt12Of (ix2 r j) = 16 * (r.val / 512) + 15 := by show 16 * (1 * (r.val / 512 - 0) + 1 * (j.val / 2048 - 0)) + 15 = _; omega
  have h : pt12Of (ix2 r j) < cfg0.N := by rw [hn, show cfg0.N = 1536 from N_0]; omega
  have hl : loc12Of (ix2 r j) = ix2 ⟨r.val % 512, Nat.mod_lt _ (by decide)⟩ j := by
    funext a
    match a with
    | ⟨0, _⟩ => rfl
    | ⟨1, _⟩ => exact Fin.ext (Nat.mod_eq_of_lt j.isLt)
  unfold G12
  rw [dif_pos h, ← outsAt0_sweep m c _ h, hl]
  refine (dx_pt m c ⟨pt12Of (ix2 r j), h⟩ (by show pt12Of (ix2 r j) % 16 = 15; rw [hn]; omega) ⟨r.val % 512, Nat.mod_lt _ (by decide)⟩ j).trans ?_
  exact congrArg (fun r => dx (DG m c) (DU m c) (Wt m c) r j) (Fin.ext (by show 512 * (pt12Of (ix2 r j) / 16) + r.val % 512 = r.val; rw [hn]; omega))
theorem G13_at (r : Fin 49152) (j : Fin 8192) : ((G13 m c : FVec Ideal S49152x8192 .bf16) (ix2 r j) : EReal) = hb (X m c) (W m c) r j := by
  have hn : pt13Of (ix2 r j) = 16 * (r.val / 512) + j.val / 512 := by show 16 * (r.val / 512 - 0) + 1 * (j.val / 512 - 0) = _; omega
  have h : pt13Of (ix2 r j) < cfg0.N := by rw [hn, show cfg0.N = 1536 from N_0]; omega
  have hl : loc13Of (ix2 r j) = ix2 ⟨r.val % 512, Nat.mod_lt _ (by decide)⟩ ⟨j.val % 512, Nat.mod_lt _ (by decide)⟩ := by
    funext a
    match a with
    | ⟨0, _⟩ => rfl
    | ⟨1, _⟩ => rfl
  unfold G13
  rw [dif_pos h, ← outsAt0_sweep m c _ h, hl]
  refine (congrFun (hb_pt m c ⟨pt13Of (ix2 r j), h⟩) (ix2 ⟨r.val % 512, Nat.mod_lt _ (by decide)⟩ ⟨j.val % 512, Nat.mod_lt _ (by decide)⟩)).trans ((hb_at m c ⟨pt13Of (ix2 r j), h⟩ ⟨r.val % 512, Nat.mod_lt _ (by decide)⟩ ⟨j.val % 512, Nat.mod_lt _ (by decide)⟩).trans ?_)
  exact congrArg₂ (hb (X m c) (W m c)) (Fin.ext (by show 512 * (pt13Of (ix2 r j) / 16) + r.val % 512 = r.val; rw [hn]; omega)) (Fin.ext (by show 512 * (pt13Of (ix2 r j) % 16) + j.val % 512 = j.val; rw [hn]; omega))
theorem G14_at (r : Fin 49152) (j : Fin 8192) : ((G14 m c : FVec Ideal S49152x8192 .bf16) (ix2 r j) : EReal) = DG m c r j := by
  have hn : pt14Of (ix2 r j) = 16 * (r.val / 512) + j.val / 512 := by show 16 * (r.val / 512 - 0) + 1 * (j.val / 512 - 0) = _; omega
  have h : pt14Of (ix2 r j) < cfg0.N := by rw [hn, show cfg0.N = 1536 from N_0]; omega
  have hl : loc14Of (ix2 r j) = ix2 ⟨r.val % 512, Nat.mod_lt _ (by decide)⟩ ⟨j.val % 512, Nat.mod_lt _ (by decide)⟩ := by
    funext a
    match a with
    | ⟨0, _⟩ => rfl
    | ⟨1, _⟩ => rfl
  unfold G14
  rw [dif_pos h, ← outsAt0_sweep m c _ h, hl]
  refine (congrFun (dg_pt m c ⟨pt14Of (ix2 r j), h⟩) (ix2 ⟨r.val % 512, Nat.mod_lt _ (by decide)⟩ ⟨j.val % 512, Nat.mod_lt _ (by decide)⟩)).trans ((dg_at m c ⟨pt14Of (ix2 r j), h⟩ ⟨r.val % 512, Nat.mod_lt _ (by decide)⟩ ⟨j.val % 512, Nat.mod_lt _ (by decide)⟩).trans ?_)
  exact congrArg₂ (DG m c) (Fin.ext (by show 512 * (pt14Of (ix2 r j) / 16) + r.val % 512 = r.val; rw [hn]; omega)) (Fin.ext (by show 512 * (pt14Of (ix2 r j) % 16) + j.val % 512 = j.val; rw [hn]; omega))
theorem G15_at (r : Fin 49152) (j : Fin 8192) : ((G15 m c : FVec Ideal S49152x8192 .bf16) (ix2 r j) : EReal) = DU m c r j := by
  have hn : pt15Of (ix2 r j) = 16 * (r.val / 512) + j.val / 512 := by show 16 * (r.val / 512 - 0) + 1 * (j.val / 512 - 0) = _; omega
  have h : pt15Of (ix2 r j) < cfg0.N := by rw [hn, show cfg0.N = 1536 from N_0]; omega
  have hl : loc15Of (ix2 r j) = ix2 ⟨r.val % 512, Nat.mod_lt _ (by decide)⟩ ⟨j.val % 512, Nat.mod_lt _ (by decide)⟩ := by
    funext a
    match a with
    | ⟨0, _⟩ => rfl
    | ⟨1, _⟩ => rfl
  unfold G15
  rw [dif_pos h, ← outsAt0_sweep m c _ h, hl]
  refine (congrFun (du_pt m c ⟨pt15Of (ix2 r j), h⟩) (ix2 ⟨r.val % 512, Nat.mod_lt _ (by decide)⟩ ⟨j.val % 512, Nat.mod_lt _ (by decide)⟩)).trans ((du_at m c ⟨pt15Of (ix2 r j), h⟩ ⟨r.val % 512, Nat.mod_lt _ (by decide)⟩ ⟨j.val % 512, Nat.mod_lt _ (by decide)⟩).trans ?_)
  exact congrArg₂ (DU m c) (Fin.ext (by show 512 * (pt15Of (ix2 r j) / 16) + r.val % 512 = r.val; rw [hn]; omega)) (Fin.ext (by show 512 * (pt15Of (ix2 r j) % 16) + j.val % 512 = j.val; rw [hn]; omega))
theorem G16_at (r : Fin 2048) (j : Fin 49152) : ((G16 m c : FVec Ideal S2048x49152 .bf16) (ix2 r j) : EReal) = XT m c j r := by
  have hn : pt16Of (ix2 r j) = r.val / 128 + 16 * (j.val / 512) := by show 1 * (r.val / 128 - 0) + 16 * (j.val / 512 - 0) = _; omega
  have h : pt16Of (ix2 r j) < cfg0.N := by rw [hn, show cfg0.N = 1536 from N_0]; omega
  have hl : loc16Of (ix2 r j) = ix2 ⟨r.val % 128, Nat.mod_lt _ (by decide)⟩ ⟨j.val % 512, Nat.mod_lt _ (by decide)⟩ := by
    funext a
    match a with
    | ⟨0, _⟩ => rfl
    | ⟨1, _⟩ => rfl
  unfold G16
  rw [dif_pos h, ← outsAt0_sweep m c _ h, hl]
  refine (congrFun (xT_pt m c ⟨pt16Of (ix2 r j), h⟩) (ix2 ⟨r.val % 128, Nat.mod_lt _ (by decide)⟩ ⟨j.val % 512, Nat.mod_lt _ (by decide)⟩)).trans ((cols4_at m c ⟨pt16Of (ix2 r j), h⟩ ⟨r.val % 128, Nat.mod_lt _ (by decide)⟩ ⟨j.val % 512, Nat.mod_lt _ (by decide)⟩).trans ?_)
  exact congrArg₂ (XT m c) (Fin.ext (by show 512 * (pt16Of (ix2 r j) / 16) + j.val % 512 = j.val; rw [hn]; omega)) (Fin.ext (by show 128 * (pt16Of (ix2 r j) % 16) + r.val % 128 = r.val; rw [hn]; omega))
theorem G17_at (r : Fin 2048) (j : Fin 49152) : ((G17 m c : FVec Ideal S2048x49152 .bf16) (ix2 r j) : EReal) = DT m c j r := by
  have hn : pt17Of (ix2 r j) = r.val / 128 + 16 * (j.val / 512) := by show 1 * (r.val / 128 - 0) + 16 * (j.val / 512 - 0) = _; omega
  have h : pt17Of (ix2 r j) < cfg0.N := by rw [hn, show cfg0.N = 1536 from N_0]; omega
  have hl : loc17Of (ix2 r j) = ix2 ⟨r.val % 128, Nat.mod_lt _ (by decide)⟩ ⟨j.val % 512, Nat.mod_lt _ (by decide)⟩ := by
    funext a
    match a with
    | ⟨0, _⟩ => rfl
    | ⟨1, _⟩ => rfl
  unfold G17
  rw [dif_pos h, ← outsAt0_sweep m c _ h, hl]
  refine (congrFun (dyT_pt m c ⟨pt17Of (ix2 r j), h⟩) (ix2 ⟨r.val % 128, Nat.mod_lt _ (by decide)⟩ ⟨j.val % 512, Nat.mod_lt _ (by decide)⟩)).trans ((cols5_at m c ⟨pt17Of (ix2 r j), h⟩ ⟨r.val % 128, Nat.mod_lt _ (by decide)⟩ ⟨j.val % 512, Nat.mod_lt _ (by decide)⟩).trans ?_)
  exact congrArg₂ (DT m c) (Fin.ext (by show 512 * (pt17Of (ix2 r j) / 16) + j.val % 512 = j.val; rw [hn]; omega)) (Fin.ext (by show 128 * (pt17Of (ix2 r j) % 16) + r.val % 128 = r.val; rw [hn]; omega))
end Cert.Proof.Points

end
-- ==== Proof.Agree.lean ====
/-
  The two programs leave the same arrays: the reference's run with its results named, and each result of the kernel equal
  to the reference's when the arguments agree and the exponents are those of normal floats.
-/
module

public import proofs.«01_k».proof.Proof.Normal
public import proofs.«01_k».proof.Proof.Points
public import proofs.«01_k».proof.Proof.Gen.ActRefIdeal.Run

@[expose] public section

set_option maxRecDepth 16384

noncomputable section

namespace Cert.Proof.Agree

open Idealize.ShloMosaic Idealize.ShloMosaic.TcCoe Idealize.SL.Sem Cert.Proof.Spec

section Named
open Cert.ActRefIdeal Cert.ActRefIdeal.Gen Cert.ActRefIdeal.Value Cert.ActRefIdeal.Read

variable (m : (ℓ : Loc nD τ sig) → Buf (Elt Ideal) ℓ)

abbrev o48 (c : Dev nD) := val_main_v48 (F := Ideal) (Ref.a8 m c) (Ref.a9 m c) (Ref.a10 m c) (Ref.r0 m c) (Ref.r1 m c) (Ref.r4 m c) (Ref.r5 m c)
abbrev o33 (c : Dev nD) := val_main_v33 (F := Ideal) (Ref.a8 m c) (Ref.r0 m c) (Ref.r4 m c)
abbrev o43 (c : Dev nD) := val_main_v43 (F := Ideal) (Ref.a8 m c) (Ref.a10 m c) (Ref.r0 m c) (Ref.r1 m c) (Ref.r4 m c) (Ref.r5 m c)
abbrev o45 (c : Dev nD) := val_main_v45 (F := Ideal) (Ref.a8 m c) (Ref.a10 m c) (Ref.r0 m c) (Ref.r1 m c) (Ref.r4 m c) (Ref.r5 m c)
abbrev o49 (c : Dev nD) := val_main_v49 (F := Ideal) (Ref.r2 m c) (Ref.r6 m c)
abbrev o50 (c : Dev nD) := val_main_v50 (F := Ideal) (Ref.r3 m c) (Ref.r7 m c)

/-- The reference's run, its results the named ones. -/
theorem run (ρ : Dev nD → PrngReg) :
    θ_run defs (onTc (τ := τ) (main (F := Ideal))) ⟨m, fun _ => 0, ρ⟩ fun r => ∀ c : Dev nD,
      r.2.mem ((c.tc : Thread nD τ).loc main_v48) = o48 m c
      ∧ r.2.mem ((c.tc : Thread nD τ).loc main_v33) = o33 m c
      ∧ r.2.mem ((c.tc : Thread nD τ).loc main_v43) = o43 m c
      ∧ r.2.mem ((c.tc : Thread nD τ).loc main_v45) = o45 m c
      ∧ r.2.mem ((c.tc : Thread nD τ).loc main_v49) = o49 m c
      ∧ r.2.mem ((c.tc : Thread nD τ).loc main_v50) = o50 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (Value.run (F := Ideal) m ρ)
  obtain ⟨h48, h33, h43, h45, h49, h50, hrest⟩ := h c
  have e48 := val_main_v48_eq (exitV m c)
  rw [exit_main_arg8, exit_main_arg9, exit_main_arg10, exit_main_v0_0, exit_main_v0_1, exit_main_v0_4, exit_main_v0_5] at e48
  have e33 := val_main_v33_eq (exitV m c)
  rw [exit_main_arg8, exit_main_v0_0, exit_main_v0_4] at e33
  have e43 := val_main_v43_eq (exitV m c)
  rw [exit_main_arg8, exit_main_arg10, exit_main_v0_0, exit_main_v0_1, exit_main_v0_4, exit_main_v0_5] at e43
  have e45 := val_main_v45_eq (exitV m c)
  rw [exit_main_arg8, exit_main_arg10, exit_main_v0_0, exit_main_v0_1, exit_main_v0_4, exit_main_v0_5] at e45
  have e49 := val_main_v49_eq (exitV m c)
  rw [exit_main_v0_2, exit_main_v0_6] at e49
  have e50 := val_main_v50_eq (exitV m c)
  rw [exit_main_v0_3, exit_main_v0_7] at e50
  exact ⟨h48.trans e48, h33.trans e33, h43.trans e43, h45.trans e45, h49.trans e49, h50.trans e50, hrest⟩

end Named

variable (m : (ℓ : Loc Cert.ActIdeal.nD Cert.ActIdeal.τ Cert.ActIdeal.sig) → Buf (Elt Ideal) ℓ)
variable (m' : (ℓ : Loc Cert.ActRefIdeal.nD Cert.ActRefIdeal.τ Cert.ActRefIdeal.sig) → Buf (Elt Ideal) ℓ)
variable (c : Dev Cert.ActIdeal.nD)

theorem x_eq (h : Cert.Pre_ActIdeal_exponents_normal m) (ha : Ref.a0 m' c = Args.a0 m c) (hb : Ref.a1 m' c = Args.a1 m c) : Args.X m c = Ref.X m' c := by
  rw [Normal.x_eq m c h]
  unfold Ref.X
  rw [ha, hb]
theorem d_eq (h : Cert.Pre_ActIdeal_exponents_normal m) (ha : Ref.a4 m' c = Args.a4 m c) (hb : Ref.a5 m' c = Args.a5 m c) : Args.D m c = Ref.D m' c := by
  rw [Normal.d_eq m c h]
  unfold Ref.D
  rw [ha, hb]
theorem xt_eq (h : Cert.Pre_ActIdeal_exponents_normal m) (ha : Ref.a2 m' c = Args.a2 m c) (hb : Ref.a3 m' c = Args.a3 m c) : Args.XT m c = Ref.XT m' c := by
  rw [Normal.xt_eq m c h]
  unfold Ref.XT
  rw [ha, hb]
theorem dt_eq (h : Cert.Pre_ActIdeal_exponents_normal m) (ha : Ref.a6 m' c = Args.a6 m c) (hb : Ref.a7 m' c = Args.a7 m c) : Args.DT m c = Ref.DT m' c := by
  rw [Normal.dt_eq m c h]
  unfold Ref.DT
  rw [ha, hb]
theorem w_eq (ha : Ref.a8 m' c = Args.a8 m c) : Args.W m c = Ref.W m' c := by
  unfold Ref.W
  rw [ha]
theorem wt_eq (ha : Ref.a9 m' c = Args.a9 m c) : Args.Wt m c = Ref.Wt m' c := by
  unfold Ref.Wt
  rw [ha]
theorem wd_eq (ha : Ref.a10 m' c = Args.a10 m c) : Args.Wd m c = Ref.Wd m' c := by
  unfold Ref.Wd
  rw [ha]

theorem res48 (h : Cert.Pre_ActIdeal_exponents_normal m) (h0 : Ref.a0 m' c = Args.a0 m c) (h1 : Ref.a1 m' c = Args.a1 m c) (h4 : Ref.a4 m' c = Args.a4 m c) (h5 : Ref.a5 m' c = Args.a5 m c) (h8 : Ref.a8 m' c = Args.a8 m c) (h9 : Ref.a9 m' c = Args.a9 m c) (h10 : Ref.a10 m' c = Args.a10 m c) : o48 m' c = Cert.ActIdeal.Value.G12 m c := by
  funext i
  rw [eq_ix2 i]
  refine (Ref.dx_at m' c _ _).trans (Eq.symm ((Points.G12_at m c _ _).trans ?_))
  unfold Points.DG Points.DU
  rw [x_eq m m' c h h0 h1, d_eq m m' c h h4 h5, w_eq m m' c h8, wt_eq m m' c h9, wd_eq m m' c h10]

theorem res33 (h : Cert.Pre_ActIdeal_exponents_normal m) (h0 : Ref.a0 m' c = Args.a0 m c) (h1 : Ref.a1 m' c = Args.a1 m c) (h8 : Ref.a8 m' c = Args.a8 m c) : o33 m' c = Cert.ActIdeal.Value.G13 m c := by
  funext i
  rw [eq_ix2 i]
  refine (Ref.hb_at m' c _ _).trans (Eq.symm ((Points.G13_at m c _ _).trans ?_))
  rw [x_eq m m' c h h0 h1, w_eq m m' c h8]

theorem res43 (h : Cert.Pre_ActIdeal_exponents_normal m) (h0 : Ref.a0 m' c = Args.a0 m c) (h1 : Ref.a1 m' c = Args.a1 m c) (h4 : Ref.a4 m' c = Args.a4 m c) (h5 : Ref.a5 m' c = Args.a5 m c) (h8 : Ref.a8 m' c = Args.a8 m c) (h10 : Ref.a10 m' c = Args.a10 m c) : o43 m' c = Cert.ActIdeal.Value.G14 m c := by
  funext i
  rw [eq_ix2 i]
  refine (Ref.dg_at m' c _ _).trans (Eq.symm ((Points.G14_at m c _ _).trans ?_))
  unfold Points.DG
  rw [x_eq m m' c h h0 h1, d_eq m m' c h h4 h5, w_eq m m' c h8, wd_eq m m' c h10]

theorem res45 (h : Cert.Pre_ActIdeal_exponents_normal m) (h0 : Ref.a0 m' c = Args.a0 m c) (h1 : Ref.a1 m' c = Args.a1 m c) (h4 : Ref.a4 m' c = Args.a4 m c) (h5 : Ref.a5 m' c = Args.a5 m c) (h8 : Ref.a8 m' c = Args.a8 m c) (h10 : Ref.a10 m' c = Args.a10 m c) : o45 m' c = Cert.ActIdeal.Value.G15 m c := by
  funext i
  rw [eq_ix2 i]
  refine (Ref.du_at m' c _ _).trans (Eq.symm ((Points.G15_at m c _ _).trans ?_))
  unfold Points.DU
  rw [x_eq m m' c h h0 h1, d_eq m m' c h h4 h5, w_eq m m' c h8, wd_eq m m' c h10]

theorem res49 (h : Cert.Pre_ActIdeal_exponents_normal m) (h2 : Ref.a2 m' c = Args.a2 m c) (h3 : Ref.a3 m' c = Args.a3 m c) : o49 m' c = Cert.ActIdeal.Value.G16 m c := by
  funext i
  rw [eq_ix2 i]
  refine (Ref.xT_at m' c _ _).trans (Eq.symm ((Points.G16_at m c _ _).trans ?_))
  rw [xt_eq m m' c h h2 h3]

theorem res50 (h : Cert.Pre_ActIdeal_exponents_normal m) (h6 : Ref.a6 m' c = Args.a6 m c) (h7 : Ref.a7 m' c = Args.a7 m c) : o50 m' c = Cert.ActIdeal.Value.G17 m c := by
  funext i
  rw [eq_ix2 i]
  refine (Ref.dyT_at m' c _ _).trans (Eq.symm ((Points.G17_at m c _ _).trans ?_))
  rw [dt_eq m m' c h h6 h7]

end Cert.Proof.Agree

end
-- ==== Proof.DownTiles.lean ====
/-
  One grid point of the call that widens the down weights: each of its sixteen stores holds eight tiles of codes by their
  scales, one below another, rows and columns exchanged.
-/
module

public import proofs.«01_k».proof.Proof.Gen.PrepDIdeal.Value
public import proofs.«01_k».proof.Proof.Lanes
public import Idealize.ShloMosaic.Lib.Pipeline.ReadBack

@[expose] public section

set_option maxRecDepth 16384

noncomputable section

namespace Cert.Proof.DownTiles

open Cert.PrepDIdeal Cert.PrepDIdeal.Gen Idealize.ShloMosaic

/-- A tile of codes by its spread scales. -/
def tile (first : BitVec 32) (e : Vec Ideal S32x128 .i8) (x : Vec Ideal S32x128 .fp8e4m3) : FVec Ideal S32x128 .bf16 :=
  mulf (extf .bf16 x bitsLt_fp8e4m3_bf16)
    (truncf .bf16 (bitcastToFloat .f32 (shli (extui 32 (Lanes.spread first (shapeCast S32x128 e shapeCasts_S32x128_S32x128)) natLt_8_32)
      (broadcast S32x128 23#32))) bitsLt_bf16_f32)

theorem tile_apply (j : Fin 32) (e : Vec Ideal S32x128 .i8) (x : Vec Ideal S32x128 .fp8e4m3) (p : Fin 32) (l : Fin 128) :
    tile (BitVec.ofNat 32 (4 * j.val)) e x (ix2 p l)
      = (x : FVec Ideal S32x128 .fp8e4m3) (ix2 p l) * Pow2.scale ((e : IVec S32x128 8) (ix2 p ⟨l.val / 32 + 4 * j.val, by omega⟩)) := by
  unfold tile
  simp only [shapeCast_self]
  pointwise
  exact congrArg (fun z => _ * Pow2.scale z) (Lanes.spread_apply j e p l)

/-- Eight tiles one below another. -/
def stack (f : Fin 8 → FVec Ideal S32x128 .bf16) : FVec Ideal S256x128 .bf16 :=
  concatenate S256x128 0 [⟨S32x128, f 0⟩, ⟨S32x128, f 1⟩, ⟨S32x128, f 2⟩, ⟨S32x128, f 3⟩, ⟨S32x128, f 4⟩, ⟨S32x128, f 5⟩, ⟨S32x128, f 6⟩, ⟨S32x128, f 7⟩]
    concatenates_S32x128_S32x128_S32x128_S32x128_S32x128_S32x128_S32x128_S32x128_S256x128_d0

theorem stack_apply (f : Fin 8 → FVec Ideal S32x128 .bf16) (r : Fin 256) (q : Fin 128) (n : Fin 8) (p : Fin 32) (hn : r.val / 32 = n.val) (hp : p.val = r.val % 32) :
    stack f (ix2 r q) = f n (ix2 p q) :=
  concatenate_ofFn_apply (α := EReal) (t := S256x128) (s₁ := S32x128) 0 (N := 8) f
    concatenates_S32x128_S32x128_S32x128_S32x128_S32x128_S32x128_S32x128_S32x128_S256x128_d0
    rfl 32 rfl (ix2 r q) n hn (ix2 p q) hp fun b hb => by
      match b with
      | ⟨0, _⟩ => exact absurd rfl hb
      | ⟨1, _⟩ => rfl

/-- A block of codes by the scale of the thirty-two columns each lies in, rows and columns exchanged. -/
def wide (x0 : Vec Ideal S256x2048 .fp8e4m3) (x1 : Vec Ideal S256x128 .i8) : Vec Ideal S2048x256 .bf16 := fun y =>
  (x0 : FVec Ideal S256x2048 .fp8e4m3) (ix2 (y 1) (y 0)) * Pow2.scale ((x1 : IVec S256x128 8) (ix2 (y 1) ⟨(y 0).val / 32, by have : (y 0).val < 2048 := (y 0).isLt; omega⟩))

theorem inbx (j : Fin 16) (n : Fin 8) : ∀ a, (![32 * n.val, 128 * j.val] : Fin 2 → Nat) a + S32x128.size a ≤ S256x2048.size a
  | ⟨0, _⟩ => by show 32 * n.val + 32 ≤ 256; omega
  | ⟨1, _⟩ => by show 128 * j.val + 128 ≤ 2048; omega

theorem inbe (n : Fin 8) : ∀ a, (![32 * n.val, 0] : Fin 2 → Nat) a + S32x128.size a ≤ S256x128.size a
  | ⟨0, _⟩ => by show 32 * n.val + 32 ≤ 256; omega
  | ⟨1, _⟩ => by show 0 + 128 ≤ 128; omega

/-- Tile `n` of store `j`. -/
def part (x0 : Vec Ideal S256x2048 .fp8e4m3) (x1 : Vec Ideal S256x128 .i8) (j : Fin 16) (n : Fin 8) : FVec Ideal S32x128 .bf16 :=
  tile (BitVec.ofNat 32 (4 * j.val)) (View.ld x1 (Rect.unit (s := S256x128) ![32 * n.val, 0] S32x128.size (inbe n)))
    (View.ld x0 (Rect.unit (s := S256x2048) ![32 * n.val, 128 * j.val] S32x128.size (inbx j n)))

/-- Store `j` writes its part of `wide`. -/
theorem piece (j : Fin 16) (x0 : Vec Ideal S256x2048 .fp8e4m3) (x1 : Vec Ideal S256x128 .i8) {off : Fin 2 → Nat} (hoff : off = ![128 * j.val, 0])
    (inb : ∀ a, off a + S128x256.size a ≤ S2048x256.size a) (pay : Vec Ideal S128x256 .bf16)
    (hpay : pay = transpose S128x256 [1, 0] (stack (part x0 x1 j)) transposes_S256x128_p1_0_S128x256)
    (y : (Rect.unit (s := S2048x256) off S128x256.size inb).shape.Idx) :
    pay y = wide x0 x1 ((Rect.unit (s := S2048x256) off S128x256.size inb).emb y) := by
  subst hoff
  subst hpay
  have hy0 : (y 0).val < 128 := (y 0).isLt
  have hy1 : (y 1).val < 256 := (y 1).isLt
  obtain ⟨q, r, rfl⟩ : ∃ (q : Fin 128) (r : Fin 256), y = (ix2 q r : S128x256.Idx) := ⟨⟨_, hy0⟩, ⟨_, hy1⟩, funext fun a => by fin_cases a <;> rfl⟩
  have ht : transpose S128x256 [1, 0] (stack (part x0 x1 j)) transposes_S256x128_p1_0_S128x256 (ix2 q r) = stack (part x0 x1 j) (ix2 r q) := by
    pointwise
  refine ht.trans ((stack_apply _ r q ⟨r.val / 32, by omega⟩ ⟨r.val % 32, by omega⟩ rfl rfl).trans ?_)
  unfold part
  refine (tile_apply ⟨j.val, by omega⟩ _ _ _ q).trans ?_
  unfold wide
  refine congrArg₂ (· * Pow2.scale ·) (congrArg (x0 : FVec Ideal S256x2048 .fp8e4m3) ?_) (congrArg (x1 : IVec S256x128 8) ?_)
  · funext a
    match a with
    | ⟨0, _⟩ => exact Fin.ext (show 32 * (r.val / 32) + 1 * (r.val % 32) = 0 + 1 * r.val by omega)
    | ⟨1, _⟩ => exact Fin.ext rfl
  · funext a
    match a with
    | ⟨0, _⟩ => exact Fin.ext (show 32 * (r.val / 32) + 1 * (r.val % 32) = 0 + 1 * r.val by omega)
    | ⟨1, _⟩ => exact Fin.ext (show 0 + 1 * (q.val / 32 + 4 * j.val) = (128 * j.val + 1 * q.val) / 32 by omega)

/-- What a grid point leaves in its block of the result. -/
theorem out_eq (x0 : Vec Ideal S256x2048 .fp8e4m3) (x1 : Vec Ideal S256x128 .i8) : out0_2 (F := Ideal) x0 x1 = wide x0 x1 := by
  funext y
  unfold out0_2
  refine View.canon_apply_of_pieces (Val := Elt Ideal) (wide x0 x1) _ (View.PiecesOf.mem ?_) y (cover0_2 _ _ _ _ _ _ _ _ _ _ _ _ _ _ _ _ y)
  refine And.intro (piece 15 x0 x1 rfl inb_S2048x256_S128x256_1920_0 _ ?_) ?_
  · rfl
  refine And.intro (piece 14 x0 x1 rfl inb_S2048x256_S128x256_1792_0 _ ?_) ?_
  · rfl
  refine And.intro (piece 13 x0 x1 rfl inb_S2048x256_S128x256_1664_0 _ ?_) ?_
  · rfl
  refine And.intro (piece 12 x0 x1 rfl inb_S2048x256_S128x256_1536_0 _ ?_) ?_
  · rfl
  refine And.intro (piece 11 x0 x1 rfl inb_S2048x256_S128x256_1408_0 _ ?_) ?_
  · rfl
  refine And.intro (piece 10 x0 x1 rfl inb_S2048x256_S128x256_1280_0 _ ?_) ?_
  · rfl
  refine And.intro (piece 9 x0 x1 rfl inb_S2048x256_S128x256_1152_0 _ ?_) ?_
  · rfl
  refine And.intro (piece 8 x0 x1 rfl inb_S2048x256_S128x256_1024_0 _ ?_) ?_
  · rfl
  refine And.intro (piece 7 x0 x1 rfl inb_S2048x256_S128x256_896_0 _ ?_) ?_
  · rfl
  refine And.intro (piece 6 x0 x1 rfl inb_S2048x256_S128x256_768_0 _ ?_) ?_
  · rfl
  refine And.intro (piece 5 x0 x1 rfl inb_S2048x256_S128x256_640_0 _ ?_) ?_
  · rfl
  refine And.intro (piece 4 x0 x1 rfl inb_S2048x256_S128x256_512_0 _ ?_) ?_
  · rfl
  refine And.intro (piece 3 x0 x1 rfl inb_S2048x256_S128x256_384_0 _ ?_) ?_
  · rfl
  refine And.intro (piece 2 x0 x1 rfl inb_S2048x256_S128x256_256_0 _ ?_) ?_
  · rfl
  refine And.intro (piece 1 x0 x1 rfl inb_S2048x256_S128x256_128_0 _ ?_) ?_
  · rfl
  refine And.intro (piece 0 x0 x1 rfl inb_S2048x256_S128x256_0_0 _ ?_) ?_
  · rfl
  trivial

end Cert.Proof.DownTiles

end
-- ==== Proof.DownRead.lean ====
/-
  The call that widens the down weights, its result read at an index: the code there by the scale of its group, rows and
  columns exchanged.
-/
module

public import proofs.«01_k».proof.Proof.DownTiles
public import Idealize.ShloMosaic.Lib.Claim
public import Idealize.ShloMosaic.Lib.StableHlo.Run
public import Idealize.ShloMosaic.Lib.KernelVsHost

@[expose] public section

set_option maxRecDepth 16384

noncomputable section

namespace Cert.Proof.DownRead

open Cert.PrepDIdeal Cert.PrepDIdeal.Gen Idealize.ShloMosaic Idealize.ShloMosaic.TcCoe Idealize.ShloMosaic.Tactic Idealize.SL.Sem
open Cert.Proof.DownTiles

variable (m : (ℓ : Loc nD τ sig) → Buf (Elt Ideal) ℓ) (c : Dev nD)

abbrev a0 : FVec Ideal S8192x2048 .fp8e4m3 := m ((c : Thread nD τ).loc main_arg0)
abbrev a1 : IVec S8192x64 8 := m ((c : Thread nD τ).loc main_arg1)

/-- The exponents as launched: padded to a whole tile of columns. -/
theorem V0 : (V m c main_v0 : IVec S8192x128 8) = pad S8192x128 ![0, 0] ![0, 64] ![0, 0] (a1 m c) (trunci 8 (constantI S_ 32 0#32) natLt_8_32) pads_S8192x64_S8192x128_000_0640 h_S_ := by
  show (StableHlo.after (List.flatten [hostOps0, hostOps0_1]) (fun b => m (c, b)) (Proc.devRef .tc main_v0) : IVec S8192x128 8) = _
  simp only [hostOps0, hostOps0_1, List.flatten_cons, List.flatten_nil, List.append_nil, List.cons_append, List.nil_append]
  after_results <;> rfl

/-- The columns read lie before the padding. -/
theorem V0_at (r : Fin 8192) (k : Fin 128) (h : k.val < 64) : (V m c main_v0 : IVec S8192x128 8) (ix2 r k) = a1 m c (ix2 r ⟨k.val, h⟩) := by
  rw [V0 m c]
  exact pad_apply_of_inside _ _ _ _ _ _ _ (ix2 r k) (ix2 r ⟨k.val, h⟩) fun a => match a with
    | ⟨0, _⟩ => by show r.val = 0 + r.val * (0 + 1); omega
    | ⟨1, _⟩ => by show k.val = 0 + k.val * (0 + 1); omega

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = 0 ∧ win0_2.index t (1 : Fin 2) = t.val := (by decide +kernel : ∀ t : Fin grid0.N, _)

theorem flush : ∀ t : Fin cfg0.N, (cfg0.win 2).flush t = true := (by decide +kernel : ∀ t : Fin grid0.N, _)

theorem blk0 (t : Fin cfg0.N) (p : Fin 256) (q : Fin 2048) (r : Fin 8192) (hr : r.val = 256 * t.val + p.val) :
    (iblk m c 0 t : FVec Ideal S256x2048 .fp8e4m3) (ix2 p q) = a0 m c (ix2 r q) := by
  show a0 m c _ = a0 m c _
  refine congrArg (a0 m c) (funext fun a => Fin.ext ?_)
  obtain ⟨h0, h1⟩ := index0 t
  match a with
  | ⟨0, _⟩ => show win0_0.index t (0 : Fin 2) * 256 + 1 * p.val = r.val; rw [h0, hr]; omega
  | ⟨1, _⟩ => show win0_0.index t (1 : Fin 2) * 2048 + 1 * q.val = q.val; rw [h1]; omega

theorem blk1 (t : Fin cfg0.N) (p : Fin 256) (q : Fin 128) (r : Fin 8192) (hr : r.val = 256 * t.val + p.val) :
    (iblk m c 1 t : IVec S256x128 8) (ix2 p q) = (V m c main_v0 : IVec S8192x128 8) (ix2 r q) := by
  show (V m c main_v0 : IVec S8192x128 8) _ = (V m c main_v0 : IVec S8192x128 8) _
  refine congrArg (V m c main_v0 : IVec S8192x128 8) (funext fun a => Fin.ext ?_)
  obtain ⟨h0, h1⟩ := index1 t
  match a with
  | ⟨0, _⟩ => show win0_1.index t (0 : Fin 2) * 256 + 1 * p.val = r.val; rw [h0, hr]; omega
  | ⟨1, _⟩ => show win0_1.index t (1 : Fin 2) * 128 + 1 * q.val = q.val; rw [h1]; omega

/-- The result array. -/
abbrev out : FVec Ideal S2048x8192 .bf16 := (dats (F := Ideal) m 0 c).arrAt 2 cfg0.N

theorem out_at (k : Fin 2048) (f : Fin 8192) :
    (out m c (ix2 k f) : EReal) = a0 m c (ix2 f k) * Pow2.scale (a1 m c (ix2 f ⟨k.val / 32, by omega⟩)) := by
  have hN : cfg0.N = 32 := N_0
  have ht : f.val / 256 < cfg0.N := by rw [hN]; omega
  have hb := (congrFun (Cert.PrepDIdeal.Value.blocks2 (F := Ideal) m c ⟨f.val / 256, ht⟩ (flush _)) (ix2 k ⟨f.val % 256, by omega⟩ : S2048x256.Idx)).trans
    (congrFun (Cert.PrepDIdeal.Value.flushed2 (F := Ideal) m c ⟨f.val / 256, ht⟩) (ix2 k ⟨f.val % 256, by omega⟩ : S2048x256.Idx))
  have hw := congrFun (out_eq (iblk m c 0 ⟨f.val / 256, ht⟩) (iblk m c 1 ⟨f.val / 256, ht⟩)) (ix2 k ⟨f.val % 256, by omega⟩)
  have hl : (out m c (ix2 k f) : EReal) = out0_2 (F := Ideal) (iblk m c 0 ⟨f.val / 256, ht⟩) (iblk m c 1 ⟨f.val / 256, ht⟩) (ix2 k ⟨f.val % 256, by omega⟩) := by
    refine Eq.trans ?_ hb
    show out m c _ = out m c _
    refine congrArg (out m c) (funext fun a => Fin.ext ?_)
    obtain ⟨h0, h1⟩ := index2 ⟨f.val / 256, ht⟩
    match a with
    | ⟨0, _⟩ => show k.val = win0_2.index ⟨f.val / 256, ht⟩ (0 : Fin 2) * 2048 + 1 * k.val; rw [h0]; omega
    | ⟨1, _⟩ => show f.val = win0_2.index ⟨f.val / 256, ht⟩ (1 : Fin 2) * 256 + 1 * (f.val % 256); rw [h1]; dsimp only; omega
  refine (hl.trans hw).trans ?_
  refine congrArg₂ (fun (a : EReal) (b : BitVec 8) => a * Pow2.scale b) (blk0 m c _ _ _ f (by show f.val = 256 * (f.val / 256) + f.val % 256; omega)) ?_
  exact (blk1 m c _ _ _ f (by show f.val = 256 * (f.val / 256) + f.val % 256; omega)).trans (V0_at m c f _ (by show k.val / 32 < 64; omega))

end Cert.Proof.DownRead

end
-- ==== Proof.DownRef.lean ====
/-
  The reference of the call that widens the down weights, read at an index.
-/
module

public import proofs.«01_k».proof.Proof.Gen.PrepDRefIdeal.Run
public import proofs.«01_k».proof.Proof.Gen.PrepDRefIdeal.Read
public import proofs.«01_k».proof.Proof.Pow2
public import Idealize.ShloMosaic.Lib.Pointwise
public import Idealize.ShloMosaic.Lib.Claim

@[expose] public section

set_option maxRecDepth 16384

noncomputable section

namespace Cert.Proof.DownRef

open Cert.PrepDRefIdeal Cert.PrepDRefIdeal.Gen Cert.PrepDRefIdeal.Value Cert.PrepDRefIdeal.Read Idealize.ShloMosaic Idealize.ShloMosaic.TcCoe Idealize.SL.Sem
open Idealize.ShloMosaic.Pipeline (Dat Cfg Window)

variable (m : (ℓ : Loc nD τ sig) → Buf (Elt Ideal) ℓ) (c : Dev nD)

abbrev a0 : FVec Ideal S8192x2048 .fp8e4m3 := m ((c : Thread nD τ).loc main_arg0)
abbrev a1 : IVec S8192x64 8 := m ((c : Thread nD τ).loc main_arg1)

/-- The one grid point. -/
def t₀ : Fin cfg0.N := ⟨0, by decide⟩

theorem hz2 : (![0, 0] : Fin 2 → Nat) = fun _ => 0 := funext fun a => by fin_cases a <;> rfl
theorem hz3 : (![0, 0, 0] : Fin 3 → Nat) = fun _ => 0 := funext fun a => by fin_cases a <;> rfl

/-- What the first step leaves of argument 0. -/
abbrev r0 : FVec Ideal S8192x2048 .bf16 := reg_main_v0_0 m c
theorem final0 : ((cfg0.win (2 : Fin 4)).blk t₀).view.read (Elt Ideal) ((dats (F := Ideal) m 0 c).arrAt (2 : Fin 4) cfg0.N) = (dats (F := Ideal) m 0 c).flushed (2 : Fin 4) t₀ := by
  rw [show cfg0.N = (t₀ : Fin cfg0.N).val + 1 from rfl, (dats (F := Ideal) m 0 c).arrAt_succ (2 : Fin 4) t₀]
  rw [show (cfg0.win (2 : Fin 4)).flush t₀ = true from by decide, if_pos rfl]
  exact View.read_write_univ _ _
theorem value0 : reg_main_v0_0 m c = k0_pay1 (F := Ideal) (m ((c : Thread nD τ).loc main_arg0)) := by
  have ho := final0 m c
  have hzo : (fun a => (win0_2.index t₀) a * main_v0_0.ty.shape.size a) = fun _ => 0 := funext fun a => by fin_cases a <;> decide
  have hro := fun f => Memref.read_access_unit_zero (Elt Ideal) main_v0_0 hzo (fun a => by fin_cases a <;> decide) f
  have hzi : (fun a => (win0_0.index t₀) a * main_arg0.ty.shape.size a) = fun _ => 0 := funext fun a => by fin_cases a <;> decide
  have hri := fun f => Memref.read_access_unit_zero (Elt Ideal) main_arg0 hzi (fun a => by fin_cases a <;> decide) f
  rw [hro] at ho
  unfold reg_main_v0_0
  rw [ho]
  show (cfg0.win 2).cut _ ((dats (F := Ideal) m 0 c).after 2 t₀) = _
  rw [after0_2]
  unfold out0_2
  rw [View.canon_unit_zero hz2, View.ld_unit_zero hz2]
  unfold iblk
  rw [hri]
  rfl
theorem r0_at (i : S8192x2048.Idx) : (r0 m c i : EReal) = a0 m c i := by
  unfold r0
  rw [value0]; rfl

/-- What the first step leaves of argument 1. -/
abbrev r1 : FVec Ideal S8192x64 .bf16 := reg_main_v0_1 m c
theorem final1 : ((cfg0.win (3 : Fin 4)).blk t₀).view.read (Elt Ideal) ((dats (F := Ideal) m 0 c).arrAt (3 : Fin 4) cfg0.N) = (dats (F := Ideal) m 0 c).flushed (3 : Fin 4) t₀ := by
  rw [show cfg0.N = (t₀ : Fin cfg0.N).val + 1 from rfl, (dats (F := Ideal) m 0 c).arrAt_succ (3 : Fin 4) t₀]
  rw [show (cfg0.win (3 : Fin 4)).flush t₀ = true from by decide, if_pos rfl]
  exact View.read_write_univ _ _
theorem value1 : reg_main_v0_1 m c = k0_pay2 (F := Ideal) (m ((c : Thread nD τ).loc main_arg1)) := by
  have ho := final1 m c
  have hzo : (fun a => (win0_3.index t₀) a * main_v0_1.ty.shape.size a) = fun _ => 0 := funext fun a => by fin_cases a <;> decide
  have hro := fun f => Memref.read_access_unit_zero (Elt Ideal) main_v0_1 hzo (fun a => by fin_cases a <;> decide) f
  have hzi : (fun a => (win0_1.index t₀) a * main_arg1.ty.shape.size a) = fun _ => 0 := funext fun a => by fin_cases a <;> decide
  have hri := fun f => Memref.read_access_unit_zero (Elt Ideal) main_arg1 hzi (fun a => by fin_cases a <;> decide) f
  rw [hro] at ho
  unfold reg_main_v0_1
  rw [ho]
  show (cfg0.win 3).cut _ ((dats (F := Ideal) m 0 c).after 3 t₀) = _
  rw [after0_3]
  unfold out0_3
  rw [View.canon_unit_zero hz2, View.ld_unit_zero hz2]
  unfold iblk
  rw [hri]
  rfl
theorem r1_at (i : S8192x64.Idx) : (r1 m c i : EReal) = Pow2.power (a1 m c i) := by
  unfold r1
  rw [value1]; rfl

theorem res_at (k : Fin 2048) (f : Fin 8192) :
    (val_main_v6 (F := Ideal) (r0 m c) (r1 m c) (ix2 k f) : EReal) = a0 m c (ix2 f k) * Pow2.power (a1 m c (ix2 f ⟨k.val / 32, by omega⟩)) := by
  rw [val_main_v6_apply, val_main_v5_apply, val_main_v4_apply, val_main_v1_apply, val_main_v3_apply, val_main_v2_apply]
  have h1 : idx_main_v1 (idx_main_v5 (idx_main_v6 (ix2 k f))) = ix2 f k := by
    funext a
    match a with
    | ⟨0, _⟩ => exact Fin.ext (by show (((f.val * 2048 + k.val) / 2048 * 64 + (f.val * 2048 + k.val) / 32 % 64) * 32 + (f.val * 2048 + k.val) % 32) / 2048 = f.val; omega)
    | ⟨1, _⟩ => exact Fin.ext (by show (((f.val * 2048 + k.val) / 2048 * 64 + (f.val * 2048 + k.val) / 32 % 64) * 32 + (f.val * 2048 + k.val) % 32) % 2048 = k.val; omega)
  have h2 : idx_main_v2 (idx_main_v3 (idx_main_v5 (idx_main_v6 (ix2 k f)))) = ix2 f ⟨k.val / 32, by omega⟩ := by
    funext a
    match a with
    | ⟨0, _⟩ => exact Fin.ext (by show (f.val * 2048 + k.val) / 2048 = f.val; omega)
    | ⟨1, _⟩ => exact Fin.ext (by show (f.val * 2048 + k.val) / 32 % 64 = k.val / 32; omega)
  rw [h1, h2]
  exact congrArg₂ (fun a b : EReal => a * b) (r0_at m c _) (r1_at m c _)

/-- The reference's run, its result the named one. -/
theorem run (ρ : Dev nD → PrngReg) :
    θ_run defs (onTc (τ := τ) (main (F := Ideal))) ⟨m, fun _ => 0, ρ⟩ fun r => ∀ c : Dev nD,
      r.2.mem ((c.tc : Thread nD τ).loc main_v6) = val_main_v6 (F := Ideal) (r0 m c) (r1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Value.run (F := Ideal) m ρ)

end Cert.Proof.DownRef

end
-- ==== Proof.DownAgree.lean ====
/-
  The call that widens the down weights and its reference leave the same array when the exponents are those of normal floats.
-/
module

public import proofs.«01_k».proof.Defs
public import proofs.«01_k».proof.Proof.Gen.Pre_d_exponents_normal
public import proofs.«01_k».proof.Proof.DownRead
public import proofs.«01_k».proof.Proof.DownRef
public import proofs.«01_k».proof.Proof.Normal

@[expose] public section

set_option maxRecDepth 16384

noncomputable section

namespace Cert.Proof.DownAgree

open Idealize.ShloMosaic Idealize.ShloMosaic.TcCoe Idealize.SL.Sem

variable (m : (ℓ : Loc Cert.PrepDIdeal.nD Cert.PrepDIdeal.τ Cert.PrepDIdeal.sig) → Buf (Elt Ideal) ℓ)
variable (m' : (ℓ : Loc Cert.PrepDRefIdeal.nD Cert.PrepDRefIdeal.τ Cert.PrepDRefIdeal.sig) → Buf (Elt Ideal) ℓ)
variable (c : Dev Cert.PrepDIdeal.nD)

theorem scale1 (h : Cert.Pre_PrepDIdeal_d_exponents_normal m) (i : Cert.PrepDIdeal.S8192x64.Idx) : Pow2.scale (DownRead.a1 m c i) = Pow2.power (DownRead.a1 m c i) := by
  obtain ⟨h1, h2⟩ := Normal.bounds (DownRead.a1 m c i) (congrFun (h c) i)
  exact Pow2.scale_eq_power _ h1 h2

theorem res (h : Cert.Pre_PrepDIdeal_d_exponents_normal m) (h0 : DownRef.a0 m' c = DownRead.a0 m c) (h1 : DownRef.a1 m' c = DownRead.a1 m c) :
    Cert.PrepDRefIdeal.Read.val_main_v6 (F := Ideal) (DownRef.r0 m' c) (DownRef.r1 m' c) = DownRead.out m c := by
  funext i
  rw [eq_ix2 i]
  refine (DownRef.res_at m' c _ _).trans (Eq.symm ((DownRead.out_at m c _ _).trans ?_))
  rw [scale1 m c h, h0, h1]

end Cert.Proof.DownAgree

end
-- ==== Proof.GuTiles.lean ====
/-
  One grid point of the call that widens the gate and up weights. Its four stores to the first result hold thirty-two rows
  of codes each, by their row of scales; its thirty-two stores to the second hold four tiles of codes by their scales each,
  one below another, rows and columns exchanged.
-/
module

public import proofs.«01_k».proof.Proof.Gen.PrepGuIdeal.Value
public import proofs.«01_k».proof.Proof.Lanes
public import Idealize.ShloMosaic.Lib.Pipeline.ReadBack

@[expose] public section

set_option maxRecDepth 16384

noncomputable section

namespace Cert.Proof.GuTiles

open Cert.PrepGuIdeal Cert.PrepGuIdeal.Gen Idealize.ShloMosaic

/-- Thirty-two rows of codes by their row of scales. -/
def rowTile (e : Vec Ideal S1x1x4096 .i8) (x : Vec Ideal S32x4096 .fp8e4m3) : FVec Ideal S32x4096 .bf16 :=
  mulf (extf .bf16 (shapeCast S32x4096 x shapeCasts_S32x4096_S32x4096) bitsLt_fp8e4m3_bf16)
    (broadcastTo S32x4096 (truncf .bf16 (bitcastToFloat .f32 (shli (extui 32 (shapeCast S1x4096 e shapeCasts_S1x1x4096_S1x4096) natLt_8_32)
      (broadcast S1x4096 23#32))) bitsLt_bf16_f32) broadcasts_S1x4096_S32x4096)

theorem cast_row (e : IVec S1x1x4096 8) (q : Fin 4096) : shapeCast S1x4096 e shapeCasts_S1x1x4096_S1x4096 (ix2 0 q) = e (ix3 0 0 q) :=
  shapeCast_apply e shapeCasts_S1x1x4096_S1x4096 (ix2 0 q) (ix3 0 0 q) (by
    rewrite [Shape.rowMajor_val_three, Shape.rowMajor_val_two]
    show (0 * 1 + 0) * 4096 + q.val = 0 * 4096 + q.val
    omega)

theorem rowTile_apply (e : Vec Ideal S1x1x4096 .i8) (x : Vec Ideal S32x4096 .fp8e4m3) (p : Fin 32) (q : Fin 4096) :
    rowTile e x (ix2 p q) = (x : FVec Ideal S32x4096 .fp8e4m3) (ix2 p q) * Pow2.scale ((e : IVec S1x1x4096 8) (ix3 0 0 q)) := by
  unfold rowTile
  rw [shapeCast_self]
  rw [← cast_row e q]
  generalize shapeCast S1x4096 e shapeCasts_S1x1x4096_S1x4096 = z
  unfold Pow2.scale
  pointwise

/-- A block of codes by the scale of the thirty-two rows each lies in. -/
def wide (x0 : Vec Ideal S128x4096 .fp8e4m3) (x1 : Vec Ideal S1x4x4096 .i8) : Vec Ideal S128x4096 .bf16 := fun y =>
  (x0 : FVec Ideal S128x4096 .fp8e4m3) y * Pow2.scale ((x1 : IVec S1x4x4096 8) (ix3 0 ⟨(y 0).val / 32, by have : (y 0).val < 128 := (y 0).isLt; omega⟩ (y 1)))

theorem inbr (j : Fin 4) : ∀ a, (![32 * j.val, 0] : Fin 2 → Nat) a + S32x4096.size a ≤ S128x4096.size a
  | ⟨0, _⟩ => by show 32 * j.val + 32 ≤ 128; omega
  | ⟨1, _⟩ => by show 0 + 4096 ≤ 4096; omega

theorem inbs (j : Fin 4) : ∀ a, (![0, j.val, 0] : Fin 3 → Nat) a + S1x1x4096.size a ≤ S1x4x4096.size a
  | ⟨0, _⟩ => by show 0 + 1 ≤ 1; omega
  | ⟨1, _⟩ => by show j.val + 1 ≤ 4; omega
  | ⟨2, _⟩ => by show 0 + 4096 ≤ 4096; omega

/-- Store `j` writes its part of `wide`. -/
theorem rowPiece (j : Fin 4) (x0 : Vec Ideal S128x4096 .fp8e4m3) (x1 : Vec Ideal S1x4x4096 .i8) {off : Fin 2 → Nat} (hoff : off = ![32 * j.val, 0])
    (inb : ∀ a, off a + S32x4096.size a ≤ S128x4096.size a) (pay : Vec Ideal S32x4096 .bf16)
    (hpay : pay = rowTile (View.ld x1 (Rect.unit (s := S1x4x4096) ![0, j.val, 0] S1x1x4096.size (inbs j)))
      (View.ld x0 (Rect.unit (s := S128x4096) ![32 * j.val, 0] S32x4096.size (inbr j))))
    (y : (Rect.unit (s := S128x4096) off S32x4096.size inb).shape.Idx) :
    pay y = wide x0 x1 ((Rect.unit (s := S128x4096) off S32x4096.size inb).emb y) := by
  subst hoff
  subst hpay
  have hy0 : (y 0).val < 32 := (y 0).isLt
  have hy1 : (y 1).val < 4096 := (y 1).isLt
  obtain ⟨p, q, rfl⟩ : ∃ (p : Fin 32) (q : Fin 4096), y = (ix2 p q : S32x4096.Idx) := ⟨⟨_, hy0⟩, ⟨_, hy1⟩, funext fun a => by fin_cases a <;> rfl⟩
  refine (rowTile_apply _ _ p q).trans ?_
  unfold wide
  refine congrArg₂ (· * Pow2.scale ·) rfl (congrArg (x1 : IVec S1x4x4096 8) ?_)
  funext a
  match a with
  | ⟨0, _⟩ => exact Fin.ext rfl
  | ⟨1, _⟩ => exact Fin.ext (show j.val + 1 * 0 = (32 * j.val + 1 * p.val) / 32 by omega)
  | ⟨2, _⟩ => exact Fin.ext rfl

/-- What a grid point leaves in its block of the first result. -/
theorem out4_eq (x0 : Vec Ideal S128x4096 .fp8e4m3) (x1 : Vec Ideal S1x4x4096 .i8) (x2 : Vec Ideal S128x4096 .fp8e4m3) (x3 : Vec Ideal S128x128 .i8) :
    out0_4 (F := Ideal) x0 x1 x2 x3 = wide x0 x1 := by
  funext y
  unfold out0_4
  refine View.canon_apply_of_pieces (Val := Elt Ideal) (wide x0 x1) _ (View.PiecesOf.mem ?_) y (cover0_4 _ _ _ _ y)
  refine And.intro (rowPiece 3 x0 x1 rfl inb_S128x4096_S32x4096_96_0 _ ?_) ?_
  · rfl
  refine And.intro (rowPiece 2 x0 x1 rfl inb_S128x4096_S32x4096_64_0 _ ?_) ?_
  · rfl
  refine And.intro (rowPiece 1 x0 x1 rfl inb_S128x4096_S32x4096_32_0 _ ?_) ?_
  · rfl
  refine And.intro (rowPiece 0 x0 x1 rfl inb_S128x4096_S32x4096_0_0 _ ?_) ?_
  · rfl
  trivial

/-- A tile of codes by its spread scales. -/
def tile (first : BitVec 32) (e : Vec Ideal S32x128 .i8) (x : Vec Ideal S32x128 .fp8e4m3) : FVec Ideal S32x128 .bf16 :=
  mulf (extf .bf16 (shapeCast S32x128 x shapeCasts_S32x128_S32x128) bitsLt_fp8e4m3_bf16)
    (truncf .bf16 (bitcastToFloat .f32 (shli (extui 32 (Lanes.spread first (shapeCast S32x128 e shapeCasts_S32x128_S32x128)) natLt_8_32)
      (broadcast S32x128 23#32))) bitsLt_bf16_f32)

theorem tile_apply (j : Fin 32) (e : Vec Ideal S32x128 .i8) (x : Vec Ideal S32x128 .fp8e4m3) (p : Fin 32) (l : Fin 128) :
    tile (BitVec.ofNat 32 (4 * j.val)) e x (ix2 p l)
      = (x : FVec Ideal S32x128 .fp8e4m3) (ix2 p l) * Pow2.scale ((e : IVec S32x128 8) (ix2 p ⟨l.val / 32 + 4 * j.val, by omega⟩)) := by
  unfold tile
  simp only [shapeCast_self]
  pointwise
  exact congrArg (fun z => _ * Pow2.scale z) (Lanes.spread_apply j e p l)

/-- Four tiles one below another. -/
def stack (f : Fin 4 → FVec Ideal S32x128 .bf16) : FVec Ideal S128x128 .bf16 :=
  concatenate S128x128 0 [⟨S32x128, f 0⟩, ⟨S32x128, f 1⟩, ⟨S32x128, f 2⟩, ⟨S32x128, f 3⟩] concatenates_S32x128_S32x128_S32x128_S32x128_S128x128_d0

theorem stack_apply (f : Fin 4 → FVec Ideal S32x128 .bf16) (r : Fin 128) (q : Fin 128) (n : Fin 4) (p : Fin 32) (hn : r.val / 32 = n.val) (hp : p.val = r.val % 32) :
    stack f (ix2 r q) = f n (ix2 p q) :=
  concatenate_ofFn_apply (α := EReal) (t := S128x128) (s₁ := S32x128) 0 (N := 4) f concatenates_S32x128_S32x128_S32x128_S32x128_S128x128_d0
    rfl 32 rfl (ix2 r q) n hn (ix2 p q) hp fun b hb => by
      match b with
      | ⟨0, _⟩ => exact absurd rfl hb
      | ⟨1, _⟩ => rfl

/-- A block of codes by the scale of the thirty-two columns each lies in, rows and columns exchanged. -/
def wideT (x2 : Vec Ideal S128x4096 .fp8e4m3) (x3 : Vec Ideal S128x128 .i8) : Vec Ideal S4096x128 .bf16 := fun y =>
  (x2 : FVec Ideal S128x4096 .fp8e4m3) (ix2 (y 1) (y 0)) * Pow2.scale ((x3 : IVec S128x128 8) (ix2 (y 1) ⟨(y 0).val / 32, by have : (y 0).val < 4096 := (y 0).isLt; omega⟩))

theorem inbx (j : Fin 32) (n : Fin 4) : ∀ a, (![32 * n.val, 128 * j.val] : Fin 2 → Nat) a + S32x128.size a ≤ S128x4096.size a
  | ⟨0, _⟩ => by show 32 * n.val + 32 ≤ 128; omega
  | ⟨1, _⟩ => by show 128 * j.val + 128 ≤ 4096; omega

theorem inbe (n : Fin 4) : ∀ a, (![32 * n.val, 0] : Fin 2 → Nat) a + S32x128.size a ≤ S128x128.size a
  | ⟨0, _⟩ => by show 32 * n.val + 32 ≤ 128; omega
  | ⟨1, _⟩ => by show 0 + 128 ≤ 128; omega

/-- Tile `n` of store `j`. -/
def part (x2 : Vec Ideal S128x4096 .fp8e4m3) (x3 : Vec Ideal S128x128 .i8) (j : Fin 32) (n : Fin 4) : FVec Ideal S32x128 .bf16 :=
  tile (BitVec.ofNat 32 (4 * j.val)) (View.ld x3 (Rect.unit (s := S128x128) ![32 * n.val, 0] S32x128.size (inbe n)))
    (View.ld x2 (Rect.unit (s := S128x4096) ![32 * n.val, 128 * j.val] S32x128.size (inbx j n)))

/-- Store `j` writes its part of `wideT`. -/
theorem piece (j : Fin 32) (x2 : Vec Ideal S128x4096 .fp8e4m3) (x3 : Vec Ideal S128x128 .i8) {off : Fin 2 → Nat} (hoff : off = ![128 * j.val, 0])
    (inb : ∀ a, off a + S128x128.size a ≤ S4096x128.size a) (pay : Vec Ideal S128x128 .bf16)
    (hpay : pay = transpose S128x128 [1, 0] (stack (part x2 x3 j)) transposes_S128x128_p1_0_S128x128)
    (y : (Rect.unit (s := S4096x128) off S128x128.size inb).shape.Idx) :
    pay y = wideT x2 x3 ((Rect.unit (s := S4096x128) off S128x128.size inb).emb y) := by
  subst hoff
  subst hpay
  have hy0 : (y 0).val < 128 := (y 0).isLt
  have hy1 : (y 1).val < 128 := (y 1).isLt
  obtain ⟨q, r, rfl⟩ : ∃ (q : Fin 128) (r : Fin 128), y = (ix2 q r : S128x128.Idx) := ⟨⟨_, hy0⟩, ⟨_, hy1⟩, funext fun a => by fin_cases a <;> rfl⟩
  have ht : transpose S128x128 [1, 0] (stack (part x2 x3 j)) transposes_S128x128_p1_0_S128x128 (ix2 q r) = stack (part x2 x3 j) (ix2 r q) := by
    pointwise
  refine ht.trans ((stack_apply _ r q ⟨r.val / 32, by omega⟩ ⟨r.val % 32, by omega⟩ rfl rfl).trans ?_)
  unfold part
  refine (tile_apply j _ _ _ q).trans ?_
  unfold wideT
  refine congrArg₂ (· * Pow2.scale ·) (congrArg (x2 : FVec Ideal S128x4096 .fp8e4m3) ?_) (congrArg (x3 : IVec S128x128 8) ?_)
  · funext a
    match a with
    | ⟨0, _⟩ => exact Fin.ext (show 32 * (r.val / 32) + 1 * (r.val % 32) = 0 + 1 * r.val by omega)
    | ⟨1, _⟩ => exact Fin.ext rfl
  · funext a
    match a with
    | ⟨0, _⟩ => exact Fin.ext (show 32 * (r.val / 32) + 1 * (r.val % 32) = 0 + 1 * r.val by omega)
    | ⟨1, _⟩ => exact Fin.ext (show 0 + 1 * (q.val / 32 + 4 * j.val) = (128 * j.val + 1 * q.val) / 32 by omega)

/-- What a grid point leaves in its block of the second result. -/
theorem out5_eq (x0 : Vec Ideal S128x4096 .fp8e4m3) (x1 : Vec Ideal S1x4x4096 .i8) (x2 : Vec Ideal S128x4096 .fp8e4m3) (x3 : Vec Ideal S128x128 .i8) :
    out0_5 (F := Ideal) x0 x1 x2 x3 = wideT x2 x3 := by
  funext y
  unfold out0_5
  refine View.canon_apply_of_pieces (Val := Elt Ideal) (wideT x2 x3) _ (View.PiecesOf.mem ?_) y (cover0_5 _ _ _ _ _ _ _ _ _ _ _ _ _ _ _ _ _ _ _ _ _ _ _ _ _ _ _ _ _ _ _ _ y)
  refine And.intro (piece 31 x2 x3 rfl inb_S4096x128_S128x128_3968_0 _ ?_) ?_
  · rfl
  refine And.intro (piece 30 x2 x3 rfl inb_S4096x128_S128x128_3840_0 _ ?_) ?_
  · rfl
  refine And.intro (piece 29 x2 x3 rfl inb_S4096x128_S128x128_3712_0 _ ?_) ?_
  · rfl
  refine And.intro (piece 28 x2 x3 rfl inb_S4096x128_S128x128_3584_0 _ ?_) ?_
  · rfl
  refine And.intro (piece 27 x2 x3 rfl inb_S4096x128_S128x128_3456_0 _ ?_) ?_
  · rfl
  refine And.intro (piece 26 x2 x3 rfl inb_S4096x128_S128x128_3328_0 _ ?_) ?_
  · rfl
  refine And.intro (piece 25 x2 x3 rfl inb_S4096x128_S128x128_3200_0 _ ?_) ?_
  · rfl
  refine And.intro (piece 24 x2 x3 rfl inb_S4096x128_S128x128_3072_0 _ ?_) ?_
  · rfl
  refine And.intro (piece 23 x2 x3 rfl inb_S4096x128_S128x128_2944_0 _ ?_) ?_
  · rfl
  refine And.intro (piece 22 x2 x3 rfl inb_S4096x128_S128x128_2816_0 _ ?_) ?_
  · rfl
  refine And.intro (piece 21 x2 x3 rfl inb_S4096x128_S128x128_2688_0 _ ?_) ?_
  · rfl
  refine And.intro (piece 20 x2 x3 rfl inb_S4096x128_S128x128_2560_0 _ ?_) ?_
  · rfl
  refine And.intro (piece 19 x2 x3 rfl inb_S4096x128_S128x128_2432_0 _ ?_) ?_
  · rfl
  refine And.intro (piece 18 x2 x3 rfl inb_S4096x128_S128x128_2304_0 _ ?_) ?_
  · rfl
  refine And.intro (piece 17 x2 x3 rfl inb_S4096x128_S128x128_2176_0 _ ?_) ?_
  · rfl
  refine And.intro (piece 16 x2 x3 rfl inb_S4096x128_S128x128_2048_0 _ ?_) ?_
  · rfl
  refine And.intro (piece 15 x2 x3 rfl inb_S4096x128_S128x128_1920_0 _ ?_) ?_
  · rfl
  refine And.intro (piece 14 x2 x3 rfl inb_S4096x128_S128x128_1792_0 _ ?_) ?_
  · rfl
  refine And.intro (piece 13 x2 x3 rfl inb_S4096x128_S128x128_1664_0 _ ?_) ?_
  · rfl
  refine And.intro (piece 12 x2 x3 rfl inb_S4096x128_S128x128_1536_0 _ ?_) ?_
  · rfl
  refine And.intro (piece 11 x2 x3 rfl inb_S4096x128_S128x128_1408_0 _ ?_) ?_
  · rfl
  refine And.intro (piece 10 x2 x3 rfl inb_S4096x128_S128x128_1280_0 _ ?_) ?_
  · rfl
  refine And.intro (piece 9 x2 x3 rfl inb_S4096x128_S128x128_1152_0 _ ?_) ?_
  · rfl
  refine And.intro (piece 8 x2 x3 rfl inb_S4096x128_S128x128_1024_0 _ ?_) ?_
  · rfl
  refine And.intro (piece 7 x2 x3 rfl inb_S4096x128_S128x128_896_0 _ ?_) ?_
  · rfl
  refine And.intro (piece 6 x2 x3 rfl inb_S4096x128_S128x128_768_0 _ ?_) ?_
  · rfl
  refine And.intro (piece 5 x2 x3 rfl inb_S4096x128_S128x128_640_0 _ ?_) ?_
  · rfl
  refine And.intro (piece 4 x2 x3 rfl inb_S4096x128_S128x128_512_0 _ ?_) ?_
  · rfl
  refine And.intro (piece 3 x2 x3 rfl inb_S4096x128_S128x128_384_0 _ ?_) ?_
  · rfl
  refine And.intro (piece 2 x2 x3 rfl inb_S4096x128_S128x128_256_0 _ ?_) ?_
  · rfl
  refine And.intro (piece 1 x2 x3 rfl inb_S4096x128_S128x128_128_0 _ ?_) ?_
  · rfl
  refine And.intro (piece 0 x2 x3 rfl inb_S4096x128_S128x128_0_0 _ ?_) ?_
  · rfl
  trivial

end Cert.Proof.GuTiles

end
-- ==== Proof.GuRead.lean ====
/-
  The call that widens the gate and up weights, its two results read at an index: the code there by the scale of its group,
  rows and columns exchanged in the second.
-/
module

public import proofs.«01_k».proof.Proof.GuTiles
public import Idealize.ShloMosaic.Lib.Claim
public import Idealize.ShloMosaic.Lib.StableHlo.Run

@[expose] public section

set_option maxRecDepth 16384

noncomputable section

namespace Cert.Proof.GuRead

open Cert.PrepGuIdeal Cert.PrepGuIdeal.Gen Idealize.ShloMosaic Idealize.ShloMosaic.TcCoe Idealize.ShloMosaic.Tactic Idealize.SL.Sem
open Cert.Proof.GuTiles

variable (m : (ℓ : Loc nD τ sig) → Buf (Elt Ideal) ℓ) (c : Dev nD)

abbrev a0 : FVec Ideal S2048x2x8192 .fp8e4m3 := m ((c : Thread nD τ).loc main_arg0)
abbrev a1 : IVec S64x2x8192 8 := m ((c : Thread nD τ).loc main_arg1)
abbrev a2 : FVec Ideal S2048x2x8192 .fp8e4m3 := m ((c : Thread nD τ).loc main_arg2)
abbrev a3 : IVec S2048x2x256 8 := m ((c : Thread nD τ).loc main_arg3)

theorem V0 : (V m c main_v0 : FVec Ideal S2048x16384 .fp8e4m3) = shapeCast S2048x16384 (a0 m c) shapeCasts_S2048x2x8192_S2048x16384 := by
  unfold_abbrev_sides; after_results; rfl
theorem V1 : (V m c main_v1 : IVec S16x4x16384 8) = shapeCast S16x4x16384 (a1 m c) shapeCasts_S64x2x8192_S16x4x16384 := by
  unfold_abbrev_sides; after_results; rfl
theorem V2 : (V m c main_v2 : FVec Ideal S2048x16384 .fp8e4m3) = shapeCast S2048x16384 (a2 m c) shapeCasts_S2048x2x8192_S2048x16384 := by
  unfold_abbrev_sides; after_results; rfl
theorem V3 : (V m c main_v3 : IVec S2048x512 8) = shapeCast S2048x512 (a3 m c) shapeCasts_S2048x2x256_S2048x512 := by
  unfold_abbrev_sides; after_results; rfl

theorem cast_codes {α : Type} (x : S2048x2x8192.Idx → α) (r : Fin 2048) (f : Fin 16384) :
    shapeCast S2048x16384 x shapeCasts_S2048x2x8192_S2048x16384 (ix2 r f) = x (ix3 r ⟨f.val / 8192, by omega⟩ ⟨f.val % 8192, by omega⟩) :=
  shapeCast_apply x shapeCasts_S2048x2x8192_S2048x16384 (ix2 r f) (ix3 r ⟨f.val / 8192, by omega⟩ ⟨f.val % 8192, by omega⟩) (by
    rewrite [Shape.rowMajor_val_three, Shape.rowMajor_val_two]
    show (r.val * 2 + f.val / 8192) * 8192 + f.val % 8192 = r.val * 16384 + f.val
    omega)
theorem cast_groups {α : Type} (x : S64x2x8192.Idx → α) (b : Fin 16) (g : Fin 4) (f : Fin 16384) :
    shapeCast S16x4x16384 x shapeCasts_S64x2x8192_S16x4x16384 (ix3 b g f) = x (ix3 ⟨4 * b.val + g.val, by omega⟩ ⟨f.val / 8192, by omega⟩ ⟨f.val % 8192, by omega⟩) :=
  shapeCast_apply x shapeCasts_S64x2x8192_S16x4x16384 (ix3 b g f) (ix3 ⟨4 * b.val + g.val, by omega⟩ ⟨f.val / 8192, by omega⟩ ⟨f.val % 8192, by omega⟩) (by
    rewrite [Shape.rowMajor_val_three, Shape.rowMajor_val_three]
    show ((4 * b.val + g.val) * 2 + f.val / 8192) * 8192 + f.val % 8192 = (b.val * 4 + g.val) * 16384 + f.val
    omega)
theorem cast_lanes {α : Type} (x : S2048x2x256.Idx → α) (r : Fin 2048) (e : Fin 512) :
    shapeCast S2048x512 x shapeCasts_S2048x2x256_S2048x512 (ix2 r e) = x (ix3 r ⟨e.val / 256, by omega⟩ ⟨e.val % 256, by omega⟩) :=
  shapeCast_apply x shapeCasts_S2048x2x256_S2048x512 (ix2 r e) (ix3 r ⟨e.val / 256, by omega⟩ ⟨e.val % 256, by omega⟩) (by
    rewrite [Shape.rowMajor_val_three, Shape.rowMajor_val_two]
    show (r.val * 2 + e.val / 256) * 256 + e.val % 256 = r.val * 512 + e.val
    omega)

theorem index0 : ∀ t : Fin cfg0.N, win0_0.index t (0 : Fin 2) = t.val / 4 ∧ win0_0.index t (1 : Fin 2) = t.val % 4 := (by decide +kernel : ∀ t : Fin grid0.N, _)
theorem index1 : ∀ t : Fin cfg0.N, win0_1.index t (0 : Fin 3) = t.val / 4 ∧ win0_1.index t (1 : Fin 3) = 0 ∧ win0_1.index t (2 : Fin 3) = t.val % 4 := (by decide +kernel : ∀ t : Fin grid0.N, _)
theorem index2 : ∀ t : Fin cfg0.N, win0_2.index t (0 : Fin 2) = t.val / 4 ∧ win0_2.index t (1 : Fin 2) = t.val % 4 := (by decide +kernel : ∀ t : Fin grid0.N, _)
theorem index3 : ∀ t : Fin cfg0.N, win0_3.index t (0 : Fin 2) = t.val / 4 ∧ win0_3.index t (1 : Fin 2) = t.val % 4 := (by decide +kernel : ∀ t : Fin grid0.N, _)
theorem index4 : ∀ t : Fin cfg0.N, win0_4.index t (0 : Fin 2) = t.val / 4 ∧ win0_4.index t (1 : Fin 2) = t.val % 4 := (by decide +kernel : ∀ t : Fin grid0.N, _)
theorem index5 : ∀ t : Fin cfg0.N, win0_5.index t (0 : Fin 2) = t.val % 4 ∧ win0_5.index t (1 : Fin 2) = t.val / 4 := (by decide +kernel : ∀ t : Fin grid0.N, _)

theorem flush4 : ∀ t : Fin cfg0.N, (cfg0.win 4).flush t = true := (by decide +kernel : ∀ t : Fin grid0.N, _)
theorem flush5 : ∀ t : Fin cfg0.N, (cfg0.win 5).flush t = true := (by decide +kernel : ∀ t : Fin grid0.N, _)

theorem blk0 (t : Fin cfg0.N) (p : Fin 128) (q : Fin 4096) (r : Fin 2048) (f : Fin 16384) (hr : r.val = 128 * (t.val / 4) + p.val) (hf : f.val = 4096 * (t.val % 4) + q.val) :
    (iblk m c 0 t : FVec Ideal S128x4096 .fp8e4m3) (ix2 p q) = (V m c main_v0 : FVec Ideal S2048x16384 .fp8e4m3) (ix2 r f) := by
  show (V m c main_v0 : FVec Ideal S2048x16384 .fp8e4m3) _ = (V m c main_v0 : FVec Ideal S2048x16384 .fp8e4m3) _
  refine congrArg (V m c main_v0 : FVec Ideal S2048x16384 .fp8e4m3) (funext fun a => Fin.ext ?_)
  obtain ⟨h0, h1⟩ := index0 t
  match a with
  | ⟨0, _⟩ => show win0_0.index t (0 : Fin 2) * 128 + 1 * p.val = r.val; rw [h0, hr]; omega
  | ⟨1, _⟩ => show win0_0.index t (1 : Fin 2) * 4096 + 1 * q.val = f.val; rw [h1, hf]; omega

theorem blk1 (t : Fin cfg0.N) (g : Fin 4) (q : Fin 4096) (b : Fin 16) (f : Fin 16384) (hb : b.val = t.val / 4) (hf : f.val = 4096 * (t.val % 4) + q.val) :
    (iblk m c 1 t : IVec S1x4x4096 8) (ix3 0 g q) = (V m c main_v1 : IVec S16x4x16384 8) (ix3 b g f) := by
  show (V m c main_v1 : IVec S16x4x16384 8) _ = (V m c main_v1 : IVec S16x4x16384 8) _
  refine congrArg (V m c main_v1 : IVec S16x4x16384 8) (funext fun a => Fin.ext ?_)
  obtain ⟨h0, h1, h2⟩ := index1 t
  match a with
  | ⟨0, _⟩ => show win0_1.index t (0 : Fin 3) * 1 + 1 * 0 = b.val; rw [h0, hb]; omega
  | ⟨1, _⟩ => show win0_1.index t (1 : Fin 3) * 4 + 1 * g.val = g.val; rw [h1]; omega
  | ⟨2, _⟩ => show win0_1.index t (2 : Fin 3) * 4096 + 1 * q.val = f.val; rw [h2, hf]; omega

theorem blk2 (t : Fin cfg0.N) (p : Fin 128) (q : Fin 4096) (r : Fin 2048) (f : Fin 16384) (hr : r.val = 128 * (t.val / 4) + p.val) (hf : f.val = 4096 * (t.val % 4) + q.val) :
    (iblk m c 2 t : FVec Ideal S128x4096 .fp8e4m3) (ix2 p q) = (V m c main_v2 : FVec Ideal S2048x16384 .fp8e4m3) (ix2 r f) := by
  show (V m c main_v2 : FVec Ideal S2048x16384 .fp8e4m3) _ = (V m c main_v2 : FVec Ideal S2048x16384 .fp8e4m3) _
  refine congrArg (V m c main_v2 : FVec Ideal S2048x16384 .fp8e4m3) (funext fun a => Fin.ext ?_)
  obtain ⟨h0, h1⟩ := index2 t
  match a with
  | ⟨0, _⟩ => show win0_2.index t (0 : Fin 2) * 128 + 1 * p.val = r.val; rw [h0, hr]; omega
  | ⟨1, _⟩ => show win0_2.index t (1 : Fin 2) * 4096 + 1 * q.val = f.val; rw [h1, hf]; omega

theorem blk3 (t : Fin cfg0.N) (p : Fin 128) (q : Fin 128) (r : Fin 2048) (e : Fin 512) (hr : r.val = 128 * (t.val / 4) + p.val) (he : e.val = 128 * (t.val % 4) + q.val) :
    (iblk m c 3 t : IVec S128x128 8) (ix2 p q) = (V m c main_v3 : IVec S2048x512 8) (ix2 r e) := by
  show (V m c main_v3 : IVec S2048x512 8) _ = (V m c main_v3 : IVec S2048x512 8) _
  refine congrArg (V m c main_v3 : IVec S2048x512 8) (funext fun a => Fin.ext ?_)
  obtain ⟨h0, h1⟩ := index3 t
  match a with
  | ⟨0, _⟩ => show win0_3.index t (0 : Fin 2) * 128 + 1 * p.val = r.val; rw [h0, hr]; omega
  | ⟨1, _⟩ => show win0_3.index t (1 : Fin 2) * 128 + 1 * q.val = e.val; rw [h1, he]; omega

/-- The result arrays. -/
abbrev out4 : FVec Ideal S2048x16384 .bf16 := (dats (F := Ideal) m 0 c).arrAt 4 cfg0.N
abbrev out5 : FVec Ideal S16384x2048 .bf16 := (dats (F := Ideal) m 0 c).arrAt 5 cfg0.N

theorem out4_block (t : Fin cfg0.N) (p : Fin 128) (q : Fin 4096) (r : Fin 2048) (f : Fin 16384) (hr : r.val = 128 * (t.val / 4) + p.val) (hf : f.val = 4096 * (t.val % 4) + q.val) :
    (out4 m c (ix2 r f) : EReal) = wide (iblk m c 0 t) (iblk m c 1 t) (ix2 p q) := by
  have hb := (congrFun (Cert.PrepGuIdeal.Value.blocks4 (F := Ideal) m c t (flush4 t)) (ix2 p q : S128x4096.Idx)).trans
    (congrFun (Cert.PrepGuIdeal.Value.flushed4 (F := Ideal) m c t) (ix2 p q : S128x4096.Idx))
  have hw := congrFun (out4_eq (iblk m c 0 t) (iblk m c 1 t) (iblk m c 2 t) (iblk m c 3 t)) (ix2 p q)
  have hl : (out4 m c (ix2 r f) : EReal) = out0_4 (F := Ideal) (iblk m c 0 t) (iblk m c 1 t) (iblk m c 2 t) (iblk m c 3 t) (ix2 p q) := by
    refine Eq.trans ?_ hb
    show out4 m c _ = out4 m c _
    refine congrArg (out4 m c) (funext fun a => Fin.ext ?_)
    obtain ⟨h0, h1⟩ := index4 t
    match a with
    | ⟨0, _⟩ => show r.val = win0_4.index t (0 : Fin 2) * 128 + 1 * p.val; rw [h0, hr]; omega
    | ⟨1, _⟩ => show f.val = win0_4.index t (1 : Fin 2) * 4096 + 1 * q.val; rw [h1, hf]; omega
  exact hl.trans hw

theorem out5_block (t : Fin cfg0.N) (p : Fin 128) (q : Fin 4096) (r : Fin 2048) (f : Fin 16384) (hr : r.val = 128 * (t.val / 4) + p.val) (hf : f.val = 4096 * (t.val % 4) + q.val) :
    (out5 m c (ix2 f r) : EReal) = wideT (iblk m c 2 t) (iblk m c 3 t) (ix2 q p) := by
  have hb := (congrFun (Cert.PrepGuIdeal.Value.blocks5 (F := Ideal) m c t (flush5 t)) (ix2 q p : S4096x128.Idx)).trans
    (congrFun (Cert.PrepGuIdeal.Value.flushed5 (F := Ideal) m c t) (ix2 q p : S4096x128.Idx))
  have hw := congrFun (out5_eq (iblk m c 0 t) (iblk m c 1 t) (iblk m c 2 t) (iblk m c 3 t)) (ix2 q p)
  have hl : (out5 m c (ix2 f r) : EReal) = out0_5 (F := Ideal) (iblk m c 0 t) (iblk m c 1 t) (iblk m c 2 t) (iblk m c 3 t) (ix2 q p) := by
    refine Eq.trans ?_ hb
    show out5 m c _ = out5 m c _
    refine congrArg (out5 m c) (funext fun a => Fin.ext ?_)
    obtain ⟨h0, h1⟩ := index5 t
    match a with
    | ⟨0, _⟩ => show f.val = win0_5.index t (0 : Fin 2) * 4096 + 1 * q.val; rw [h0, hf]; omega
    | ⟨1, _⟩ => show r.val = win0_5.index t (1 : Fin 2) * 128 + 1 * p.val; rw [h1, hr]; omega
  exact hl.trans hw

theorem out4_at (r : Fin 2048) (f : Fin 16384) :
    (out4 m c (ix2 r f) : EReal) = a0 m c (ix3 r ⟨f.val / 8192, by omega⟩ ⟨f.val % 8192, by omega⟩)
      * Pow2.scale (a1 m c (ix3 ⟨r.val / 32, by omega⟩ ⟨f.val / 8192, by omega⟩ ⟨f.val % 8192, by omega⟩)) := by
  have hN : cfg0.N = 64 := N_0
  obtain ⟨t, ht⟩ : ∃ t : Fin cfg0.N, t.val = 4 * (r.val / 128) + f.val / 4096 := ⟨⟨_, by rw [hN]; omega⟩, rfl⟩
  have hr : r.val = 128 * (t.val / 4) + r.val % 128 := by omega
  have hf : f.val = 4096 * (t.val % 4) + f.val % 4096 := by omega
  refine (out4_block m c t ⟨r.val % 128, by omega⟩ ⟨f.val % 4096, by omega⟩ r f hr hf).trans ?_
  have h0 := blk0 m c t ⟨r.val % 128, by omega⟩ ⟨f.val % 4096, by omega⟩ r f hr hf
  rw [V0 m c, cast_codes] at h0
  have h1 := blk1 m c t ⟨r.val % 128 / 32, by omega⟩ ⟨f.val % 4096, by omega⟩ ⟨r.val / 128, by omega⟩ f (by show r.val / 128 = t.val / 4; omega) hf
  rw [V1 m c, cast_groups] at h1
  have e : (⟨4 * (r.val / 128) + r.val % 128 / 32, by omega⟩ : Fin 64) = ⟨r.val / 32, by omega⟩ := Fin.ext (by show 4 * (r.val / 128) + r.val % 128 / 32 = r.val / 32; omega)
  rw [e] at h1
  exact congrArg₂ (fun (a : EReal) (b : BitVec 8) => a * Pow2.scale b) h0 h1

theorem out5_at (f : Fin 16384) (r : Fin 2048) :
    (out5 m c (ix2 f r) : EReal) = a2 m c (ix3 r ⟨f.val / 8192, by omega⟩ ⟨f.val % 8192, by omega⟩)
      * Pow2.scale (a3 m c (ix3 r ⟨f.val / 8192, by omega⟩ ⟨f.val % 8192 / 32, by omega⟩)) := by
  have hN : cfg0.N = 64 := N_0
  obtain ⟨t, ht⟩ : ∃ t : Fin cfg0.N, t.val = 4 * (r.val / 128) + f.val / 4096 := ⟨⟨_, by rw [hN]; omega⟩, rfl⟩
  have hr : r.val = 128 * (t.val / 4) + r.val % 128 := by omega
  have hf : f.val = 4096 * (t.val % 4) + f.val % 4096 := by omega
  refine (out5_block m c t ⟨r.val % 128, by omega⟩ ⟨f.val % 4096, by omega⟩ r f hr hf).trans ?_
  have h0 := blk2 m c t ⟨r.val % 128, by omega⟩ ⟨f.val % 4096, by omega⟩ r f hr hf
  rw [V2 m c, cast_codes] at h0
  have h1 := blk3 m c t ⟨r.val % 128, by omega⟩ ⟨f.val % 4096 / 32, by omega⟩ r ⟨f.val / 32, by omega⟩ hr (by show f.val / 32 = 128 * (t.val % 4) + f.val % 4096 / 32; omega)
  rw [V3 m c, cast_lanes] at h1
  have e0 : (⟨f.val / 32 / 256, by omega⟩ : Fin 2) = ⟨f.val / 8192, by omega⟩ := Fin.ext (by show f.val / 32 / 256 = f.val / 8192; omega)
  have e1 : (⟨f.val / 32 % 256, by omega⟩ : Fin 256) = ⟨f.val % 8192 / 32, by omega⟩ := Fin.ext (by show f.val / 32 % 256 = f.val % 8192 / 32; omega)
  rw [e0, e1] at h1
  exact congrArg₂ (fun (a : EReal) (b : BitVec 8) => a * Pow2.scale b) h0 h1

end Cert.Proof.GuRead

end
-- ==== Proof.GuRef.lean ====
/-
  The reference of the call that widens the gate and up weights, read at an index.
-/
module

public import proofs.«01_k».proof.Proof.Gen.PrepGuRefIdeal.Run
public import proofs.«01_k».proof.Proof.Gen.PrepGuRefIdeal.Read
public import proofs.«01_k».proof.Proof.Pow2
public import Idealize.ShloMosaic.Lib.Pointwise
public import Idealize.ShloMosaic.Lib.Claim

@[expose] public section

set_option maxRecDepth 16384

noncomputable section

namespace Cert.Proof.GuRef

open Cert.PrepGuRefIdeal Cert.PrepGuRefIdeal.Gen Cert.PrepGuRefIdeal.Value Cert.PrepGuRefIdeal.Read Idealize.ShloMosaic Idealize.ShloMosaic.TcCoe Idealize.SL.Sem
open Idealize.ShloMosaic.Pipeline (Dat Cfg Window)

variable (m : (ℓ : Loc nD τ sig) → Buf (Elt Ideal) ℓ) (c : Dev nD)

abbrev a0 : FVec Ideal S2048x2x8192 .fp8e4m3 := m ((c : Thread nD τ).loc main_arg0)
abbrev a1 : IVec S64x2x8192 8 := m ((c : Thread nD τ).loc main_arg1)
abbrev a2 : FVec Ideal S2048x2x8192 .fp8e4m3 := m ((c : Thread nD τ).loc main_arg2)
abbrev a3 : IVec S2048x2x256 8 := m ((c : Thread nD τ).loc main_arg3)

/-- The one grid point. -/
def t₀ : Fin cfg0.N := ⟨0, by decide⟩

theorem hz3 : (![0, 0, 0] : Fin 3 → Nat) = fun _ => 0 := funext fun a => by fin_cases a <;> rfl

/-- What the first step leaves of argument 0. -/
abbrev r0 : FVec Ideal S2048x2x8192 .bf16 := reg_main_v0_0 m c
theorem final0 : ((cfg0.win (4 : Fin 8)).blk t₀).view.read (Elt Ideal) ((dats (F := Ideal) m 0 c).arrAt (4 : Fin 8) cfg0.N) = (dats (F := Ideal) m 0 c).flushed (4 : Fin 8) t₀ := by
  rw [show cfg0.N = (t₀ : Fin cfg0.N).val + 1 from rfl, (dats (F := Ideal) m 0 c).arrAt_succ (4 : Fin 8) t₀]
  rw [show (cfg0.win (4 : Fin 8)).flush t₀ = true from by decide, if_pos rfl]
  exact View.read_write_univ _ _
theorem value0 : reg_main_v0_0 m c = k0_pay1 (F := Ideal) (m ((c : Thread nD τ).loc main_arg0)) := by
  have ho := final0 m c
  have hzo : (fun a => (win0_4.index t₀) a * main_v0_0.ty.shape.size a) = fun _ => 0 := funext fun a => by fin_cases a <;> decide
  have hro := fun f => Memref.read_access_unit_zero (Elt Ideal) main_v0_0 hzo (fun a => by fin_cases a <;> decide) f
  have hzi : (fun a => (win0_0.index t₀) a * main_arg0.ty.shape.size a) = fun _ => 0 := funext fun a => by fin_cases a <;> decide
  have hri := fun f => Memref.read_access_unit_zero (Elt Ideal) main_arg0 hzi (fun a => by fin_cases a <;> decide) f
  rw [hro] at ho
  unfold reg_main_v0_0
  rw [ho]
  show (cfg0.win 4).cut _ ((dats (F := Ideal) m 0 c).after 4 t₀) = _
  rw [after0_4]
  unfold out0_4
  rw [View.canon_unit_zero hz3, View.ld_unit_zero hz3]
  unfold iblk
  rw [hri]
  rfl
theorem r0_at (i : S2048x2x8192.Idx) : (r0 m c i : EReal) = a0 m c i := by
  unfold r0
  rw [value0]; rfl

/-- What the first step leaves of argument 1. -/
abbrev r1 : FVec Ideal S64x2x8192 .bf16 := reg_main_v0_1 m c
theorem final1 : ((cfg0.win (5 : Fin 8)).blk t₀).view.read (Elt Ideal) ((dats (F := Ideal) m 0 c).arrAt (5 : Fin 8) cfg0.N) = (dats (F := Ideal) m 0 c).flushed (5 : Fin 8) t₀ := by
  rw [show cfg0.N = (t₀ : Fin cfg0.N).val + 1 from rfl, (dats (F := Ideal) m 0 c).arrAt_succ (5 : Fin 8) t₀]
  rw [show (cfg0.win (5 : Fin 8)).flush t₀ = true from by decide, if_pos rfl]
  exact View.read_write_univ _ _
theorem value1 : reg_main_v0_1 m c = k0_pay3 (F := Ideal) (m ((c : Thread nD τ).loc main_arg1)) := by
  have ho := final1 m c
  have hzo : (fun a => (win0_5.index t₀) a * main_v0_1.ty.shape.size a) = fun _ => 0 := funext fun a => by fin_cases a <;> decide
  have hro := fun f => Memref.read_access_unit_zero (Elt Ideal) main_v0_1 hzo (fun a => by fin_cases a <;> decide) f
  have hzi : (fun a => (win0_1.index t₀) a * main_arg1.ty.shape.size a) = fun _ => 0 := funext fun a => by fin_cases a <;> decide
  have hri := fun f => Memref.read_access_unit_zero (Elt Ideal) main_arg1 hzi (fun a => by fin_cases a <;> decide) f
  rw [hro] at ho
  unfold reg_main_v0_1
  rw [ho]
  show (cfg0.win 5).cut _ ((dats (F := Ideal) m 0 c).after 5 t₀) = _
  rw [after0_5]
  unfold out0_5
  rw [View.canon_unit_zero hz3, View.ld_unit_zero hz3]
  unfold iblk
  rw [hri]
  rfl
theorem r1_at (i : S64x2x8192.Idx) : (r1 m c i : EReal) = Pow2.power (a1 m c i) := by
  unfold r1
  rw [value1]; rfl

/-- What the first step leaves of argument 2. -/
abbrev r2 : FVec Ideal S2048x2x8192 .bf16 := reg_main_v0_2 m c
theorem final2 : ((cfg0.win (6 : Fin 8)).blk t₀).view.read (Elt Ideal) ((dats (F := Ideal) m 0 c).arrAt (6 : Fin 8) cfg0.N) = (dats (F := Ideal) m 0 c).flushed (6 : Fin 8) t₀ := by
  rw [show cfg0.N = (t₀ : Fin cfg0.N).val + 1 from rfl, (dats (F := Ideal) m 0 c).arrAt_succ (6 : Fin 8) t₀]
  rw [show (cfg0.win (6 : Fin 8)).flush t₀ = true from by decide, if_pos rfl]
  exact View.read_write_univ _ _
theorem value2 : reg_main_v0_2 m c = k0_pay2 (F := Ideal) (m ((c : Thread nD τ).loc main_arg2)) := by
  have ho := final2 m c
  have hzo : (fun a => (win0_6.index t₀) a * main_v0_2.ty.shape.size a) = fun _ => 0 := funext fun a => by fin_cases a <;> decide
  have hro := fun f => Memref.read_access_unit_zero (Elt Ideal) main_v0_2 hzo (fun a => by fin_cases a <;> decide) f
  have hzi : (fun a => (win0_2.index t₀) a * main_arg2.ty.shape.size a) = fun _ => 0 := funext fun a => by fin_cases a <;> decide
  have hri := fun f => Memref.read_access_unit_zero (Elt Ideal) main_arg2 hzi (fun a => by fin_cases a <;> decide) f
  rw [hro] at ho
  unfold reg_main_v0_2
  rw [ho]
  show (cfg0.win 6).cut _ ((dats (F := Ideal) m 0 c).after 6 t₀) = _
  rw [after0_6]
  unfold out0_6
  rw [View.canon_unit_zero hz3, View.ld_unit_zero hz3]
  unfold iblk
  rw [hri]
  rfl
theorem r2_at (i : S2048x2x8192.Idx) : (r2 m c i : EReal) = a2 m c i := by
  unfold r2
  rw [value2]; rfl

/-- What the first step leaves of argument 3. -/
abbrev r3 : FVec Ideal S2048x2x256 .bf16 := reg_main_v0_3 m c
theorem final3 : ((cfg0.win (7 : Fin 8)).blk t₀).view.read (Elt Ideal) ((dats (F := Ideal) m 0 c).arrAt (7 : Fin 8) cfg0.N) = (dats (F := Ideal) m 0 c).flushed (7 : Fin 8) t₀ := by
  rw [show cfg0.N = (t₀ : Fin cfg0.N).val + 1 from rfl, (dats (F := Ideal) m 0 c).arrAt_succ (7 : Fin 8) t₀]
  rw [show (cfg0.win (7 : Fin 8)).flush t₀ = true from by decide, if_pos rfl]
  exact View.read_write_univ _ _
theorem value3 : reg_main_v0_3 m c = k0_pay4 (F := Ideal) (m ((c : Thread nD τ).loc main_arg3)) := by
  have ho := final3 m c
  have hzo : (fun a => (win0_7.index t₀) a * main_v0_3.ty.shape.size a) = fun _ => 0 := funext fun a => by fin_cases a <;> decide
  have hro := fun f => Memref.read_access_unit_zero (Elt Ideal) main_v0_3 hzo (fun a => by fin_cases a <;> decide) f
  have hzi : (fun a => (win0_3.index t₀) a * main_arg3.ty.shape.size a) = fun _ => 0 := funext fun a => by fin_cases a <;> decide
  have hri := fun f => Memref.read_access_unit_zero (Elt Ideal) main_arg3 hzi (fun a => by fin_cases a <;> decide) f
  rw [hro] at ho
  unfold reg_main_v0_3
  rw [ho]
  show (cfg0.win 7).cut _ ((dats (F := Ideal) m 0 c).after 7 t₀) = _
  rw [after0_7]
  unfold out0_7
  rw [View.canon_unit_zero hz3, View.ld_unit_zero hz3]
  unfold iblk
  rw [hri]
  rfl
theorem r3_at (i : S2048x2x256.Idx) : (r3 m c i : EReal) = Pow2.power (a3 m c i) := by
  unfold r3
  rw [value3]; rfl

theorem res0_at (r : Fin 2048) (f : Fin 16384) :
    (val_main_v5 (F := Ideal) (r0 m c) (r1 m c) (ix2 r f) : EReal) = a0 m c (ix3 r ⟨f.val / 8192, by omega⟩ ⟨f.val % 8192, by omega⟩)
      * Pow2.power (a1 m c (ix3 ⟨r.val / 32, by omega⟩ ⟨f.val / 8192, by omega⟩ ⟨f.val % 8192, by omega⟩)) := by
  rw [val_main_v5_apply, val_main_v4_apply, val_main_v1_apply, val_main_v3_apply, val_main_v2_apply]
  have h1 : idx_main_v1 (idx_main_v5 (ix2 r f)) = ix3 r ⟨f.val / 8192, by omega⟩ ⟨f.val % 8192, by omega⟩ := by
    funext a
    match a with
    | ⟨0, _⟩ => exact Fin.ext (by show ((((r.val * 16384 + f.val) / 524288 * 32 + (r.val * 16384 + f.val) / 16384 % 32) * 2 + (r.val * 16384 + f.val) / 8192 % 2) * 8192 + (r.val * 16384 + f.val) % 8192) / 16384 = r.val; omega)
    | ⟨1, _⟩ => exact Fin.ext (by show ((((r.val * 16384 + f.val) / 524288 * 32 + (r.val * 16384 + f.val) / 16384 % 32) * 2 + (r.val * 16384 + f.val) / 8192 % 2) * 8192 + (r.val * 16384 + f.val) % 8192) / 8192 % 2 = f.val / 8192; omega)
    | ⟨2, _⟩ => exact Fin.ext (by show ((((r.val * 16384 + f.val) / 524288 * 32 + (r.val * 16384 + f.val) / 16384 % 32) * 2 + (r.val * 16384 + f.val) / 8192 % 2) * 8192 + (r.val * 16384 + f.val) % 8192) % 8192 = f.val % 8192; omega)
  have h2 : idx_main_v2 (idx_main_v3 (idx_main_v5 (ix2 r f))) = ix3 ⟨r.val / 32, by omega⟩ ⟨f.val / 8192, by omega⟩ ⟨f.val % 8192, by omega⟩ := by
    funext a
    match a with
    | ⟨0, _⟩ => exact Fin.ext (by show (r.val * 16384 + f.val) / 524288 = r.val / 32; omega)
    | ⟨1, _⟩ => exact Fin.ext (by show (r.val * 16384 + f.val) / 8192 % 2 = f.val / 8192; omega)
    | ⟨2, _⟩ => exact Fin.ext (by show (r.val * 16384 + f.val) % 8192 = f.val % 8192; omega)
  rw [h1, h2]
  exact congrArg₂ (fun a b : EReal => a * b) (r0_at m c _) (r1_at m c _)

theorem res1_at (f : Fin 16384) (r : Fin 2048) :
    (val_main_v11 (F := Ideal) (r2 m c) (r3 m c) (ix2 f r) : EReal) = a2 m c (ix3 r ⟨f.val / 8192, by omega⟩ ⟨f.val % 8192, by omega⟩)
      * Pow2.power (a3 m c (ix3 r ⟨f.val / 8192, by omega⟩ ⟨f.val % 8192 / 32, by omega⟩)) := by
  rw [val_main_v11_apply, val_main_v10_apply, val_main_v9_apply, val_main_v6_apply, val_main_v8_apply, val_main_v7_apply]
  have h1 : idx_main_v6 (idx_main_v10 (idx_main_v11 (ix2 f r))) = ix3 r ⟨f.val / 8192, by omega⟩ ⟨f.val % 8192, by omega⟩ := by
    funext a
    match a with
    | ⟨0, _⟩ => exact Fin.ext (by show ((((r.val * 16384 + f.val) / 16384 * 2 + (r.val * 16384 + f.val) / 8192 % 2) * 256 + (r.val * 16384 + f.val) / 32 % 256) * 32 + (r.val * 16384 + f.val) % 32) / 16384 = r.val; omega)
    | ⟨1, _⟩ => exact Fin.ext (by show ((((r.val * 16384 + f.val) / 16384 * 2 + (r.val * 16384 + f.val) / 8192 % 2) * 256 + (r.val * 16384 + f.val) / 32 % 256) * 32 + (r.val * 16384 + f.val) % 32) / 8192 % 2 = f.val / 8192; omega)
    | ⟨2, _⟩ => exact Fin.ext (by show ((((r.val * 16384 + f.val) / 16384 * 2 + (r.val * 16384 + f.val) / 8192 % 2) * 256 + (r.val * 16384 + f.val) / 32 % 256) * 32 + (r.val * 16384 + f.val) % 32) % 8192 = f.val % 8192; omega)
  have h2 : idx_main_v7 (idx_main_v8 (idx_main_v10 (idx_main_v11 (ix2 f r)))) = ix3 r ⟨f.val / 8192, by omega⟩ ⟨f.val % 8192 / 32, by omega⟩ := by
    funext a
    match a with
    | ⟨0, _⟩ => exact Fin.ext (by show (r.val * 16384 + f.val) / 16384 = r.val; omega)
    | ⟨1, _⟩ => exact Fin.ext (by show (r.val * 16384 + f.val) / 8192 % 2 = f.val / 8192; omega)
    | ⟨2, _⟩ => exact Fin.ext (by show (r.val * 16384 + f.val) / 32 % 256 = f.val % 8192 / 32; omega)
  rw [h1, h2]
  exact congrArg₂ (fun a b : EReal => a * b) (r2_at m c _) (r3_at m c _)

/-- The reference's run, its results the named ones. -/
theorem run (ρ : Dev nD → PrngReg) :
    θ_run defs (onTc (τ := τ) (main (F := Ideal))) ⟨m, fun _ => 0, ρ⟩ fun r => ∀ c : Dev nD,
      r.2.mem ((c.tc : Thread nD τ).loc main_v5) = val_main_v5 (F := Ideal) (r0 m c) (r1 m c)
      ∧ r.2.mem ((c.tc : Thread nD τ).loc main_v11) = val_main_v11 (F := Ideal) (r2 m c) (r3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2⟩) (Value.run (F := Ideal) m ρ)

end Cert.Proof.GuRef

end
-- ==== Proof.GuAgree.lean ====
/-
  The call that widens the gate and up weights and its reference leave the same arrays when the exponents are those of normal floats.
-/
module

public import proofs.«01_k».proof.Defs
public import proofs.«01_k».proof.Proof.Gen.Pre_gu_exponents_normal
public import proofs.«01_k».proof.Proof.GuRead
public import proofs.«01_k».proof.Proof.GuRef
public import proofs.«01_k».proof.Proof.Normal

@[expose] public section

set_option maxRecDepth 16384

noncomputable section

namespace Cert.Proof.GuAgree

open Idealize.ShloMosaic Idealize.ShloMosaic.TcCoe Idealize.SL.Sem

variable (m : (ℓ : Loc Cert.PrepGuIdeal.nD Cert.PrepGuIdeal.τ Cert.PrepGuIdeal.sig) → Buf (Elt Ideal) ℓ)
variable (m' : (ℓ : Loc Cert.PrepGuRefIdeal.nD Cert.PrepGuRefIdeal.τ Cert.PrepGuRefIdeal.sig) → Buf (Elt Ideal) ℓ)
variable (c : Dev Cert.PrepGuIdeal.nD)

theorem scale1 (h : Cert.Pre_PrepGuIdeal_gu_exponents_normal m) (i : Cert.PrepGuIdeal.S64x2x8192.Idx) : Pow2.scale (GuRead.a1 m c i) = Pow2.power (GuRead.a1 m c i) := by
  obtain ⟨h1, h2⟩ := Normal.bounds (GuRead.a1 m c i) (congrFun (h c).1 i)
  exact Pow2.scale_eq_power _ h1 h2
theorem scale3 (h : Cert.Pre_PrepGuIdeal_gu_exponents_normal m) (i : Cert.PrepGuIdeal.S2048x2x256.Idx) : Pow2.scale (GuRead.a3 m c i) = Pow2.power (GuRead.a3 m c i) := by
  obtain ⟨h1, h2⟩ := Normal.bounds (GuRead.a3 m c i) (congrFun (h c).2 i)
  exact Pow2.scale_eq_power _ h1 h2

theorem res0 (h : Cert.Pre_PrepGuIdeal_gu_exponents_normal m) (h0 : GuRef.a0 m' c = GuRead.a0 m c) (h1 : GuRef.a1 m' c = GuRead.a1 m c) :
    Cert.PrepGuRefIdeal.Read.val_main_v5 (F := Ideal) (GuRef.r0 m' c) (GuRef.r1 m' c) = GuRead.out4 m c := by
  funext i
  rw [eq_ix2 i]
  refine (GuRef.res0_at m' c _ _).trans (Eq.symm ((GuRead.out4_at m c _ _).trans ?_))
  rw [scale1 m c h, h0, h1]

theorem res1 (h : Cert.Pre_PrepGuIdeal_gu_exponents_normal m) (h2 : GuRef.a2 m' c = GuRead.a2 m c) (h3 : GuRef.a3 m' c = GuRead.a3 m c) :
    Cert.PrepGuRefIdeal.Read.val_main_v11 (F := Ideal) (GuRef.r2 m' c) (GuRef.r3 m' c) = GuRead.out5 m c := by
  funext i
  rw [eq_ix2 i]
  refine (GuRef.res1_at m' c _ _).trans (Eq.symm ((GuRead.out5_at m c _ _).trans ?_))
  rw [scale3 m c h, h2, h3]

end Cert.Proof.GuAgree

end
-- ==== Proof.Nat2.lean ====
/-
  Rank-2 arrays read by natural coordinates, and the sums of a tiled matrix product: a run of tiles along the
  contracted axis adds up to the whole contraction.
-/
module

public import Idealize.ShloMosaic.Lib.Pointwise
public import Idealize.ShloMosaic.Lib.Pipeline.ValueKit.Acc

@[expose] public section

noncomputable section

namespace Cert.Proof.Nat2

open Idealize.ShloMosaic

/-- The element of a rank-2 array at natural coordinates; zero outside the array. -/
def at2 {R C : ℕ} (x : (⟨2, ![R, C]⟩ : Shape).Idx → EReal) (r k : ℕ) : EReal :=
  if h : r < R ∧ k < C then x (ix2 ⟨r, h.1⟩ ⟨k, h.2⟩) else 0

/-- Inside the array `at2` is the array's element. -/
theorem at2_of_lt {R C : ℕ} (x : (⟨2, ![R, C]⟩ : Shape).Idx → EReal) (r : Fin R) (k : Fin C) :
    at2 x r.val k.val = x (ix2 r k) := dif_pos ⟨r.isLt, k.isLt⟩

/-- … at an index whose coordinates are those naturals. -/
theorem at2_eq {R C : ℕ} (x : (⟨2, ![R, C]⟩ : Shape).Idx → EReal) (i : (⟨2, ![R, C]⟩ : Shape).Idx) {r k : ℕ}
    (hr : (i 0).val = r) (hk : (i 1).val = k) : x i = at2 x r k := by
  subst hr; subst hk
  rw [eq_ix2 i]
  exact (at2_of_lt x (i 0) (i 1)).symm

/-- `S` consecutive tiles of `T` positions are the `S * T` positions. -/
theorem sum_tiles (S T : ℕ) (g : ℕ → EReal) :
    ∑ s ∈ Finset.range S, ∑ k : Fin T, g (s * T + k.val) = ∑ k : Fin (S * T), g k.val := by
  rw [Fin.sum_univ_eq_sum_range g (S * T), ← Finset.sum_range_range_mul_add S T g]
  exact Finset.sum_congr rfl fun s _ => Fin.sum_univ_eq_sum_range (fun k => g (s * T + k)) T

end Cert.Proof.Nat2

end
-- ==== Proof.DwGu.lean ====
/-
  One weight gradient product: the result array of the call tiled along the contracted axis is the plain matrix product
  of its two arguments, element by element.
-/
module

public import proofs.«01_k».proof.Proof.Gen.DwGuIdeal.Value
public import proofs.«01_k».proof.Proof.Nat2
public import Idealize.ShloMosaic.Lib.Pointwise

@[expose] public section

set_option maxRecDepth 16384

noncomputable section

namespace Cert.Proof.DwGu

open Cert.DwGuIdeal Cert.DwGuIdeal.Gen Cert.DwGuIdeal.Value Idealize.ShloMosaic Idealize.ShloMosaic.TcCoe Idealize.SL.Sem
open Cert.Proof.Nat2

variable (m : (ℓ : Loc nD τ sig) → Buf (Elt Ideal) ℓ)

/-- The left argument. -/
abbrev lhs (c : Dev nD) : FVec Ideal S2048x49152 .bf16 := m ((c : Thread nD τ).loc main_arg0)
/-- The right argument. -/
abbrev rhs (c : Dev nD) : FVec Ideal S49152x8192 .bf16 := m ((c : Thread nD τ).loc main_arg1)

/-- Which block of each operand a point reads: the left operand's column block and the right operand's row block are the
    point's place in its run, the right operand's column block is the run's number. -/
theorem idx01 : ∀ t : Fin cfg0.N, win0_0.index t = ![0, t.val % 24] ∧ win0_1.index t = ![t.val % 24, t.val / 24] :=
  (by decide +kernel : ∀ t : Fin grid0.N, _)

/-- The left operand's block of point `t`, read at an index. -/
theorem blk0 (c : Dev nD) (t : Fin cfg0.N) (r : Fin 2048) (k : Fin 2048) :
    (iblk m c 0 t : Vec Ideal S2048x2048 .bf16) (ix2 r k)
      = at2 (lhs m c) r.val (t.val % 24 * 2048 + k.val) := by
  obtain ⟨h0, h1⟩ := idx01 t
  refine at2_eq (lhs m c) (((cfg0.win 0).blk t).view.emb (ix2 r k)) ?_ ?_
  · show win0_0.index t 0 * 2048 + 1 * r.val = _
    rw [h0]; show 0 * 2048 + 1 * r.val = _; omega
  · show win0_0.index t 1 * 2048 + 1 * k.val = _
    rw [h0]; show t.val % 24 * 2048 + 1 * k.val = _; omega

/-- The right operand's block of point `t`, read at an index. -/
theorem blk1 (c : Dev nD) (t : Fin cfg0.N) (r : Fin 2048) (k : Fin 1024) :
    (iblk m c 1 t : Vec Ideal S2048x1024 .bf16) (ix2 r k)
      = at2 (rhs m c) (t.val % 24 * 2048 + r.val) (t.val / 24 * 1024 + k.val) := by
  obtain ⟨h0, h1⟩ := idx01 t
  refine at2_eq (rhs m c) (((cfg0.win 1).blk t).view.emb (ix2 r k)) ?_ ?_
  · show win0_1.index t 0 * 2048 + 1 * r.val = _
    rw [h1]; show t.val % 24 * 2048 + 1 * r.val = _; omega
  · show win0_1.index t 1 * 1024 + 1 * k.val = _
    rw [h1]; show t.val / 24 * 1024 + 1 * k.val = _; omega

/-- What point `n` adds to its block of the result. -/
def addend (c : Dev nD) (n : ℕ) (j : S2048x1024.Idx) : EReal :=
  ∑ k : Fin 2048, at2 (lhs m c) (j 0).val (n % 24 * 2048 + k.val)
    * at2 (rhs m c) (n % 24 * 2048 + k.val) (n / 24 * 1024 + (j 1).val)

/-- A point's step adds the product of its two blocks to what the block held. -/
theorem step_apply (c : Dev nD) (n : ℕ) (h : n < cfg0.N) (acc : Vec Ideal S2048x1024 .f32) (j : S2048x1024.Idx) :
    step2 m c n h acc j = acc j + addend m c n j := by
  unfold step2 addend
  unfold_payloads
  pointwise
  congr 1
  refine Finset.sum_congr rfl fun k _ => ?_
  exact congr_arg₂ _ (blk0 m c ⟨n, h⟩ (j 0) k) (blk1 m c ⟨n, h⟩ k (j 1))

/-- The first point of a run does so from zero. -/
theorem reset_apply (c : Dev nD) (n : ℕ) (h : n < cfg0.N) (j : S2048x1024.Idx) :
    reset2 m c n h j = 0 + addend m c n j := by
  refine (step_apply m c n h (k0_pay1 (F := Ideal)) j).trans ?_
  congr 1
  unfold_payloads
  pointwise

/-- The result array, element by element: the whole contraction. -/
theorem result (c : Dev nD) (i : S2048x8192.Idx) :
    (G2 m c : FVec Ideal S2048x8192 .f32) i = ∑ k : Fin 49152, lhs m c (ix2 (i 0) k)
      * rhs m c (ix2 k (i 1)) := by
  have h0 : (i 0).val < 2048 := (i 0).isLt
  have h1 : (i 1).val < 8192 := (i 1).isLt
  have hN : cfg0.N = 192 := N_0
  have hrun : run2Of i = (i 1).val / 1024 := by
    show 8 * ((i 0).val / 2048 - 0) + 1 * ((i 1).val / 1024 - 0) = _; omega
  unfold G2
  rw [dif_pos (by rw [hrun, hN]; omega)]
  rw [Pipeline.accAt_add_apply (reset2 m c) (step2 m c) (fun _ => (0 : EReal)) (addend m c) (24 * run2Of i) 23
    (fun h j => reset_apply m c _ h j) (fun n h acc j _ _ => step_apply m c n h acc j) 23 le_rfl _ (loc2Of i), zero_add]
  refine Eq.trans (b := ∑ k : Fin (24 * 2048), at2 (lhs m c) (i 0).val k.val
    * at2 (rhs m c) k.val (i 1).val) ?_ ?_
  · rw [← sum_tiles 24 2048 fun k => at2 (lhs m c) (i 0).val k
      * at2 (rhs m c) k (i 1).val]
    refine Finset.sum_congr rfl fun s hs => ?_
    have hs' : s < 24 := Finset.mem_range.mp hs
    unfold addend
    rw [hrun]
    have e1 : (24 * ((i 1).val / 1024) + s) % 24 = s := by omega
    have e2 : (24 * ((i 1).val / 1024) + s) / 24 = (i 1).val / 1024 := by omega
    have e3 : (loc2Of i 0).val = (i 0).val := by show (i 0).val % 2048 = _; omega
    have e4 : (i 1).val / 1024 * 1024 + (loc2Of i 1).val = (i 1).val := by
      show (i 1).val / 1024 * 1024 + (i 1).val % 1024 = _; omega
    rw [e1, e2, e3, e4]
  · refine Finset.sum_congr rfl fun k _ => ?_
    exact congr_arg₂ _ (at2_of_lt (lhs m c) (i 0) k) (at2_of_lt (rhs m c) k (i 1))

end Cert.Proof.DwGu

end
-- ==== Proof.DwDown.lean ====
/-
  The second weight gradient product: the call accumulates over the tiles of the contracted axis in a scratch and writes
  the transposed sum; its result array is the transposed matrix product of its arguments, element by element.
-/
module

public import proofs.«01_k».proof.Proof.Gen.DwDownIdeal.Value
public import proofs.«01_k».proof.Proof.Nat2
public import Idealize.ShloMosaic.Lib.Pointwise

@[expose] public section

set_option maxRecDepth 16384

noncomputable section

namespace Cert.Proof.DwDown

open Cert.DwDownIdeal Cert.DwDownIdeal.Gen Cert.DwDownIdeal.Value Idealize.ShloMosaic Idealize.ShloMosaic.TcCoe Idealize.SL.Sem
open Cert.Proof.Nat2

section Pieces

variable {F : FTy → Type} [FloatOps F]

theorem hz : (![0, 0] : Fin 2 → Nat) = fun _ => 0 := funext fun a => by fin_cases a <;> rfl

/-- The first point of a run leaves the point's product, added to zero, in the accumulator. -/
theorem sout_A (c : Dev nD) (i : grid0.Coords) (arg2 : Memref sig .tc .vmem S2048x2048 .bf16) (harg2 : arg2.IsWhole) (arg3 : Memref sig .tc .vmem S2048x1024 .bf16) (harg3 : arg3.IsWhole) (arg4 : Memref sig .tc .vmem S1024x2048 .f32) (harg4 : arg4.IsWhole) (arg5 : Memref sig .tc .vmem S2048x1024 .f32) (harg5 : arg5.IsWhole) (hc0 : cond0_0 i) (hc1 : ¬cond0_1 i)
    (x0 : Vec F S2048x2048 .bf16) (x1 : Vec F S2048x1024 .bf16) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S2048x1024) hz, View.readCov_unit_zero (S := S2048x1024) _ hz]
  simp only [View.readAt_eq_ld, harg2.read_unread, harg3.read_unread, harg4.read_unread, harg5.read_unread, View.ld_unit_zero (S := S2048x1024) hz, View.ld_unit_zero (S := S2048x2048) hz, View.ld_unit_zero (S := S1024x2048) hz, shapeCast_self]

/-- A later point adds its product to the accumulator. -/
theorem sout_B (c : Dev nD) (i : grid0.Coords) (arg2 : Memref sig .tc .vmem S2048x2048 .bf16) (harg2 : arg2.IsWhole) (arg3 : Memref sig .tc .vmem S2048x1024 .bf16) (harg3 : arg3.IsWhole) (arg4 : Memref sig .tc .vmem S1024x2048 .f32) (harg4 : arg4.IsWhole) (arg5 : Memref sig .tc .vmem S2048x1024 .f32) (harg5 : arg5.IsWhole) (hc0 : ¬cond0_0 i) (hc1 : ¬cond0_1 i)
    (x0 : Vec F S2048x2048 .bf16) (x1 : Vec F S2048x1024 .bf16) (xs0 : Vec F S2048x1024 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero hz]
  simp only [View.readAt_eq_ld, harg2.read_unread, harg3.read_unread, harg4.read_unread, harg5.read_unread, View.ld_unit_zero (S := S2048x1024) hz, View.ld_unit_zero (S := S2048x2048) hz, View.ld_unit_zero (S := S1024x2048) hz, shapeCast_self]

/-- So does the last point. -/
theorem sout_C (c : Dev nD) (i : grid0.Coords) (arg2 : Memref sig .tc .vmem S2048x2048 .bf16) (harg2 : arg2.IsWhole) (arg3 : Memref sig .tc .vmem S2048x1024 .bf16) (harg3 : arg3.IsWhole) (arg4 : Memref sig .tc .vmem S1024x2048 .f32) (harg4 : arg4.IsWhole) (arg5 : Memref sig .tc .vmem S2048x1024 .f32) (harg5 : arg5.IsWhole) (hc0 : ¬cond0_0 i) (hc1 : cond0_1 i)
    (x0 : Vec F S2048x2048 .bf16) (x1 : Vec F S2048x1024 .bf16) (xs0 : Vec F S2048x1024 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  try sl_unfold_words
  rw [View.canon_unit_zero hz]
  simp only [View.readAt_eq_ld, harg2.read_unread, harg3.read_unread, harg4.read_unread, harg5.read_unread, View.ld_unit_zero (S := S2048x1024) hz, View.ld_unit_zero (S := S2048x2048) hz, View.ld_unit_zero (S := S1024x2048) hz, shapeCast_self]

/-- The last point leaves the transposed accumulator in the output block. -/
theorem out_C (c : Dev nD) (i : grid0.Coords) (arg2 : Memref sig .tc .vmem S2048x2048 .bf16) (harg2 : arg2.IsWhole) (arg3 : Memref sig .tc .vmem S2048x1024 .bf16) (harg3 : arg3.IsWhole) (arg4 : Memref sig .tc .vmem S1024x2048 .f32) (harg4 : arg4.IsWhole) (arg5 : Memref sig .tc .vmem S2048x1024 .f32) (harg5 : arg5.IsWhole) (hc0 : ¬cond0_0 i) (hc1 : cond0_1 i)
    (x0 : Vec F S2048x2048 .bf16) (x1 : Vec F S2048x1024 .bf16) (xs0 : Vec F S2048x1024 .f32) :
    out0_C_2 c i arg2 harg2 arg3 harg3 arg4 harg4 arg5 harg5 hc0 hc1 x0 x1 xs0 = k0_pay3 (k0_pay2 xs0 x0 x1) := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_words
  rw [View.canon_unit_zero hz, View.readCov_unit_zero (S := S2048x1024) _ hz]
  simp only [View.readAt_eq_ld, harg2.read_unread, harg3.read_unread, harg4.read_unread, harg5.read_unread, View.ld_unit_zero (S := S2048x1024) hz, View.ld_unit_zero (S := S2048x2048) hz, View.ld_unit_zero (S := S1024x2048) hz, shapeCast_self]

end Pieces

variable (m : (ℓ : Loc nD τ sig) → Buf (Elt Ideal) ℓ)

/-- The left argument. -/
abbrev lhs (c : Dev nD) : FVec Ideal S2048x49152 .bf16 := m ((c : Thread nD τ).loc main_arg0)
/-- The right argument. -/
abbrev rhs (c : Dev nD) : FVec Ideal S49152x8192 .bf16 := m ((c : Thread nD τ).loc main_arg1)

/-- Which block of each operand a point reads: the left operand's column block and the right operand's row block are the
    point's place in its run, the right operand's column block is the run's number. -/
theorem idx01 : ∀ t : Fin cfg0.N, win0_0.index t = ![0, t.val % 24] ∧ win0_1.index t = ![t.val % 24, t.val / 24] :=
  (by decide +kernel : ∀ t : Fin grid0.N, _)

/-- The left operand's block of point `t`, read at an index. -/
theorem blk0 (c : Dev nD) (t : Fin cfg0.N) (r : Fin 2048) (k : Fin 2048) :
    (iblk m c 0 t : Vec Ideal S2048x2048 .bf16) (ix2 r k)
      = at2 (lhs m c) r.val (t.val % 24 * 2048 + k.val) := by
  obtain ⟨h0, h1⟩ := idx01 t
  refine at2_eq (lhs m c) (((cfg0.win 0).blk t).view.emb (ix2 r k)) ?_ ?_
  · show win0_0.index t 0 * 2048 + 1 * r.val = _
    rw [h0]; show 0 * 2048 + 1 * r.val = _; omega
  · show win0_0.index t 1 * 2048 + 1 * k.val = _
    rw [h0]; show t.val % 24 * 2048 + 1 * k.val = _; omega

/-- The right operand's block of point `t`, read at an index. -/
theorem blk1 (c : Dev nD) (t : Fin cfg0.N) (r : Fin 2048) (k : Fin 1024) :
    (iblk m c 1 t : Vec Ideal S2048x1024 .bf16) (ix2 r k)
      = at2 (rhs m c) (t.val % 24 * 2048 + r.val) (t.val / 24 * 1024 + k.val) := by
  obtain ⟨h0, h1⟩ := idx01 t
  refine at2_eq (rhs m c) (((cfg0.win 1).blk t).view.emb (ix2 r k)) ?_ ?_
  · show win0_1.index t 0 * 2048 + 1 * r.val = _
    rw [h1]; show t.val % 24 * 2048 + 1 * r.val = _; omega
  · show win0_1.index t 1 * 1024 + 1 * k.val = _
    rw [h1]; show t.val / 24 * 1024 + 1 * k.val = _; omega

/-- What point `n` adds to its block of the result. -/
def addend (c : Dev nD) (n : ℕ) (j : S2048x1024.Idx) : EReal :=
  ∑ k : Fin 2048, at2 (lhs m c) (j 0).val (n % 24 * 2048 + k.val)
    * at2 (rhs m c) (n % 24 * 2048 + k.val) (n / 24 * 1024 + (j 1).val)

/-- A point adds the product of its two blocks to what the accumulator held. -/
theorem pay2_apply (c : Dev nD) (t : Fin cfg0.N) (acc : Vec Ideal S2048x1024 .f32) (j : S2048x1024.Idx) :
    k0_pay2 acc (iblk m c 0 t) (iblk m c 1 t) j = acc j + addend m c t.val j := by
  unfold addend
  unfold_payloads
  pointwise
  congr 1
  refine Finset.sum_congr rfl fun k _ => ?_
  exact congr_arg₂ _ (blk0 m c t (j 0) k) (blk1 m c t k (j 1))

theorem pay1_apply (j : S2048x1024.Idx) : k0_pay1 (F := Ideal) j = 0 := by
  unfold_payloads
  pointwise

/-- The accumulator after a point: the sum of the addends of its run so far. -/
theorem acc_apply (c : Dev nD) (t : Fin cfg0.N) (j : S2048x1024.Idx) :
    (outsAt0 m c t.val t.isLt).2 j = ∑ s ∈ Finset.range (t.val % 24 + 1), addend m c (24 * (t.val / 24) + s) j := by
  rw [soutsAt0_0_eq m c t]
  refine (Pipeline.accAt_add_apply _ (scAt0_0 m c) (fun _ => (0 : EReal)) (addend m c) (24 * (t.val / 24)) 23 ?_ ?_ (t.val % 24)
    (by omega) _ j).trans (zero_add _)
  · intro h j
    have e0 : 24 * (t.val / 24) % 24 = 0 := by omega
    have e1 : ¬ 24 * (t.val / 24) % 24 = 23 := by omega
    unfold scAt0_0
    rw [dif_pos e0, dif_neg e1, sout_A, pay2_apply m c ⟨_, h⟩, pay1_apply]
  · intro n h acc j h1 h2
    have e0 : ¬ n % 24 = 0 := by omega
    unfold scAt0_0
    rw [dif_neg e0]
    by_cases e1 : n % 24 = 23
    · rw [dif_pos e1, sout_C, pay2_apply m c ⟨n, h⟩]
    · rw [dif_neg e1, sout_B, pay2_apply m c ⟨n, h⟩]

/-- At the last point of a run the output block is the transposed accumulator. -/
theorem out_apply (c : Dev nD) (t : Fin cfg0.N) (h : t.val % 24 = 23) (a : Fin 1024) (b : Fin 2048) :
    (outsAt0 m c t.val t.isLt).1 (ix2 a b) = (outsAt0 m c t.val t.isLt).2 (ix2 b a) := by
  rw [outsAt0_C m c t (by omega) h]
  dsimp only
  rw [out_C, sout_C]
  generalize (k0_pay2 (F := Ideal) _ _ _) = x
  unfold_payloads
  pointwise

/-- The result array, element by element: the whole contraction. -/
theorem result (c : Dev nD) (i : S8192x2048.Idx) :
    (G2 m c : FVec Ideal S8192x2048 .f32) i = ∑ k : Fin 49152, lhs m c (ix2 (i 1) k) * rhs m c (ix2 k (i 0)) := by
  have h0 : (i 0).val < 8192 := (i 0).isLt
  have h1 : (i 1).val < 2048 := (i 1).isLt
  have hN : cfg0.N = 192 := N_0
  have hrun : run2Of i = (i 0).val / 1024 := by
    show 1 * ((i 0).val / 1024 - 0) + 1 * ((i 1).val / 2048 - 0) = _; omega
  have hp : pt2Of i = 24 * ((i 0).val / 1024) + 23 := by show 24 * run2Of i + 23 = _; rw [hrun]
  have hlt : pt2Of i < cfg0.N := by rw [hp, hN]; omega
  unfold G2
  rw [dif_pos hlt, ← outsAt0_sweep m c (pt2Of i) hlt]
  have hl : loc2Of i = ix2 (⟨(i 0).val % 1024, Nat.mod_lt _ (by decide)⟩ : Fin 1024) (i 1) := by
    funext a; apply Fin.ext
    match a with
    | ⟨0, _⟩ => rfl
    | ⟨1, _⟩ => show (i 1).val % 2048 = (i 1).val; omega
  rw [hl]
  refine (out_apply m c ⟨pt2Of i, hlt⟩ (by show pt2Of i % 24 = 23; omega) _ _).trans ?_
  refine (acc_apply m c ⟨pt2Of i, hlt⟩ _).trans ?_
  dsimp only
  have hd : pt2Of i / 24 = (i 0).val / 1024 := by omega
  have hm : pt2Of i % 24 + 1 = 24 := by omega
  rw [hd, hm]
  refine Eq.trans (b := ∑ k : Fin (24 * 2048), at2 (lhs m c) (i 1).val k.val * at2 (rhs m c) k.val (i 0).val) ?_ ?_
  · rw [← sum_tiles 24 2048 fun k => at2 (lhs m c) (i 1).val k * at2 (rhs m c) k (i 0).val]
    refine Finset.sum_congr rfl fun s hs => ?_
    have hs' : s < 24 := Finset.mem_range.mp hs
    unfold addend
    have e1 : (24 * ((i 0).val / 1024) + s) % 24 = s := by omega
    have e2 : (24 * ((i 0).val / 1024) + s) / 24 = (i 0).val / 1024 := by omega
    rw [e1, e2]
    have e4 : (i 0).val / 1024 * 1024 + (i 0).val % 1024 = (i 0).val := by omega
    show ∑ k : Fin 2048, at2 (lhs m c) (i 1).val (s * 2048 + k.val)
      * at2 (rhs m c) (s * 2048 + k.val) ((i 0).val / 1024 * 1024 + (i 0).val % 1024) = _
    rw [e4]
  · refine Finset.sum_congr rfl fun k _ => ?_
    exact congr_arg₂ _ (at2_of_lt (lhs m c) (i 1) k) (at2_of_lt (rhs m c) k (i 0))

end Cert.Proof.DwDown

end
-- ==== Proof.lean ====
/- The proof of the claims about the five calls: each kernel's result arrays and each reference's, read at an index, are
   the same functions of the arguments. The frames are the programs' generated ones, or a reference's run weakened. -/
module

public import proofs.«01_k».proof.Defs
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwGu.Frame
public import proofs.«01_k».proof.Proof.Gen.DwGuIdeal.Value
public import proofs.«01_k».proof.Proof.Gen.DwGuRefIdeal.Run
public import proofs.«01_k».proof.Proof.Gen.Act.Frame
public import proofs.«01_k».proof.Proof.Gen.ActIdeal.Value
public import proofs.«01_k».proof.Proof.Gen.ActRefIdeal.Run
public import proofs.«01_k».proof.Proof.Gen.ActRefIdeal.Read
public import proofs.«01_k».proof.Proof.Gen.ActRefIdeal.Frame
public import proofs.«01_k».proof.Proof.Gen.Pre_exponents_normal
public import proofs.«01_k».proof.Proof.Gen.PrepGu.Frame
public import proofs.«01_k».proof.Proof.Gen.PrepGuIdeal.Value
public import proofs.«01_k».proof.Proof.Gen.PrepGuRefIdeal.Run
public import proofs.«01_k».proof.Proof.Gen.PrepGuRefIdeal.Read
public import proofs.«01_k».proof.Proof.Gen.PrepGuRefIdeal.Frame
public import proofs.«01_k».proof.Proof.Gen.PrepD.Frame
public import proofs.«01_k».proof.Proof.Gen.PrepDIdeal.Value
public import proofs.«01_k».proof.Proof.Gen.PrepDRefIdeal.Run
public import proofs.«01_k».proof.Proof.Gen.PrepDRefIdeal.Read
public import proofs.«01_k».proof.Proof.Gen.PrepDRefIdeal.Frame
public import proofs.«01_k».proof.Proof.Gen.Pre_gu_exponents_normal
public import proofs.«01_k».proof.Proof.Gen.Pre_d_exponents_normal
public import proofs.«01_k».proof.Proof.Agree
public import proofs.«01_k».proof.Proof.DownAgree
public import proofs.«01_k».proof.Proof.GuAgree
public import proofs.«01_k».proof.Proof.DwGu
public import proofs.«01_k».proof.Proof.DwDown
public import Idealize.ShloMosaic.Adequacy
public import Idealize.ShloMosaic.Init
public import Idealize.ShloMosaic.Lib.Quiescent
public import Idealize.ShloMosaic.Lib.Pointwise

@[expose] public section

set_option maxRecDepth 16384

noncomputable section

namespace Cert.Proof

open Idealize.ShloMosaic Idealize.SL.Sem

theorem quiescent_DwGuRefIdeal : quiescent_DwGuRefIdeal := fun m ρ _ =>
  (θ_run Cert.DwGuRefIdeal.defs _ _).mono (fun r h => ⟨fun c => (h c).2, sem_eq_zero_of_no_sems (by decide) r.2⟩)
    (Cert.DwGuRefIdeal.Value.run (F := Ideal) m ρ)

theorem quiescent_DwDownRefIdeal : quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

theorem algebraic_DwGuIdeal_DwGuRefIdeal : algebraic_DwGuIdeal_DwGuRefIdeal := by
  intro m ρ m' ρ' _ hagree
  refine ⟨_, Cert.DwGuIdeal.Value.run (F := Ideal) m ρ, ?_⟩
  refine (θ_run Cert.DwGuRefIdeal.defs _ _).mono (fun _ h c => ⟨?_, (h c).2⟩) (Cert.DwGuRefIdeal.Value.run (F := Ideal) m' ρ')
  rw [(h c).1]
  simp only [hagree c]
  funext i
  refine Eq.trans ?_ (Cert.Proof.DwGu.result m c i).symm
  pointwise

theorem algebraic_DwDownIdeal_DwDownRefIdeal : algebraic_DwDownIdeal_DwDownRefIdeal := by
  intro m ρ m' ρ' _ hagree
  refine ⟨_, Cert.DwDownIdeal.Value.run (F := Ideal) m ρ, ?_⟩
  refine (θ_run Cert.DwDownRefIdeal.defs _ _).mono (fun _ h c => ⟨?_, (h c).2⟩) (Cert.DwDownRefIdeal.Value.run (F := Ideal) m' ρ')
  rw [(h c).1]
  simp only [hagree c]
  funext i
  refine Eq.trans ?_ (Cert.Proof.DwDown.result m c i).symm
  pointwise
  exact Finset.sum_congr rfl fun k _ => mul_comm _ _

theorem algebraic_ActIdeal_ActRefIdeal_pre_exponents_normal : algebraic_ActIdeal_ActRefIdeal_pre_exponents_normal := by
  intro m ρ m' ρ' hpre hagree
  refine ⟨_, _, _, _, _, _, Cert.ActIdeal.Value.run (F := Ideal) m ρ, ?_⟩
  refine (θ_run Cert.ActRefIdeal.defs _ _).mono (fun _ h c => ?_) (Cert.Proof.Agree.run m' ρ')
  obtain ⟨a0, a1, a2, a3, a4, a5, a6, a7, a8, a9, a10⟩ := hagree c
  obtain ⟨h48, h33, h43, h45, h49, h50, hrest⟩ := h c
  exact ⟨h48.trans (Cert.Proof.Agree.res48 m m' c hpre a0 a1 a4 a5 a8 a9 a10),
    h33.trans (Cert.Proof.Agree.res33 m m' c hpre a0 a1 a8),
    h43.trans (Cert.Proof.Agree.res43 m m' c hpre a0 a1 a4 a5 a8 a10),
    h45.trans (Cert.Proof.Agree.res45 m m' c hpre a0 a1 a4 a5 a8 a10),
    h49.trans (Cert.Proof.Agree.res49 m m' c hpre a2 a3),
    h50.trans (Cert.Proof.Agree.res50 m m' c hpre a6 a7), hrest⟩

theorem algebraic_PrepGuIdeal_PrepGuRefIdeal_pre_gu_exponents_normal : algebraic_PrepGuIdeal_PrepGuRefIdeal_pre_gu_exponents_normal := by
  intro m ρ m' ρ' hpre hagree
  refine ⟨_, _, Cert.PrepGuIdeal.Value.run_blocks (F := Ideal) m ρ, ?_⟩
  refine (θ_run Cert.PrepGuRefIdeal.defs _ _).mono (fun _ h c => ?_) (Cert.Proof.GuRef.run m' ρ')
  obtain ⟨a0, a1, a2, a3⟩ := hagree c
  exact ⟨(h c).1.trans (Cert.Proof.GuAgree.res0 m m' c hpre a0 a1), (h c).2.1.trans (Cert.Proof.GuAgree.res1 m m' c hpre a2 a3), (h c).2.2⟩

theorem algebraic_PrepDIdeal_PrepDRefIdeal_pre_d_exponents_normal : algebraic_PrepDIdeal_PrepDRefIdeal_pre_d_exponents_normal := by
  intro m ρ m' ρ' hpre hagree
  refine ⟨_, Cert.PrepDIdeal.Value.run_blocks (F := Ideal) m ρ, ?_⟩
  exact (θ_run Cert.PrepDRefIdeal.defs _ _).mono
    (fun _ h c => ⟨(h c).1.trans (Cert.Proof.DownAgree.res m m' c hpre (hagree c).1 (hagree c).2), (h c).2⟩) (Cert.Proof.DownRef.run m' ρ')

theorem claim : Cert.Claim := ⟨Cert.DwGu.Gen.facts, Cert.DwGuIdeal.Gen.facts, Cert.DwGuRefIdeal.Gen.facts, Cert.DwDown.Gen.facts, Cert.DwDownIdeal.Gen.facts, Cert.DwDownRefIdeal.Gen.facts,
  Cert.Act.Gen.facts, Cert.ActIdeal.Gen.facts, Cert.ActRefIdeal.Gen.facts,
  Cert.PrepGu.Gen.facts, Cert.PrepGuIdeal.Gen.facts, Cert.PrepGuRefIdeal.Gen.facts, Cert.PrepD.Gen.facts, Cert.PrepDIdeal.Gen.facts, Cert.PrepDRefIdeal.Gen.facts,
  Cert.Pre_exponents_normal.Gen.facts, Cert.Pre_gu_exponents_normal.Gen.facts, Cert.Pre_d_exponents_normal.Gen.facts,
  fun m ρ _ => Cert.DwGu.Gen.frame m ρ, fun m ρ _ => Cert.DwGuIdeal.Gen.frame m ρ, quiescent_DwGuRefIdeal,
  fun m ρ _ => Cert.DwDown.Gen.frame m ρ, fun m ρ _ => Cert.DwDownIdeal.Gen.frame m ρ, quiescent_DwDownRefIdeal,
  fun m ρ _ => Cert.Act.Gen.frame m ρ, fun m ρ _ => Cert.ActIdeal.Gen.frame m ρ, fun m ρ _ => Cert.ActIdeal.Gen.frame m ρ,
  fun m ρ _ => Cert.ActRefIdeal.Gen.frame m ρ, fun m ρ _ => Cert.ActRefIdeal.Gen.frame m ρ,
  fun m ρ _ => Cert.PrepGu.Gen.frame m ρ, fun m ρ _ => Cert.PrepGuIdeal.Gen.frame m ρ, fun m ρ _ => Cert.PrepGuIdeal.Gen.frame m ρ,
  fun m ρ _ => Cert.PrepGuRefIdeal.Gen.frame m ρ, fun m ρ _ => Cert.PrepGuRefIdeal.Gen.frame m ρ,
  fun m ρ _ => Cert.PrepD.Gen.frame m ρ, fun m ρ _ => Cert.PrepDIdeal.Gen.frame m ρ, fun m ρ _ => Cert.PrepDIdeal.Gen.frame m ρ,
  fun m ρ _ => Cert.PrepDRefIdeal.Gen.frame m ρ, fun m ρ _ => Cert.PrepDRefIdeal.Gen.frame m ρ,
  (trivial : preserves_DwGu_DwGuIdeal), algebraic_DwGuIdeal_DwGuRefIdeal,
  (trivial : preserves_DwDown_DwDownIdeal), algebraic_DwDownIdeal_DwDownRefIdeal,
  (trivial : preserves_Act_ActIdeal), algebraic_ActIdeal_ActRefIdeal_pre_exponents_normal,
  (trivial : preserves_PrepGu_PrepGuIdeal), algebraic_PrepGuIdeal_PrepGuRefIdeal_pre_gu_exponents_normal,
  (trivial : preserves_PrepD_PrepDIdeal), algebraic_PrepDIdeal_PrepDRefIdeal_pre_d_exponents_normal⟩

end Cert.Proof

end
